-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def Pre_QkW (m : (ℓ : Loc Cert.QkW.nD Cert.QkW.τ Cert.QkW.sig) → Buf (Elt Bits) ℓ) : Prop :=
  True

def Pre_QkWIdeal (m : (ℓ : Loc Cert.QkWIdeal.nD Cert.QkWIdeal.τ Cert.QkWIdeal.sig) → Buf (Elt Ideal) ℓ) : Prop :=
  True

def Pre_QkWReferenceIdeal (m : (ℓ : Loc Cert.QkWReferenceIdeal.nD Cert.QkWReferenceIdeal.τ Cert.QkWReferenceIdeal.sig) → Buf (Elt Ideal) ℓ) : Prop :=
  True

def Pre_ValW (m : (ℓ : Loc Cert.ValW.nD Cert.ValW.τ Cert.ValW.sig) → Buf (Elt Bits) ℓ) : Prop :=
  True

def Pre_ValWIdeal (m : (ℓ : Loc Cert.ValWIdeal.nD Cert.ValWIdeal.τ Cert.ValWIdeal.sig) → Buf (Elt Ideal) ℓ) : Prop :=
  True

def Pre_ValWReferenceIdeal (m : (ℓ : Loc Cert.ValWReferenceIdeal.nD Cert.ValWReferenceIdeal.τ Cert.ValWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombReferenceIdeal (m : (ℓ : Loc Cert.CombReferenceIdeal.nD Cert.CombReferenceIdeal.τ Cert.CombReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2)
      ∧ r.2.mem ((c.tc : Thread Cert.Val.nD Cert.Val.τ).loc Cert.Val.main_arg3) = m ((c.tc : Thread Cert.Val.nD Cert.Val.τ).loc Cert.Val.main_arg3))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
      ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1)
      ∧ r.2.mem ((c.tc : Thread Cert.ValReferenceIdeal.nD Cert.ValReferenceIdeal.τ).loc Cert.ValReferenceIdeal.main_arg2) = m ((c.tc : Thread Cert.ValReferenceIdeal.nD Cert.ValReferenceIdeal.τ).loc Cert.ValReferenceIdeal.main_arg2)
      ∧ r.2.mem ((c.tc : Thread Cert.ValReferenceIdeal.nD Cert.ValReferenceIdeal.τ).loc Cert.ValReferenceIdeal.main_arg3) = m ((c.tc : Thread Cert.ValReferenceIdeal.nD Cert.ValReferenceIdeal.τ).loc Cert.ValReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3))
      ∧ r.2.sem = fun _ => 0)

def quiescent_QkW [hQkW : Cert.QkW.Facts] : Prop :=
  ∀ (m : (ℓ : Loc Cert.QkW.nD Cert.QkW.τ Cert.QkW.sig) → Buf (Elt Bits) ℓ) (g : Dev Cert.QkW.nD → PrngReg), Pre_QkW m →
    θ_run (Cert.QkW.defs (F := Bits)) (onTc (τ := Cert.QkW.τ) (Cert.QkW.main (F := Bits))) ⟨m, fun _ => 0, g⟩ (fun r => (∀ c : Dev Cert.QkW.nD,
      r.2.mem ((c.tc : Thread Cert.QkW.nD Cert.QkW.τ).loc Cert.QkW.main_arg0) = m ((c.tc : Thread Cert.QkW.nD Cert.QkW.τ).loc Cert.QkW.main_arg0)
      ∧ r.2.mem ((c.tc : Thread Cert.QkW.nD Cert.QkW.τ).loc Cert.QkW.main_arg1) = m ((c.tc : Thread Cert.QkW.nD Cert.QkW.τ).loc Cert.QkW.main_arg1)
      ∧ r.2.mem ((c.tc : Thread Cert.QkW.nD Cert.QkW.τ).loc Cert.QkW.main_arg2) = m ((c.tc : Thread Cert.QkW.nD Cert.QkW.τ).loc Cert.QkW.main_arg2)
      ∧ r.2.mem ((c.tc : Thread Cert.QkW.nD Cert.QkW.τ).loc Cert.QkW.main_arg3) = m ((c.tc : Thread Cert.QkW.nD Cert.QkW.τ).loc Cert.QkW.main_arg3))
      ∧ r.2.sem = fun _ => 0)

def quiescent_QkWIdeal [hQkWIdeal : Cert.QkWIdeal.Facts] : Prop :=
  ∀ (m : (ℓ : Loc Cert.QkWIdeal.nD Cert.QkWIdeal.τ Cert.QkWIdeal.sig) → Buf (Elt Ideal) ℓ) (g : Dev Cert.QkWIdeal.nD → PrngReg), Pre_QkWIdeal m →
    θ_run (Cert.QkWIdeal.defs (F := Ideal)) (onTc (τ := Cert.QkWIdeal.τ) (Cert.QkWIdeal.main (F := Ideal))) ⟨m, fun _ => 0, g⟩ (fun r => (∀ c : Dev Cert.QkWIdeal.nD,
      r.2.mem ((c.tc : Thread Cert.QkWIdeal.nD Cert.QkWIdeal.τ).loc Cert.QkWIdeal.main_arg0) = m ((c.tc : Thread Cert.QkWIdeal.nD Cert.QkWIdeal.τ).loc Cert.QkWIdeal.main_arg0)
      ∧ r.2.mem ((c.tc : Thread Cert.QkWIdeal.nD Cert.QkWIdeal.τ).loc Cert.QkWIdeal.main_arg1) = m ((c.tc : Thread Cert.QkWIdeal.nD Cert.QkWIdeal.τ).loc Cert.QkWIdeal.main_arg1)
      ∧ r.2.mem ((c.tc : Thread Cert.QkWIdeal.nD Cert.QkWIdeal.τ).loc Cert.QkWIdeal.main_arg2) = m ((c.tc : Thread Cert.QkWIdeal.nD Cert.QkWIdeal.τ).loc Cert.QkWIdeal.main_arg2)
      ∧ r.2.mem ((c.tc : Thread Cert.QkWIdeal.nD Cert.QkWIdeal.τ).loc Cert.QkWIdeal.main_arg3) = m ((c.tc : Thread Cert.QkWIdeal.nD Cert.QkWIdeal.τ).loc Cert.QkWIdeal.main_arg3))
      ∧ r.2.sem = fun _ => 0)

def quiescent_QkWReferenceIdeal [hQkWReferenceIdeal : Cert.QkWReferenceIdeal.Facts] : Prop :=
  ∀ (m : (ℓ : Loc Cert.QkWReferenceIdeal.nD Cert.QkWReferenceIdeal.τ Cert.QkWReferenceIdeal.sig) → Buf (Elt Ideal) ℓ) (g : Dev Cert.QkWReferenceIdeal.nD → PrngReg), Pre_QkWReferenceIdeal m →
    θ_run (Cert.QkWReferenceIdeal.defs (F := Ideal)) (onTc (τ := Cert.QkWReferenceIdeal.τ) (Cert.QkWReferenceIdeal.main (F := Ideal))) ⟨m, fun _ => 0, g⟩ (fun r => (∀ c : Dev Cert.QkWReferenceIdeal.nD,
      r.2.mem ((c.tc : Thread Cert.QkWReferenceIdeal.nD Cert.QkWReferenceIdeal.τ).loc Cert.QkWReferenceIdeal.main_arg0) = m ((c.tc : Thread Cert.QkWReferenceIdeal.nD Cert.QkWReferenceIdeal.τ).loc Cert.QkWReferenceIdeal.main_arg0)
      ∧ r.2.mem ((c.tc : Thread Cert.QkWReferenceIdeal.nD Cert.QkWReferenceIdeal.τ).loc Cert.QkWReferenceIdeal.main_arg1) = m ((c.tc : Thread Cert.QkWReferenceIdeal.nD Cert.QkWReferenceIdeal.τ).loc Cert.QkWReferenceIdeal.main_arg1)
      ∧ r.2.mem ((c.tc : Thread Cert.QkWReferenceIdeal.nD Cert.QkWReferenceIdeal.τ).loc Cert.QkWReferenceIdeal.main_arg2) = m ((c.tc : Thread Cert.QkWReferenceIdeal.nD Cert.QkWReferenceIdeal.τ).loc Cert.QkWReferenceIdeal.main_arg2)
      ∧ r.2.mem ((c.tc : Thread Cert.QkWReferenceIdeal.nD Cert.QkWReferenceIdeal.τ).loc Cert.QkWReferenceIdeal.main_arg3) = m ((c.tc : Thread Cert.QkWReferenceIdeal.nD Cert.QkWReferenceIdeal.τ).loc Cert.QkWReferenceIdeal.main_arg3))
      ∧ r.2.sem = fun _ => 0)

def quiescent_ValW [hValW : Cert.ValW.Facts] : Prop :=
  ∀ (m : (ℓ : Loc Cert.ValW.nD Cert.ValW.τ Cert.ValW.sig) → Buf (Elt Bits) ℓ) (g : Dev Cert.ValW.nD → PrngReg), Pre_ValW m →
    θ_run (Cert.ValW.defs (F := Bits)) (onTc (τ := Cert.ValW.τ) (Cert.ValW.main (F := Bits))) ⟨m, fun _ => 0, g⟩ (fun r => (∀ c : Dev Cert.ValW.nD,
      r.2.mem ((c.tc : Thread Cert.ValW.nD Cert.ValW.τ).loc Cert.ValW.main_arg0) = m ((c.tc : Thread Cert.ValW.nD Cert.ValW.τ).loc Cert.ValW.main_arg0)
      ∧ r.2.mem ((c.tc : Thread Cert.ValW.nD Cert.ValW.τ).loc Cert.ValW.main_arg1) = m ((c.tc : Thread Cert.ValW.nD Cert.ValW.τ).loc Cert.ValW.main_arg1)
      ∧ r.2.mem ((c.tc : Thread Cert.ValW.nD Cert.ValW.τ).loc Cert.ValW.main_arg2) = m ((c.tc : Thread Cert.ValW.nD Cert.ValW.τ).loc Cert.ValW.main_arg2)
      ∧ r.2.mem ((c.tc : Thread Cert.ValW.nD Cert.ValW.τ).loc Cert.ValW.main_arg3) = m ((c.tc : Thread Cert.ValW.nD Cert.ValW.τ).loc Cert.ValW.main_arg3))
      ∧ r.2.sem = fun _ => 0)

def quiescent_ValWIdeal [hValWIdeal : Cert.ValWIdeal.Facts] : Prop :=
  ∀ (m : (ℓ : Loc Cert.ValWIdeal.nD Cert.ValWIdeal.τ Cert.ValWIdeal.sig) → Buf (Elt Ideal) ℓ) (g : Dev Cert.ValWIdeal.nD → PrngReg), Pre_ValWIdeal m →
    θ_run (Cert.ValWIdeal.defs (F := Ideal)) (onTc (τ := Cert.ValWIdeal.τ) (Cert.ValWIdeal.main (F := Ideal))) ⟨m, fun _ => 0, g⟩ (fun r => (∀ c : Dev Cert.ValWIdeal.nD,
      r.2.mem ((c.tc : Thread Cert.ValWIdeal.nD Cert.ValWIdeal.τ).loc Cert.ValWIdeal.main_arg0) = m ((c.tc : Thread Cert.ValWIdeal.nD Cert.ValWIdeal.τ).loc Cert.ValWIdeal.main_arg0)
      ∧ r.2.mem ((c.tc : Thread Cert.ValWIdeal.nD Cert.ValWIdeal.τ).loc Cert.ValWIdeal.main_arg1) = m ((c.tc : Thread Cert.ValWIdeal.nD Cert.ValWIdeal.τ).loc Cert.ValWIdeal.main_arg1)
      ∧ r.2.mem ((c.tc : Thread Cert.ValWIdeal.nD Cert.ValWIdeal.τ).loc Cert.ValWIdeal.main_arg2) = m ((c.tc : Thread Cert.ValWIdeal.nD Cert.ValWIdeal.τ).loc Cert.ValWIdeal.main_arg2)
      ∧ r.2.mem ((c.tc : Thread Cert.ValWIdeal.nD Cert.ValWIdeal.τ).loc Cert.ValWIdeal.main_arg3) = m ((c.tc : Thread Cert.ValWIdeal.nD Cert.ValWIdeal.τ).loc Cert.ValWIdeal.main_arg3))
      ∧ r.2.sem = fun _ => 0)

def quiescent_ValWReferenceIdeal [hValWReferenceIdeal : Cert.ValWReferenceIdeal.Facts] : Prop :=
  ∀ (m : (ℓ : Loc Cert.ValWReferenceIdeal.nD Cert.ValWReferenceIdeal.τ Cert.ValWReferenceIdeal.sig) → Buf (Elt Ideal) ℓ) (g : Dev Cert.ValWReferenceIdeal.nD → PrngReg), Pre_ValWReferenceIdeal m →
    θ_run (Cert.ValWReferenceIdeal.defs (F := Ideal)) (onTc (τ := Cert.ValWReferenceIdeal.τ) (Cert.ValWReferenceIdeal.main (F := Ideal))) ⟨m, fun _ => 0, g⟩ (fun r => (∀ c : Dev Cert.ValWReferenceIdeal.nD,
      r.2.mem ((c.tc : Thread Cert.ValWReferenceIdeal.nD Cert.ValWReferenceIdeal.τ).loc Cert.ValWReferenceIdeal.main_arg0) = m ((c.tc : Thread Cert.ValWReferenceIdeal.nD Cert.ValWReferenceIdeal.τ).loc Cert.ValWReferenceIdeal.main_arg0)
      ∧ r.2.mem ((c.tc : Thread Cert.ValWReferenceIdeal.nD Cert.ValWReferenceIdeal.τ).loc Cert.ValWReferenceIdeal.main_arg1) = m ((c.tc : Thread Cert.ValWReferenceIdeal.nD Cert.ValWReferenceIdeal.τ).loc Cert.ValWReferenceIdeal.main_arg1)
      ∧ r.2.mem ((c.tc : Thread Cert.ValWReferenceIdeal.nD Cert.ValWReferenceIdeal.τ).loc Cert.ValWReferenceIdeal.main_arg2) = m ((c.tc : Thread Cert.ValWReferenceIdeal.nD Cert.ValWReferenceIdeal.τ).loc Cert.ValWReferenceIdeal.main_arg2)
      ∧ r.2.mem ((c.tc : Thread Cert.ValWReferenceIdeal.nD Cert.ValWReferenceIdeal.τ).loc Cert.ValWReferenceIdeal.main_arg3) = m ((c.tc : Thread Cert.ValWReferenceIdeal.nD Cert.ValWReferenceIdeal.τ).loc Cert.ValWReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6))
      ∧ r.2.sem = fun _ => 0)

def quiescent_CombReferenceIdeal [hCombReferenceIdeal : Cert.CombReferenceIdeal.Facts] : Prop :=
  ∀ (m : (ℓ : Loc Cert.CombReferenceIdeal.nD Cert.CombReferenceIdeal.τ Cert.CombReferenceIdeal.sig) → Buf (Elt Ideal) ℓ) (g : Dev Cert.CombReferenceIdeal.nD → PrngReg), Pre_CombReferenceIdeal m →
    θ_run (Cert.CombReferenceIdeal.defs (F := Ideal)) (onTc (τ := Cert.CombReferenceIdeal.τ) (Cert.CombReferenceIdeal.main (F := Ideal))) ⟨m, fun _ => 0, g⟩ (fun r => (∀ c : Dev Cert.CombReferenceIdeal.nD,
      r.2.mem ((c.tc : Thread Cert.CombReferenceIdeal.nD Cert.CombReferenceIdeal.τ).loc Cert.CombReferenceIdeal.main_arg0) = m ((c.tc : Thread Cert.CombReferenceIdeal.nD Cert.CombReferenceIdeal.τ).loc Cert.CombReferenceIdeal.main_arg0)
      ∧ r.2.mem ((c.tc : Thread Cert.CombReferenceIdeal.nD Cert.CombReferenceIdeal.τ).loc Cert.CombReferenceIdeal.main_arg1) = m ((c.tc : Thread Cert.CombReferenceIdeal.nD Cert.CombReferenceIdeal.τ).loc Cert.CombReferenceIdeal.main_arg1)
      ∧ r.2.mem ((c.tc : Thread Cert.CombReferenceIdeal.nD Cert.CombReferenceIdeal.τ).loc Cert.CombReferenceIdeal.main_arg2) = m ((c.tc : Thread Cert.CombReferenceIdeal.nD Cert.CombReferenceIdeal.τ).loc Cert.CombReferenceIdeal.main_arg2)
      ∧ r.2.mem ((c.tc : Thread Cert.CombReferenceIdeal.nD Cert.CombReferenceIdeal.τ).loc Cert.CombReferenceIdeal.main_arg3) = m ((c.tc : Thread Cert.CombReferenceIdeal.nD Cert.CombReferenceIdeal.τ).loc Cert.CombReferenceIdeal.main_arg3)
      ∧ r.2.mem ((c.tc : Thread Cert.CombReferenceIdeal.nD Cert.CombReferenceIdeal.τ).loc Cert.CombReferenceIdeal.main_arg4) = m ((c.tc : Thread Cert.CombReferenceIdeal.nD Cert.CombReferenceIdeal.τ).loc Cert.CombReferenceIdeal.main_arg4)
      ∧ r.2.mem ((c.tc : Thread Cert.CombReferenceIdeal.nD Cert.CombReferenceIdeal.τ).loc Cert.CombReferenceIdeal.main_arg5) = m ((c.tc : Thread Cert.CombReferenceIdeal.nD Cert.CombReferenceIdeal.τ).loc Cert.CombReferenceIdeal.main_arg5)
      ∧ r.2.mem ((c.tc : Thread Cert.CombReferenceIdeal.nD Cert.CombReferenceIdeal.τ).loc Cert.CombReferenceIdeal.main_arg6) = m ((c.tc : Thread Cert.CombReferenceIdeal.nD Cert.CombReferenceIdeal.τ).loc Cert.CombReferenceIdeal.main_arg6))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v27) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)
      ∧ m' ((c.tc : Thread Cert.ValReferenceIdeal.nD Cert.ValReferenceIdeal.τ).loc Cert.ValReferenceIdeal.main_arg2) = m ((c.tc : Thread Cert.ValIdeal.nD Cert.ValIdeal.τ).loc Cert.ValIdeal.main_arg2)
      ∧ m' ((c.tc : Thread Cert.ValReferenceIdeal.nD Cert.ValReferenceIdeal.τ).loc Cert.ValReferenceIdeal.main_arg3) = m ((c.tc : Thread Cert.ValIdeal.nD Cert.ValIdeal.τ).loc Cert.ValIdeal.main_arg3)) →
    ∃ (v0 : (c : Dev Cert.ValIdeal.nD) → Buf (Elt Ideal) ((c.tc : Thread Cert.ValIdeal.nD Cert.ValIdeal.τ).loc Cert.ValIdeal.main_v0)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v0) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
          ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v28) = v0 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1)
          ∧ r.2.mem ((c.tc : Thread Cert.ValReferenceIdeal.nD Cert.ValReferenceIdeal.τ).loc Cert.ValReferenceIdeal.main_arg2) = m' ((c.tc : Thread Cert.ValReferenceIdeal.nD Cert.ValReferenceIdeal.τ).loc Cert.ValReferenceIdeal.main_arg2)
          ∧ r.2.mem ((c.tc : Thread Cert.ValReferenceIdeal.nD Cert.ValReferenceIdeal.τ).loc Cert.ValReferenceIdeal.main_arg3) = m' ((c.tc : Thread Cert.ValReferenceIdeal.nD Cert.ValReferenceIdeal.τ).loc Cert.ValReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v50) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_Qk_QkIdeal : Prop :=
  True

def algebraic_QkIdeal_QkReferenceIdeal [hQkIdeal : Cert.QkIdeal.Facts] [hQkReferenceIdeal : Cert.QkReferenceIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkIdeal m →
    (∀ c : Dev Cert.QkIdeal.nD,
      m' ((c.tc : Thread Cert.QkReferenceIdeal.nD Cert.QkReferenceIdeal.τ).loc Cert.QkReferenceIdeal.main_arg0) = m ((c.tc : Thread Cert.QkIdeal.nD Cert.QkIdeal.τ).loc Cert.QkIdeal.main_arg0)
      ∧ m' ((c.tc : Thread Cert.QkReferenceIdeal.nD Cert.QkReferenceIdeal.τ).loc Cert.QkReferenceIdeal.main_arg1) = m ((c.tc : Thread Cert.QkIdeal.nD Cert.QkIdeal.τ).loc Cert.QkIdeal.main_arg1)
      ∧ m' ((c.tc : Thread Cert.QkReferenceIdeal.nD Cert.QkReferenceIdeal.τ).loc Cert.QkReferenceIdeal.main_arg2) = m ((c.tc : Thread Cert.QkIdeal.nD Cert.QkIdeal.τ).loc Cert.QkIdeal.main_arg2)
      ∧ m' ((c.tc : Thread Cert.QkReferenceIdeal.nD Cert.QkReferenceIdeal.τ).loc Cert.QkReferenceIdeal.main_arg3) = m ((c.tc : Thread Cert.QkIdeal.nD Cert.QkIdeal.τ).loc Cert.QkIdeal.main_arg3)) →
    ∃ (v0 : (c : Dev Cert.QkIdeal.nD) → Buf (Elt Ideal) ((c.tc : Thread Cert.QkIdeal.nD Cert.QkIdeal.τ).loc Cert.QkIdeal.main_v33)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v33) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v75) = v0 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3))

def preserves_QkW_QkWIdeal : Prop :=
  True

def algebraic_QkWIdeal_QkWReferenceIdeal [hQkWIdeal : Cert.QkWIdeal.Facts] [hQkWReferenceIdeal : Cert.QkWReferenceIdeal.Facts] : Prop :=
  ∀ (m : (ℓ : Loc Cert.QkWIdeal.nD Cert.QkWIdeal.τ Cert.QkWIdeal.sig) → Buf (Elt Ideal) ℓ) (g : Dev Cert.QkWIdeal.nD → PrngReg)
    (m' : (ℓ : Loc Cert.QkWReferenceIdeal.nD Cert.QkWReferenceIdeal.τ Cert.QkWReferenceIdeal.sig) → Buf (Elt Ideal) ℓ) (g' : Dev Cert.QkWReferenceIdeal.nD → PrngReg), Pre_QkWIdeal m →
    (∀ c : Dev Cert.QkWIdeal.nD,
      m' ((c.tc : Thread Cert.QkWReferenceIdeal.nD Cert.QkWReferenceIdeal.τ).loc Cert.QkWReferenceIdeal.main_arg0) = m ((c.tc : Thread Cert.QkWIdeal.nD Cert.QkWIdeal.τ).loc Cert.QkWIdeal.main_arg0)
      ∧ m' ((c.tc : Thread Cert.QkWReferenceIdeal.nD Cert.QkWReferenceIdeal.τ).loc Cert.QkWReferenceIdeal.main_arg1) = m ((c.tc : Thread Cert.QkWIdeal.nD Cert.QkWIdeal.τ).loc Cert.QkWIdeal.main_arg1)
      ∧ m' ((c.tc : Thread Cert.QkWReferenceIdeal.nD Cert.QkWReferenceIdeal.τ).loc Cert.QkWReferenceIdeal.main_arg2) = m ((c.tc : Thread Cert.QkWIdeal.nD Cert.QkWIdeal.τ).loc Cert.QkWIdeal.main_arg2)
      ∧ m' ((c.tc : Thread Cert.QkWReferenceIdeal.nD Cert.QkWReferenceIdeal.τ).loc Cert.QkWReferenceIdeal.main_arg3) = m ((c.tc : Thread Cert.QkWIdeal.nD Cert.QkWIdeal.τ).loc Cert.QkWIdeal.main_arg3)) →
    ∃ (v0 : (c : Dev Cert.QkWIdeal.nD) → Buf (Elt Ideal) ((c.tc : Thread Cert.QkWIdeal.nD Cert.QkWIdeal.τ).loc Cert.QkWIdeal.main_v33)),
      θ_run (Cert.QkWIdeal.defs (F := Ideal)) (onTc (τ := Cert.QkWIdeal.τ) (Cert.QkWIdeal.main (F := Ideal))) ⟨m, fun _ => 0, g⟩ (fun r => ∀ c : Dev Cert.QkWIdeal.nD,
          r.2.mem ((c.tc : Thread Cert.QkWIdeal.nD Cert.QkWIdeal.τ).loc Cert.QkWIdeal.main_v33) = v0 c
          ∧ r.2.mem ((c.tc : Thread Cert.QkWIdeal.nD Cert.QkWIdeal.τ).loc Cert.QkWIdeal.main_arg0) = m ((c.tc : Thread Cert.QkWIdeal.nD Cert.QkWIdeal.τ).loc Cert.QkWIdeal.main_arg0)
          ∧ r.2.mem ((c.tc : Thread Cert.QkWIdeal.nD Cert.QkWIdeal.τ).loc Cert.QkWIdeal.main_arg1) = m ((c.tc : Thread Cert.QkWIdeal.nD Cert.QkWIdeal.τ).loc Cert.QkWIdeal.main_arg1)
          ∧ r.2.mem ((c.tc : Thread Cert.QkWIdeal.nD Cert.QkWIdeal.τ).loc Cert.QkWIdeal.main_arg2) = m ((c.tc : Thread Cert.QkWIdeal.nD Cert.QkWIdeal.τ).loc Cert.QkWIdeal.main_arg2)
          ∧ r.2.mem ((c.tc : Thread Cert.QkWIdeal.nD Cert.QkWIdeal.τ).loc Cert.QkWIdeal.main_arg3) = m ((c.tc : Thread Cert.QkWIdeal.nD Cert.QkWIdeal.τ).loc Cert.QkWIdeal.main_arg3))
      ∧ θ_run (Cert.QkWReferenceIdeal.defs (F := Ideal)) (onTc (τ := Cert.QkWReferenceIdeal.τ) (Cert.QkWReferenceIdeal.main (F := Ideal))) ⟨m', fun _ => 0, g'⟩ (fun r => ∀ c : Dev Cert.QkWReferenceIdeal.nD,
          r.2.mem ((c.tc : Thread Cert.QkWReferenceIdeal.nD Cert.QkWReferenceIdeal.τ).loc Cert.QkWReferenceIdeal.main_v75) = v0 c
          ∧ r.2.mem ((c.tc : Thread Cert.QkWReferenceIdeal.nD Cert.QkWReferenceIdeal.τ).loc Cert.QkWReferenceIdeal.main_arg0) = m' ((c.tc : Thread Cert.QkWReferenceIdeal.nD Cert.QkWReferenceIdeal.τ).loc Cert.QkWReferenceIdeal.main_arg0)
          ∧ r.2.mem ((c.tc : Thread Cert.QkWReferenceIdeal.nD Cert.QkWReferenceIdeal.τ).loc Cert.QkWReferenceIdeal.main_arg1) = m' ((c.tc : Thread Cert.QkWReferenceIdeal.nD Cert.QkWReferenceIdeal.τ).loc Cert.QkWReferenceIdeal.main_arg1)
          ∧ r.2.mem ((c.tc : Thread Cert.QkWReferenceIdeal.nD Cert.QkWReferenceIdeal.τ).loc Cert.QkWReferenceIdeal.main_arg2) = m' ((c.tc : Thread Cert.QkWReferenceIdeal.nD Cert.QkWReferenceIdeal.τ).loc Cert.QkWReferenceIdeal.main_arg2)
          ∧ r.2.mem ((c.tc : Thread Cert.QkWReferenceIdeal.nD Cert.QkWReferenceIdeal.τ).loc Cert.QkWReferenceIdeal.main_arg3) = m' ((c.tc : Thread Cert.QkWReferenceIdeal.nD Cert.QkWReferenceIdeal.τ).loc Cert.QkWReferenceIdeal.main_arg3))

def preserves_ValW_ValWIdeal : Prop :=
  True

def algebraic_ValWIdeal_ValWReferenceIdeal [hValWIdeal : Cert.ValWIdeal.Facts] [hValWReferenceIdeal : Cert.ValWReferenceIdeal.Facts] : Prop :=
  ∀ (m : (ℓ : Loc Cert.ValWIdeal.nD Cert.ValWIdeal.τ Cert.ValWIdeal.sig) → Buf (Elt Ideal) ℓ) (g : Dev Cert.ValWIdeal.nD → PrngReg)
    (m' : (ℓ : Loc Cert.ValWReferenceIdeal.nD Cert.ValWReferenceIdeal.τ Cert.ValWReferenceIdeal.sig) → Buf (Elt Ideal) ℓ) (g' : Dev Cert.ValWReferenceIdeal.nD → PrngReg), Pre_ValWIdeal m →
    (∀ c : Dev Cert.ValWIdeal.nD,
      m' ((c.tc : Thread Cert.ValWReferenceIdeal.nD Cert.ValWReferenceIdeal.τ).loc Cert.ValWReferenceIdeal.main_arg0) = m ((c.tc : Thread Cert.ValWIdeal.nD Cert.ValWIdeal.τ).loc Cert.ValWIdeal.main_arg0)
      ∧ m' ((c.tc : Thread Cert.ValWReferenceIdeal.nD Cert.ValWReferenceIdeal.τ).loc Cert.ValWReferenceIdeal.main_arg1) = m ((c.tc : Thread Cert.ValWIdeal.nD Cert.ValWIdeal.τ).loc Cert.ValWIdeal.main_arg1)
      ∧ m' ((c.tc : Thread Cert.ValWReferenceIdeal.nD Cert.ValWReferenceIdeal.τ).loc Cert.ValWReferenceIdeal.main_arg2) = m ((c.tc : Thread Cert.ValWIdeal.nD Cert.ValWIdeal.τ).loc Cert.ValWIdeal.main_arg2)
      ∧ m' ((c.tc : Thread Cert.ValWReferenceIdeal.nD Cert.ValWReferenceIdeal.τ).loc Cert.ValWReferenceIdeal.main_arg3) = m ((c.tc : Thread Cert.ValWIdeal.nD Cert.ValWIdeal.τ).loc Cert.ValWIdeal.main_arg3)) →
    ∃ (v0 : (c : Dev Cert.ValWIdeal.nD) → Buf (Elt Ideal) ((c.tc : Thread Cert.ValWIdeal.nD Cert.ValWIdeal.τ).loc Cert.ValWIdeal.main_v0)),
      θ_run (Cert.ValWIdeal.defs (F := Ideal)) (onTc (τ := Cert.ValWIdeal.τ) (Cert.ValWIdeal.main (F := Ideal))) ⟨m, fun _ => 0, g⟩ (fun r => ∀ c : Dev Cert.ValWIdeal.nD,
          r.2.mem ((c.tc : Thread Cert.ValWIdeal.nD Cert.ValWIdeal.τ).loc Cert.ValWIdeal.main_v0) = v0 c
          ∧ r.2.mem ((c.tc : Thread Cert.ValWIdeal.nD Cert.ValWIdeal.τ).loc Cert.ValWIdeal.main_arg0) = m ((c.tc : Thread Cert.ValWIdeal.nD Cert.ValWIdeal.τ).loc Cert.ValWIdeal.main_arg0)
          ∧ r.2.mem ((c.tc : Thread Cert.ValWIdeal.nD Cert.ValWIdeal.τ).loc Cert.ValWIdeal.main_arg1) = m ((c.tc : Thread Cert.ValWIdeal.nD Cert.ValWIdeal.τ).loc Cert.ValWIdeal.main_arg1)
          ∧ r.2.mem ((c.tc : Thread Cert.ValWIdeal.nD Cert.ValWIdeal.τ).loc Cert.ValWIdeal.main_arg2) = m ((c.tc : Thread Cert.ValWIdeal.nD Cert.ValWIdeal.τ).loc Cert.ValWIdeal.main_arg2)
          ∧ r.2.mem ((c.tc : Thread Cert.ValWIdeal.nD Cert.ValWIdeal.τ).loc Cert.ValWIdeal.main_arg3) = m ((c.tc : Thread Cert.ValWIdeal.nD Cert.ValWIdeal.τ).loc Cert.ValWIdeal.main_arg3))
      ∧ θ_run (Cert.ValWReferenceIdeal.defs (F := Ideal)) (onTc (τ := Cert.ValWReferenceIdeal.τ) (Cert.ValWReferenceIdeal.main (F := Ideal))) ⟨m', fun _ => 0, g'⟩ (fun r => ∀ c : Dev Cert.ValWReferenceIdeal.nD,
          r.2.mem ((c.tc : Thread Cert.ValWReferenceIdeal.nD Cert.ValWReferenceIdeal.τ).loc Cert.ValWReferenceIdeal.main_v28) = v0 c
          ∧ r.2.mem ((c.tc : Thread Cert.ValWReferenceIdeal.nD Cert.ValWReferenceIdeal.τ).loc Cert.ValWReferenceIdeal.main_arg0) = m' ((c.tc : Thread Cert.ValWReferenceIdeal.nD Cert.ValWReferenceIdeal.τ).loc Cert.ValWReferenceIdeal.main_arg0)
          ∧ r.2.mem ((c.tc : Thread Cert.ValWReferenceIdeal.nD Cert.ValWReferenceIdeal.τ).loc Cert.ValWReferenceIdeal.main_arg1) = m' ((c.tc : Thread Cert.ValWReferenceIdeal.nD Cert.ValWReferenceIdeal.τ).loc Cert.ValWReferenceIdeal.main_arg1)
          ∧ r.2.mem ((c.tc : Thread Cert.ValWReferenceIdeal.nD Cert.ValWReferenceIdeal.τ).loc Cert.ValWReferenceIdeal.main_arg2) = m' ((c.tc : Thread Cert.ValWReferenceIdeal.nD Cert.ValWReferenceIdeal.τ).loc Cert.ValWReferenceIdeal.main_arg2)
          ∧ r.2.mem ((c.tc : Thread Cert.ValWReferenceIdeal.nD Cert.ValWReferenceIdeal.τ).loc Cert.ValWReferenceIdeal.main_arg3) = m' ((c.tc : Thread Cert.ValWReferenceIdeal.nD Cert.ValWReferenceIdeal.τ).loc Cert.ValWReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)
      ∧ m' ((c.tc : Thread Cert.OutReferenceIdeal.nD Cert.OutReferenceIdeal.τ).loc Cert.OutReferenceIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v92) = v0 c
          ∧ r.2.mem ((c.tc : Thread Cert.OutReferenceIdeal.nD Cert.OutReferenceIdeal.τ).loc Cert.OutReferenceIdeal.main_v95) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v4) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_Comb_CombIdeal : Prop :=
  True

def algebraic_CombIdeal_CombReferenceIdeal [hCombIdeal : Cert.CombIdeal.Facts] [hCombReferenceIdeal : Cert.CombReferenceIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombReferenceIdeal.nD Cert.CombReferenceIdeal.τ Cert.CombReferenceIdeal.sig) → Buf (Elt Ideal) ℓ) (g' : Dev Cert.CombReferenceIdeal.nD → PrngReg), Pre_CombIdeal m →
    (∀ c : Dev Cert.CombIdeal.nD,
      m' ((c.tc : Thread Cert.CombReferenceIdeal.nD Cert.CombReferenceIdeal.τ).loc Cert.CombReferenceIdeal.main_arg0) = m ((c.tc : Thread Cert.CombIdeal.nD Cert.CombIdeal.τ).loc Cert.CombIdeal.main_arg0)
      ∧ m' ((c.tc : Thread Cert.CombReferenceIdeal.nD Cert.CombReferenceIdeal.τ).loc Cert.CombReferenceIdeal.main_arg1) = m ((c.tc : Thread Cert.CombIdeal.nD Cert.CombIdeal.τ).loc Cert.CombIdeal.main_arg1)
      ∧ m' ((c.tc : Thread Cert.CombReferenceIdeal.nD Cert.CombReferenceIdeal.τ).loc Cert.CombReferenceIdeal.main_arg2) = m ((c.tc : Thread Cert.CombIdeal.nD Cert.CombIdeal.τ).loc Cert.CombIdeal.main_arg2)
      ∧ m' ((c.tc : Thread Cert.CombReferenceIdeal.nD Cert.CombReferenceIdeal.τ).loc Cert.CombReferenceIdeal.main_arg3) = m ((c.tc : Thread Cert.CombIdeal.nD Cert.CombIdeal.τ).loc Cert.CombIdeal.main_arg3)
      ∧ m' ((c.tc : Thread Cert.CombReferenceIdeal.nD Cert.CombReferenceIdeal.τ).loc Cert.CombReferenceIdeal.main_arg4) = m ((c.tc : Thread Cert.CombIdeal.nD Cert.CombIdeal.τ).loc Cert.CombIdeal.main_arg4)
      ∧ m' ((c.tc : Thread Cert.CombReferenceIdeal.nD Cert.CombReferenceIdeal.τ).loc Cert.CombReferenceIdeal.main_arg5) = m ((c.tc : Thread Cert.CombIdeal.nD Cert.CombIdeal.τ).loc Cert.CombIdeal.main_arg5)
      ∧ m' ((c.tc : Thread Cert.CombReferenceIdeal.nD Cert.CombReferenceIdeal.τ).loc Cert.CombReferenceIdeal.main_arg6) = m ((c.tc : Thread Cert.CombIdeal.nD Cert.CombIdeal.τ).loc Cert.CombIdeal.main_arg6)) →
    ∃ (v0 : (c : Dev Cert.CombIdeal.nD) → Buf (Elt Ideal) ((c.tc : Thread Cert.CombIdeal.nD Cert.CombIdeal.τ).loc Cert.CombIdeal.main_v2)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v2) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6))
      ∧ θ_run (Cert.CombReferenceIdeal.defs (F := Ideal)) (onTc (τ := Cert.CombReferenceIdeal.τ) (Cert.CombReferenceIdeal.main (F := Ideal))) ⟨m', fun _ => 0, g'⟩ (fun r => ∀ c : Dev Cert.CombReferenceIdeal.nD,
          r.2.mem ((c.tc : Thread Cert.CombReferenceIdeal.nD Cert.CombReferenceIdeal.τ).loc Cert.CombReferenceIdeal.main_v79) = v0 c
          ∧ r.2.mem ((c.tc : Thread Cert.CombReferenceIdeal.nD Cert.CombReferenceIdeal.τ).loc Cert.CombReferenceIdeal.main_arg0) = m' ((c.tc : Thread Cert.CombReferenceIdeal.nD Cert.CombReferenceIdeal.τ).loc Cert.CombReferenceIdeal.main_arg0)
          ∧ r.2.mem ((c.tc : Thread Cert.CombReferenceIdeal.nD Cert.CombReferenceIdeal.τ).loc Cert.CombReferenceIdeal.main_arg1) = m' ((c.tc : Thread Cert.CombReferenceIdeal.nD Cert.CombReferenceIdeal.τ).loc Cert.CombReferenceIdeal.main_arg1)
          ∧ r.2.mem ((c.tc : Thread Cert.CombReferenceIdeal.nD Cert.CombReferenceIdeal.τ).loc Cert.CombReferenceIdeal.main_arg2) = m' ((c.tc : Thread Cert.CombReferenceIdeal.nD Cert.CombReferenceIdeal.τ).loc Cert.CombReferenceIdeal.main_arg2)
          ∧ r.2.mem ((c.tc : Thread Cert.CombReferenceIdeal.nD Cert.CombReferenceIdeal.τ).loc Cert.CombReferenceIdeal.main_arg3) = m' ((c.tc : Thread Cert.CombReferenceIdeal.nD Cert.CombReferenceIdeal.τ).loc Cert.CombReferenceIdeal.main_arg3)
          ∧ r.2.mem ((c.tc : Thread Cert.CombReferenceIdeal.nD Cert.CombReferenceIdeal.τ).loc Cert.CombReferenceIdeal.main_arg4) = m' ((c.tc : Thread Cert.CombReferenceIdeal.nD Cert.CombReferenceIdeal.τ).loc Cert.CombReferenceIdeal.main_arg4)
          ∧ r.2.mem ((c.tc : Thread Cert.CombReferenceIdeal.nD Cert.CombReferenceIdeal.τ).loc Cert.CombReferenceIdeal.main_arg5) = m' ((c.tc : Thread Cert.CombReferenceIdeal.nD Cert.CombReferenceIdeal.τ).loc Cert.CombReferenceIdeal.main_arg5)
          ∧ r.2.mem ((c.tc : Thread Cert.CombReferenceIdeal.nD Cert.CombReferenceIdeal.τ).loc Cert.CombReferenceIdeal.main_arg6) = m' ((c.tc : Thread Cert.CombReferenceIdeal.nD Cert.CombReferenceIdeal.τ).loc Cert.CombReferenceIdeal.main_arg6))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hVal : Cert.Val.Facts) (hValIdeal : Cert.ValIdeal.Facts) (hValReferenceIdeal : Cert.ValReferenceIdeal.Facts) (hGlu : Cert.Glu.Facts) (hGluIdeal : Cert.GluIdeal.Facts) (hGluReferenceIdeal : Cert.GluReferenceIdeal.Facts) (hQk : Cert.Qk.Facts) (hQkIdeal : Cert.QkIdeal.Facts) (hQkReferenceIdeal : Cert.QkReferenceIdeal.Facts) (hQkW : Cert.QkW.Facts) (hQkWIdeal : Cert.QkWIdeal.Facts) (hQkWReferenceIdeal : Cert.QkWReferenceIdeal.Facts) (hValW : Cert.ValW.Facts) (hValWIdeal : Cert.ValWIdeal.Facts) (hValWReferenceIdeal : Cert.ValWReferenceIdeal.Facts) (hOut : Cert.Out.Facts) (hOutIdeal : Cert.OutIdeal.Facts) (hOutReferenceIdeal : Cert.OutReferenceIdeal.Facts) (hMod : Cert.Mod.Facts) (hModIdeal : Cert.ModIdeal.Facts) (hModReferenceIdeal : Cert.ModReferenceIdeal.Facts) (hComb : Cert.Comb.Facts) (hCombIdeal : Cert.CombIdeal.Facts) (hCombReferenceIdeal : Cert.CombReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Val (hVal := hVal)
    ∧ quiescent_ValIdeal (hValIdeal := hValIdeal)
    ∧ quiescent_ValReferenceIdeal (hValReferenceIdeal := hValReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Qk (hQk := hQk)
    ∧ quiescent_QkIdeal (hQkIdeal := hQkIdeal)
    ∧ quiescent_QkReferenceIdeal (hQkReferenceIdeal := hQkReferenceIdeal)
    ∧ quiescent_QkW (hQkW := hQkW)
    ∧ quiescent_QkWIdeal (hQkWIdeal := hQkWIdeal)
    ∧ quiescent_QkWReferenceIdeal (hQkWReferenceIdeal := hQkWReferenceIdeal)
    ∧ quiescent_ValW (hValW := hValW)
    ∧ quiescent_ValWIdeal (hValWIdeal := hValWIdeal)
    ∧ quiescent_ValWReferenceIdeal (hValWReferenceIdeal := hValWReferenceIdeal)
    ∧ quiescent_Out (hOut := hOut)
    ∧ quiescent_OutIdeal (hOutIdeal := hOutIdeal)
    ∧ quiescent_OutReferenceIdeal (hOutReferenceIdeal := hOutReferenceIdeal)
    ∧ quiescent_Mod (hMod := hMod)
    ∧ quiescent_ModIdeal (hModIdeal := hModIdeal)
    ∧ quiescent_ModReferenceIdeal (hModReferenceIdeal := hModReferenceIdeal)
    ∧ quiescent_Comb (hComb := hComb)
    ∧ quiescent_CombIdeal (hCombIdeal := hCombIdeal)
    ∧ quiescent_CombReferenceIdeal (hCombReferenceIdeal := hCombReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Qkv_QkvIdeal
    ∧ algebraic_QkvIdeal_QkvReferenceIdeal (hQkvIdeal := hQkvIdeal) (hQkvReferenceIdeal := hQkvReferenceIdeal)
    ∧ preserves_Val_ValIdeal
    ∧ algebraic_ValIdeal_ValReferenceIdeal (hValIdeal := hValIdeal) (hValReferenceIdeal := hValReferenceIdeal)
    ∧ preserves_Glu_GluIdeal
    ∧ algebraic_GluIdeal_GluReferenceIdeal (hGluIdeal := hGluIdeal) (hGluReferenceIdeal := hGluReferenceIdeal)
    ∧ preserves_Qk_QkIdeal
    ∧ algebraic_QkIdeal_QkReferenceIdeal (hQkIdeal := hQkIdeal) (hQkReferenceIdeal := hQkReferenceIdeal)
    ∧ preserves_QkW_QkWIdeal
    ∧ algebraic_QkWIdeal_QkWReferenceIdeal (hQkWIdeal := hQkWIdeal) (hQkWReferenceIdeal := hQkWReferenceIdeal)
    ∧ preserves_ValW_ValWIdeal
    ∧ algebraic_ValWIdeal_ValWReferenceIdeal (hValWIdeal := hValWIdeal) (hValWReferenceIdeal := hValWReferenceIdeal)
    ∧ preserves_Out_OutIdeal
    ∧ algebraic_OutIdeal_OutReferenceIdeal (hOutIdeal := hOutIdeal) (hOutReferenceIdeal := hOutReferenceIdeal)
    ∧ preserves_Mod_ModIdeal
    ∧ algebraic_ModIdeal_ModReferenceIdeal (hModIdeal := hModIdeal) (hModReferenceIdeal := hModReferenceIdeal)
    ∧ preserves_Comb_CombIdeal
    ∧ algebraic_CombIdeal_CombReferenceIdeal (hCombIdeal := hCombIdeal) (hCombReferenceIdeal := hCombReferenceIdeal)
-- ==== Pre_finite_queries_and_keys.lean ====
abbrev S18432x4096 : Shape := ⟨2, ![18432, 4096]⟩
abbrev S18432x2048 : Shape := ⟨2, ![18432, 2048]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S18432x4096 : S_.BroadcastsInDim S18432x4096 (![] : Fin 0 → Fin S18432x4096.rank)

variable [Facts]

def fn {F : FTy → Type} [FloatOps F] (main_arg0 : FVec F S18432x4096 .bf16) (main_arg1 : FVec F S18432x2048 .bf16) (main_arg2 : FVec F S4x128 .f32) (main_arg3 : FVec F S256 .f32) : IVec S18432x4096 1 :=
  let main_v0 : FVec F S18432x4096 .f32 := (extf .f32 · bitsLt_bf16_f32) main_arg0
  let main_v1 : FVec F S18432x4096 .f32 := Host.absf main_v0
  let main_cst : FVec F S_ .f32 := constant S_ .f32 0x7F800000#32
  let main_v2 : FVec F S18432x4096 .f32 := broadcastInDim S18432x4096 ![] bcast_S_S18432x4096 main_cst
  let main_v3 : IVec S18432x4096 1 := cmpf .olt main_v1 main_v2
  main_v3
-- ==== Kernel.lean ====
abbrev S18432x4096 : Shape := ⟨2, ![18432, 4096]⟩
abbrev S18432x2048 : Shape := ⟨2, ![18432, 2048]⟩
abbrev S4x128 : Shape := ⟨2, ![4, 128]⟩
abbrev S256 : Shape := ⟨1, ![256]⟩
abbrev S1x256 : Shape := ⟨2, ![1, 256]⟩
abbrev S2304x256 : Shape := ⟨2, ![2304, 256]⟩
abbrev S1x128 : Shape := ⟨2, ![1, 128]⟩
abbrev S1 : Shape := ⟨1, ![1]⟩
abbrev S1x1 : Shape := ⟨2, ![1, 1]⟩
abbrev S256x256 : Shape := ⟨2, ![256, 256]⟩
abbrev S256x128 : Shape := ⟨2, ![256, 128]⟩
abbrev S2304x128 : Shape := ⟨2, ![2304, 128]⟩
abbrev S256x2304 : Shape := ⟨2, ![256, 2304]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S18432x4096, .bf16⟩
  | .hbm, ⟨1, _⟩ => ⟨S18432x2048, .bf16⟩
  | .hbm, ⟨2, _⟩ => ⟨S4x128, .f32⟩
  | .hbm, ⟨3, _⟩ => ⟨S256, .f32⟩
  | .hbm, ⟨4, _⟩ => ⟨S1x256, .f32⟩
  | .hbm, ⟨5, _⟩ => ⟨S18432x2048, .bf16⟩
  | .local _ .vmem, ⟨0, _⟩ => ⟨S4x128, .f32⟩
  | .local _ .vmem, ⟨1, _⟩ => ⟨S1x256, .f32⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S2304x256, .bf16⟩
  | .local _ .vmem, ⟨7, _⟩ => ⟨S2304x256, .bf16⟩
  | .local _ .vmem, ⟨8, _⟩ => ⟨S2304x256, .bf16⟩
  | .local _ .vmem, ⟨9, _⟩ => ⟨S2304x256, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c2_i32 : BitVec 32 := 2#32
  let v20 : BitVec 32 := Scalar.addi c0_i32 c2_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32 : BitVec 32 := 4#32
  let v72 : BitVec 32 := Scalar.muli arg8 c4_i32
  let c0_i32_28 : BitVec 32 := 0#32
  let v73 : BitVec 32 := Scalar.addi v72 c0_i32_28
  let c256_i32 : BitVec 32 := 256#32
  let v74 : BitVec 32 := Scalar.muli v73 c256_i32
  v74
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_29 : BitVec 32 := 4#32
  let v76 : BitVec 32 := Scalar.muli arg8 c4_i32_29
  let c1_i32_30 : BitVec 32 := 1#32
  let v77 : BitVec 32 := Scalar.addi v76 c1_i32_30
  let c256_i32_31 : BitVec 32 := 256#32
  let v78 : BitVec 32 := Scalar.muli v77 c256_i32_31
  v78
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_32 : BitVec 32 := 4#32
  let v80 : BitVec 32 := Scalar.muli arg8 c4_i32_32
  let c2_i32_33 : BitVec 32 := 2#32
  let v81 : BitVec 32 := Scalar.addi v80 c2_i32_33
  let c256_i32_34 : BitVec 32 := 256#32
  let v82 : BitVec 32 := Scalar.muli v81 c256_i32_34
  v82
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_35 : BitVec 32 := 4#32
  let v84 : BitVec 32 := Scalar.muli arg8 c4_i32_35
  let c3_i32 : BitVec 32 := 3#32
  let v85 : BitVec 32 := Scalar.addi v84 c3_i32
  let c256_i32_36 : BitVec 32 := 256#32
  let v86 : BitVec 32 := Scalar.muli v85 c256_i32_36
  v86
def k0_off1 (k0_t1 : Fin k0_t1_loop.trips) (c0_i32_28 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v72 : BitVec 32 := Scalar.muli arg8 c4_i32
  let v73 : BitVec 32 := Scalar.addi v72 c0_i32_28
  let c256_i32 : BitVec 32 := 256#32
  let v74 : BitVec 32 := Scalar.muli v73 c256_i32
  let v75 : BitVec 32 := v74
  let v88 : Index := Scalar.indexCast v75
  let c0_37 : Index := 0#32
  ![v88.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S18432x4096 : Shape := ⟨2, ![18432, 4096]⟩
abbrev S18432x2048 : Shape := ⟨2, ![18432, 2048]⟩
abbrev S4x128 : Shape := ⟨2, ![4, 128]⟩
abbrev S256 : Shape := ⟨1, ![256]⟩
abbrev S_ : Shape := ⟨0, ![]⟩
abbrev S1x128 : Shape := ⟨2, ![1, 128]⟩
abbrev S128 : Shape := ⟨1, ![128]⟩
abbrev S8x2304x4096 : Shape := ⟨3, ![8, 2304, 4096]⟩
abbrev S8x2304x2048 : Shape := ⟨3, ![8, 2304, 2048]⟩
abbrev S8x2304x8x2x128 : Shape := ⟨5, ![8, 2304, 8, 2, 128]⟩
abbrev S8x8x2x2304x128 : Shape := ⟨5, ![8, 8, 2, 2304, 128]⟩
abbrev S8x2304x8x256 : Shape := ⟨4, ![8, 2304, 8, 256]⟩
abbrev S8x8x2304x256 : Shape := ⟨4, ![8, 8, 2304, 256]⟩
abbrev S8x8x2x2048x128 : Shape := ⟨5, ![8, 8, 2, 2048, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x2048x256 : Shape := ⟨4, ![8, 8, 2048, 256]⟩
abbrev S8x8x2048 : Shape := ⟨3, ![8, 8, 2048]⟩
abbrev S8x8x2048x1 : Shape := ⟨4, ![8, 8, 2048, 1]⟩
abbrev S1x1x1x256 : Shape := ⟨4, ![1, 1, 1, 256]⟩
abbrev S8x2048x8x256 : Shape := ⟨4, ![8, 2048, 8, 256]⟩
abbrev S8x2048x2048 : Shape := ⟨3, ![8, 2048, 2048]⟩
abbrev S8x8x2x256x128 : Shape := ⟨5, ![8, 8, 2, 256, 128]⟩
abbrev S8x8x256x256 : Shape := ⟨4, ![8, 8, 256, 256]⟩
abbrev S8x8x2x256x256 : Shape := ⟨5, ![8, 8, 2, 256, 256]⟩
abbrev S8x8x2x256 : Shape := ⟨4, ![8, 8, 2, 256]⟩
abbrev S8x8x2x256x1 : Shape := ⟨5, ![8, 8, 2, 256, 1]⟩
abbrev S8x8x1x256x256 : Shape := ⟨5, ![8, 8, 1, 256, 256]⟩
abbrev S8x8x256 : Shape := ⟨3, ![8, 8, 256]⟩
abbrev S8x8x256x1 : Shape := ⟨4, ![8, 8, 256, 1]⟩
abbrev S8x256x8x256 : Shape := ⟨4, ![8, 256, 8, 256]⟩
abbrev S8x256x2048 : Shape := ⟨3, ![8, 256, 2048]⟩

abbrev nBuf : Space → Nat
  | .hbm => 137
  | .vmem => 0
  | .smem => 0
  | _ => 0

abbrev hbmTy0_0 (i : Nat) : BufTy := match i % 128 with
  | 0 => ⟨S18432x4096, .bf16⟩
  | 1 => ⟨S18432x2048, .bf16⟩
  | 2 => ⟨S4x128, .f32⟩
  | 3 => ⟨S256, .f32⟩
  | 4 => ⟨S_, .f32⟩
  | 5 => ⟨S_, .f32⟩
  | 6 => ⟨S_, .f32⟩
  | 7 => ⟨S_, .f32⟩
  | 8 => ⟨S1x128, .f32⟩
  | 9 => ⟨S128, .f32⟩
  | 10 => ⟨S1x128, .f32⟩
  | 11 => ⟨S128, .f32⟩
  | 12 => ⟨S128, .f32⟩
  | 13 => ⟨S_, .f32⟩
  | 14 => ⟨S_, .f32⟩
  | 15 => ⟨S_, .f32⟩
  | 16 => ⟨S1x128, .f32⟩
  | 17 => ⟨S128, .f32⟩
  | 18 => ⟨S1x128, .f32⟩
  | 19 => ⟨S128, .f32⟩
  | 20 => ⟨S128, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S18432x4096, .f32⟩
  | 28 => ⟨S8x2304x4096, .f32⟩
  | 29 => ⟨S8x2304x2048, .f32⟩
  | 30 => ⟨S8x2304x8x2x128, .f32⟩
  | 31 => ⟨S8x8x2x2304x128, .f32⟩
  | 32 => ⟨S8x2304x2048, .f32⟩
  | 33 => ⟨S8x2304x8x2x128, .f32⟩
  | 34 => ⟨S8x8x2x2304x128, .f32⟩
  | 35 => ⟨S18432x2048, .f32⟩
  | 36 => ⟨S8x2304x8x256, .f32⟩
  | 37 => ⟨S8x8x2304x256, .f32⟩
  | 38 => ⟨S8x8x2x2048x128, .f32⟩
  | 39 => ⟨S8x8x2x2048x2304, .f32⟩
  | 40 => ⟨S8x8x2x2048x2304, .f32⟩
  | 41 => ⟨S8x8x2x2048x2304, .f32⟩
  | 42 => ⟨S_, .f32⟩
  | 43 => ⟨S8x8x2x2048, .f32⟩
  | 44 => ⟨S_, .f32⟩
  | 45 => ⟨S8x8x2x2048, .f32⟩
  | 46 => ⟨S8x8x2x2048, .f32⟩
  | 47 => ⟨S8x8x2x2048x1, .f32⟩
  | 48 => ⟨S8x8x2x2048x2304, .f32⟩
  | 49 => ⟨S8x8x2x2048x2304, .f32⟩
  | 50 => ⟨S8x8x2x2048x2304, .f32⟩
  | 51 => ⟨S_, .f32⟩
  | 52 => ⟨S8x8x2x2048, .f32⟩
  | 53 => ⟨S8x8x2x2048x1, .f32⟩
  | 54 => ⟨S8x8x2x2048x2304, .f32⟩
  | 55 => ⟨S8x8x2x2048x2304, .f32⟩
  | 56 => ⟨S8x8x1x2048x2304, .f32⟩
  | 57 => ⟨S8x8x2048x2304, .f32⟩
  | 58 => ⟨S8x8x1x2048x2304, .f32⟩
  | 59 => ⟨S8x8x2048x2304, .f32⟩
  | 60 => ⟨S8x8x2048x2304, .f32⟩
  | 61 => ⟨S8x8x2048x2304, .f32⟩
  | 62 => ⟨S8x8x2048x2304, .f32⟩
  | 63 => ⟨S8x8x2048x256, .f32⟩
  | 64 => ⟨S8x8x2048x256, .f32⟩
  | 65 => ⟨S_, .f32⟩
  | 66 => ⟨S8x8x2048, .f32⟩
  | 67 => ⟨S8x8x2048x1, .f32⟩
  | 68 => ⟨S_, .f32⟩
  | 69 => ⟨S8x8x2048x1, .f32⟩
  | 70 => ⟨S8x8x2048x1, .f32⟩
  | 71 => ⟨S_, .f32⟩
  | 72 => ⟨S8x8x2048x1, .f32⟩
  | 73 => ⟨S8x8x2048x1, .f32⟩
  | 74 => ⟨S8x8x2048x1, .f32⟩
  | 75 => ⟨S8x8x2048x256, .f32⟩
  | 76 => ⟨S8x8x2048x256, .f32⟩
  | 77 => ⟨S1x1x1x256, .f32⟩
  | 78 => ⟨S8x8x2048x256, .f32⟩
  | 79 => ⟨S8x8x2048x256, .f32⟩
  | 80 => ⟨S_, .f32⟩
  | 81 => ⟨S8x8x2048x256, .f32⟩
  | 82 => ⟨S8x8x2048x256, .f32⟩
  | 83 => ⟨S8x2048x8x256, .f32⟩
  | 84 => ⟨S8x2048x2048, .f32⟩
  | 85 => ⟨S8x8x2x256x128, .f32⟩
  | 86 => ⟨S8x8x2x256x128, .f32⟩
  | 87 => ⟨S8x8x256x256, .f32⟩
  | 88 => ⟨S8x8x2x256x256, .f32⟩
  | 89 => ⟨S8x8x2x256x256, .f32⟩
  | 90 => ⟨S8x8x2x256x256, .f32⟩
  | 91 => ⟨S_, .f32⟩
  | 92 => ⟨S8x8x2x256, .f32⟩
  | 93 => ⟨S_, .f32⟩
  | 94 => ⟨S8x8x2x256, .f32⟩
  | 95 => ⟨S8x8x2x256, .f32⟩
  | 96 => ⟨S8x8x2x256x1, .f32⟩
  | 97 => ⟨S8x8x2x256x256, .f32⟩
  | 98 => ⟨S8x8x2x256x256, .f32⟩
  | 99 => ⟨S8x8x2x256x256, .f32⟩
  | 100 => ⟨S_, .f32⟩
  | 101 => ⟨S8x8x2x256, .f32⟩
  | 102 => ⟨S8x8x2x256x1, .f32⟩
  | 103 => ⟨S8x8x2x256x256, .f32⟩
  | 104 => ⟨S8x8x2x256x256, .f32⟩
  | 105 => ⟨S8x8x1x256x256, .f32⟩
  | 106 => ⟨S8x8x256x256, .f32⟩
  | 107 => ⟨S8x8x1x256x256, .f32⟩
  | 108 => ⟨S8x8x256x256, .f32⟩
  | 109 => ⟨S8x8x256x256, .f32⟩
  | 110 => ⟨S8x8x256x256, .f32⟩
  | 111 => ⟨S8x8x256x256, .f32⟩
  | 112 => ⟨S8x8x256x256, .f32⟩
  | 113 => ⟨S8x8x256x256, .f32⟩
  | 114 => ⟨S_, .f32⟩
  | 115 => ⟨S8x8x256, .f32⟩
  | 116 => ⟨S8x8x256x1, .f32⟩
  | 117 => ⟨S_, .f32⟩
  | 118 => ⟨S8x8x256x1, .f32⟩
  | 119 => ⟨S8x8x256x1, .f32⟩
  | 120 => ⟨S_, .f32⟩
  | 121 => ⟨S8x8x256x1, .f32⟩
  | 122 => ⟨S8x8x256x1, .f32⟩
  | 123 => ⟨S8x8x256x1, .f32⟩
  | 124 => ⟨S8x8x256x256, .f32⟩
  | 125 => ⟨S8x8x256x256, .f32⟩
  | 126 => ⟨S1x1x1x256, .f32⟩
  | 127 => ⟨S8x8x256x256, .f32⟩
  | _ => ⟨S18432x4096, .bf16⟩

abbrev hbmTy0_1 (i : Nat) : BufTy := match i % 128 with
  | 0 => ⟨S8x8x256x256, .f32⟩
  | 1 => ⟨S_, .f32⟩
  | 2 => ⟨S8x8x256x256, .f32⟩
  | 3 => ⟨S8x8x256x256, .f32⟩
  | 4 => ⟨S8x256x8x256, .f32⟩
  | 5 => ⟨S8x256x2048, .f32⟩
  | 6 => ⟨S8x2304x2048, .f32⟩
  | 7 => ⟨S18432x2048, .f32⟩
  | 8 => ⟨S18432x2048, .bf16⟩
  | _ => ⟨S18432x4096, .bf16⟩

abbrev hbmTy (i : Nat) : BufTy := match i / 128 with
  | 0 => hbmTy0_0 i
  | 1 => hbmTy0_1 i
  | _ => ⟨S18432x4096, .bf16⟩

abbrev bufTy : (tb : Table) → Fin (tcTables nBuf tb) → BufTy
  | .hbm, ⟨i, _⟩ => hbmTy i
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_11 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_13 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_14 : Ref sig .tc := ⟨.hbm, 114, rfl⟩
abbrev main_v95 : Ref sig .tc := ⟨.hbm, 115, rfl⟩
abbrev main_v96 : Ref sig .tc := ⟨.hbm, 116, rfl⟩
abbrev main_cst_15 : Ref sig .tc := ⟨.hbm, 117, rfl⟩
abbrev main_v97 : Ref sig .tc := ⟨.hbm, 118, rfl⟩
abbrev main_v98 : Ref sig .tc := ⟨.hbm, 119, rfl⟩
abbrev main_cst_16 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_17 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩

abbrev nD : Nat := 1
abbrev τ : Topo := Topo.v7x

variable {F : FTy → Type} [FloatOps F]
-- ==== Qkv.lean ====
abbrev S18432x2048 : Shape := ⟨2, ![18432, 2048]⟩
abbrev S9x1x2048 : Shape := ⟨3, ![9, 1, 2048]⟩
abbrev S2048x6144 : Shape := ⟨2, ![2048, 6144]⟩
abbrev S18432x6144 : Shape := ⟨2, ![18432, 6144]⟩
abbrev S256x2048 : Shape := ⟨2, ![256, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S18432x6144, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .f32⟩
  | .local _ .vmem, ⟨7, _⟩ => ⟨S256x2048, .bf16⟩
  | .local _ .vmem, ⟨8, _⟩ => ⟨S256x2048, .bf16⟩
  | .local _ .vmem, ⟨9, _⟩ => ⟨S2048x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S18432x2048 : Shape := ⟨2, ![18432, 2048]⟩
abbrev S9x1x2048 : Shape := ⟨3, ![9, 1, 2048]⟩
abbrev S2048x6144 : Shape := ⟨2, ![2048, 6144]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S8x2048x6144 : Shape := ⟨3, ![8, 2048, 6144]⟩
abbrev S8x256x6144 : Shape := ⟨3, ![8, 256, 6144]⟩
abbrev S8x2304x6144 : Shape := ⟨3, ![8, 2304, 6144]⟩
abbrev S18432x6144 : Shape := ⟨2, ![18432, 6144]⟩

abbrev nBuf : Space → Nat
  | .hbm => 34
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x256x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S8x256x2048, .f32⟩
  | .hbm, ⟨28, _⟩ => ⟨S8x256x2048, .f32⟩
  | .hbm, ⟨29, _⟩ => ⟨S8x2048x6144, .f32⟩
  | .hbm, ⟨30, _⟩ => ⟨S8x256x6144, .f32⟩
  | .hbm, ⟨31, _⟩ => ⟨S8x2304x6144, .f32⟩
  | .hbm, ⟨32, _⟩ => ⟨S18432x6144, .f32⟩
  | .hbm, ⟨33, _⟩ => ⟨S18432x6144, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Val.lean ====
abbrev S18432x2048 : Shape := ⟨2, ![18432, 2048]⟩
abbrev S9x1x2048 : Shape := ⟨3, ![9, 1, 2048]⟩
abbrev S2048x6144 : Shape := ⟨2, ![2048, 6144]⟩
abbrev S256x2048 : Shape := ⟨2, ![256, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S18432x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .f32⟩
  | .local _ .vmem, ⟨7, _⟩ => ⟨S256x2048, .bf16⟩
  | .local _ .vmem, ⟨8, _⟩ => ⟨S256x2048, .bf16⟩
  | .local _ .vmem, ⟨9, _⟩ => ⟨S2048x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ValReferenceIdeal.lean ====
abbrev S18432x2048 : Shape := ⟨2, ![18432, 2048]⟩
abbrev S9x1x2048 : Shape := ⟨3, ![9, 1, 2048]⟩
abbrev S2048x6144 : Shape := ⟨2, ![2048, 6144]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S2048x2048 : Shape := ⟨2, ![2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x256x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S8x256x2048, .f32⟩
  | .hbm, ⟨28, _⟩ => ⟨S8x256x2048, .f32⟩
  | .hbm, ⟨29, _⟩ => ⟨S2048x2048, .f32⟩
  | .hbm, ⟨30, _⟩ => ⟨S8x2048x2048, .f32⟩
  | .hbm, ⟨31, _⟩ => ⟨S8x256x2048, .f32⟩
  | .hbm, ⟨32, _⟩ => ⟨S8x2304x2048, .f32⟩
  | .hbm, ⟨33, _⟩ => ⟨S18432x2048, .f32⟩
  | .hbm, ⟨34, _⟩ => ⟨S18432x2048, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Glu.lean ====
abbrev S18432x2048 : Shape := ⟨2, ![18432, 2048]⟩
abbrev S9x1x2048 : Shape := ⟨3, ![9, 1, 2048]⟩
abbrev S2048x4096 : Shape := ⟨2, ![2048, 4096]⟩
abbrev S4096 : Shape := ⟨1, ![4096]⟩
abbrev S1x4096 : Shape := ⟨2, ![1, 4096]⟩
abbrev S256x2048 : Shape := ⟨2, ![256, 2048]⟩
abbrev S1x1x2048 : Shape := ⟨3, ![1, 1, 2048]⟩
abbrev S2048x1024 : Shape := ⟨2, ![2048, 1024]⟩
abbrev S1x1024 : Shape := ⟨2, ![1, 1024]⟩
abbrev S256x1024 : Shape := ⟨2, ![256, 1024]⟩
abbrev S1x2048 : Shape := ⟨2, ![1, 2048]⟩

abbrev nBuf : Space → Nat
  | .hbm => 7
  | .vmem => 16
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x4096, .f32⟩
  | .hbm, ⟨4, _⟩ => ⟨S4096, .f32⟩
  | .hbm, ⟨5, _⟩ => ⟨S1x4096, .f32⟩
  | .hbm, ⟨6, _⟩ => ⟨S18432x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .f32⟩
  | .local _ .vmem, ⟨7, _⟩ => ⟨S2048x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S2048x1024, .bf16⟩
  | .local _ .vmem, ⟨15, _⟩ => ⟨S2048x1024, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 32 := Scalar.addi v0 c2_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluReferenceIdeal.lean ====
abbrev S18432x2048 : Shape := ⟨2, ![18432, 2048]⟩
abbrev S9x1x2048 : Shape := ⟨3, ![9, 1, 2048]⟩
abbrev S2048x4096 : Shape := ⟨2, ![2048, 4096]⟩
abbrev S4096 : Shape := ⟨1, ![4096]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S8x2048x4096 : Shape := ⟨3, ![8, 2048, 4096]⟩
abbrev S1x1x4096 : Shape := ⟨3, ![1, 1, 4096]⟩
abbrev S8x256x4096 : Shape := ⟨3, ![8, 256, 4096]⟩

abbrev nBuf : Space → Nat
  | .hbm => 62
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x4096, .f32⟩
  | .hbm, ⟨4, _⟩ => ⟨S4096, .f32⟩
  | .hbm, ⟨5, _⟩ => ⟨S8x2304x2048, .f32⟩
  | .hbm, ⟨6, _⟩ => ⟨S8x2048x2048, .f32⟩
  | .hbm, ⟨7, _⟩ => ⟨S8x1x2048, .f32⟩
  | .hbm, ⟨8, _⟩ => ⟨S_, .f32⟩
  | .hbm, ⟨9, _⟩ => ⟨S8x1x2048, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x256x2048, .f32⟩
  | .hbm, ⟨17, _⟩ => ⟨S1x1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x1x2048, .f32⟩
  | .hbm, ⟨23, _⟩ => ⟨S8x256x2048, .f32⟩
  | .hbm, ⟨24, _⟩ => ⟨S8x256x2048, .f32⟩
  | .hbm, ⟨25, _⟩ => ⟨S1x1x2048, .f32⟩
  | .hbm, ⟨26, _⟩ => ⟨S1x2048, .f32⟩
  | .hbm, ⟨27, _⟩ => ⟨S1x1x2048, .f32⟩
  | .hbm, ⟨28, _⟩ => ⟨S8x256x2048, .f32⟩
  | .hbm, ⟨29, _⟩ => ⟨S8x256x2048, .f32⟩
  | .hbm, ⟨30, _⟩ => ⟨S8x2048x4096, .f32⟩
  | .hbm, ⟨31, _⟩ => ⟨S1x1x4096, .f32⟩
  | .hbm, ⟨32, _⟩ => ⟨S8x2048x4096, .f32⟩
  | .hbm, ⟨33, _⟩ => ⟨S8x2048x4096, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x256x4096, .f32⟩
  | .hbm, ⟨46, _⟩ => ⟨S1x1x4096, .f32⟩
  | .hbm, ⟨47, _⟩ => ⟨S8x256x4096, .f32⟩
  | .hbm, ⟨48, _⟩ => ⟨S8x256x4096, .f32⟩
  | .hbm, ⟨49, _⟩ => ⟨S8x256x2048, .f32⟩
  | .hbm, ⟨50, _⟩ => ⟨S8x256x2048, .f32⟩
  | .hbm, ⟨51, _⟩ => ⟨S8x256x2048, .f32⟩
  | .hbm, ⟨52, _⟩ => ⟨S8x256x2048, .f32⟩
  | .hbm, ⟨53, _⟩ => ⟨S_, .f32⟩
  | .hbm, ⟨54, _⟩ => ⟨S8x256x2048, .f32⟩
  | .hbm, ⟨55, _⟩ => ⟨S8x256x2048, .f32⟩
  | .hbm, ⟨56, _⟩ => ⟨S_, .f32⟩
  | .hbm, ⟨57, _⟩ => ⟨S8x256x2048, .f32⟩
  | .hbm, ⟨58, _⟩ => ⟨S8x256x2048, .f32⟩
  | .hbm, ⟨59, _⟩ => ⟨S8x256x2048, .f32⟩
  | .hbm, ⟨60, _⟩ => ⟨S8x2304x2048, .f32⟩
  | .hbm, ⟨61, _⟩ => ⟨S18432x2048, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Qk.lean ====
abbrev S18432x2048 : Shape := ⟨2, ![18432, 2048]⟩
abbrev S9x1x2048 : Shape := ⟨3, ![9, 1, 2048]⟩
abbrev S2048x6144 : Shape := ⟨2, ![2048, 6144]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x2x1x32 : Shape := ⟨4, ![2048, 2, 1, 32]⟩
abbrev S2048x2x2x32 : Shape := ⟨4, ![2048, 2, 2, 32]⟩
abbrev S2048x128 : Shape := ⟨2, ![2048, 128]⟩
abbrev S256x128 : Shape := ⟨2, ![256, 128]⟩
abbrev S2304x128 : Shape := ⟨2, ![2304, 128]⟩
abbrev S18432x4096 : Shape := ⟨2, ![18432, 4096]⟩
abbrev S256x2048 : Shape := ⟨2, ![256, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 80
  | .vmem => 14
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x1, .i32⟩
  | .hbm, ⟨47, _⟩ => ⟨S2048x2, .i32⟩
  | .hbm, ⟨48, _⟩ => ⟨S2048x2, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048x2x1, .f32⟩
  | .hbm, ⟨58, _⟩ => ⟨S1x1x32, .f32⟩
  | .hbm, ⟨59, _⟩ => ⟨S2048x2x32, .f32⟩
  | .hbm, ⟨60, _⟩ => ⟨S2048x2x32, .f32⟩
  | .hbm, ⟨61, _⟩ => ⟨S2048x2x32, .f32⟩
  | .hbm, ⟨62, _⟩ => ⟨S2048x2x32, .f32⟩
  | .hbm, ⟨63, _⟩ => ⟨S2048x2x32, .f32⟩
  | .hbm, ⟨64, _⟩ => ⟨S2048x2x1x32, .f32⟩
  | .hbm, ⟨65, _⟩ => ⟨S2048x2x1x32, .f32⟩
  | .hbm, ⟨66, _⟩ => ⟨S2048x2x2x32, .f32⟩
  | .hbm, ⟨67, _⟩ => ⟨S2048x128, .f32⟩
  | .hbm, ⟨68, _⟩ => ⟨S2048x2x32, .f32⟩
  | .hbm, ⟨69, _⟩ => ⟨S2048x2x1x32, .f32⟩
  | .hbm, ⟨70, _⟩ => ⟨S2048x2x1x32, .f32⟩
  | .hbm, ⟨71, _⟩ => ⟨S2048x2x2x32, .f32⟩
  | .hbm, ⟨72, _⟩ => ⟨S2048x128, .f32⟩
  | .hbm, ⟨73, _⟩ => ⟨S_, .f32⟩
  | .hbm, ⟨74, _⟩ => ⟨S256x128, .f32⟩
  | .hbm, ⟨75, _⟩ => ⟨S2304x128, .f32⟩
  | .hbm, ⟨76, _⟩ => ⟨S_, .f32⟩
  | .hbm, ⟨77, _⟩ => ⟨S256x128, .f32⟩
  | .hbm, ⟨78, _⟩ => ⟨S2304x128, .f32⟩
  | .hbm, ⟨79, _⟩ => ⟨S18432x4096, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x2048, .bf16⟩
  | .local _ .vmem, ⟨12, _⟩ => ⟨S256x2048, .bf16⟩
  | .local _ .vmem, ⟨13, _⟩ => ⟨S2048x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_cst_3 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkReferenceIdeal.lean ====
abbrev S18432x2048 : Shape := ⟨2, ![18432, 2048]⟩
abbrev S9x1x2048 : Shape := ⟨3, ![9, 1, 2048]⟩
abbrev S2048x6144 : Shape := ⟨2, ![2048, 6144]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S2048x4096 : Shape := ⟨2, ![2048, 4096]⟩
abbrev S2048 : Shape := ⟨1, ![2048]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S8x2048x4096 : Shape := ⟨3, ![8, 2048, 4096]⟩
abbrev S8x2048x32x128 : Shape := ⟨4, ![8, 2048, 32, 128]⟩
abbrev S8x32x2048x128 : Shape := ⟨4, ![8, 32, 2048, 128]⟩
abbrev S8x32x2048x2x2x32 : Shape := ⟨6, ![8, 32, 2048, 2, 2, 32]⟩
abbrev S8x32x2048x2x1x32 : Shape := ⟨6, ![8, 32, 2048, 2, 1, 32]⟩
abbrev S8x32x2048x2x32 : Shape := ⟨5, ![8, 32, 2048, 2, 32]⟩
abbrev S1x1x2048x2x32 : Shape := ⟨5, ![1, 1, 2048, 2, 32]⟩
abbrev S8x256x4096 : Shape := ⟨3, ![8, 256, 4096]⟩
abbrev S8x2304x4096 : Shape := ⟨3, ![8, 2304, 4096]⟩
abbrev S18432x4096 : Shape := ⟨2, ![18432, 4096]⟩

abbrev nBuf : Space → Nat
  | .hbm => 122
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x6144, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x256x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S8x256x2048, .f32⟩
  | .hbm, ⟨28, _⟩ => ⟨S8x256x2048, .f32⟩
  | .hbm, ⟨29, _⟩ => ⟨S2048x4096, .f32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S_, .i1⟩
  | .hbm, ⟨65, _⟩ => ⟨S2048, .i1⟩
  | .hbm, ⟨66, _⟩ => ⟨S2048, .i1⟩
  | .hbm, ⟨67, _⟩ => ⟨S2048, .i1⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S2048x1, .i32⟩
  | .hbm, ⟨73, _⟩ => ⟨S2048x2, .i32⟩
  | .hbm, ⟨74, _⟩ => ⟨S2048x2, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S2048x2x1, .f32⟩
  | .hbm, ⟨84, _⟩ => ⟨S1x1x32, .f32⟩
  | .hbm, ⟨85, _⟩ => ⟨S2048x2x32, .f32⟩
  | .hbm, ⟨86, _⟩ => ⟨S2048x2x32, .f32⟩
  | .hbm, ⟨87, _⟩ => ⟨S2048x2x32, .f32⟩
  | .hbm, ⟨88, _⟩ => ⟨S2048x2x32, .f32⟩
  | .hbm, ⟨89, _⟩ => ⟨S2048x2x32, .f32⟩
  | .hbm, ⟨90, _⟩ => ⟨S8x2048x4096, .f32⟩
  | .hbm, ⟨91, _⟩ => ⟨S8x2048x32x128, .f32⟩
  | .hbm, ⟨92, _⟩ => ⟨S8x32x2048x128, .f32⟩
  | .hbm, ⟨93, _⟩ => ⟨S8x32x2048x2x2x32, .f32⟩
  | .hbm, ⟨94, _⟩ => ⟨S8x32x2048x2x1x32, .f32⟩
  | .hbm, ⟨95, _⟩ => ⟨S8x32x2048x2x32, .f32⟩
  | .hbm, ⟨96, _⟩ => ⟨S8x32x2048x2x1x32, .f32⟩
  | .hbm, ⟨97, _⟩ => ⟨S8x32x2048x2x32, .f32⟩
  | .hbm, ⟨98, _⟩ => ⟨S1x1x2048x2x32, .f32⟩
  | .hbm, ⟨99, _⟩ => ⟨S8x32x2048x2x32, .f32⟩
  | .hbm, ⟨100, _⟩ => ⟨S8x32x2048x2x32, .f32⟩
  | .hbm, ⟨101, _⟩ => ⟨S1x1x2048x2x32, .f32⟩
  | .hbm, ⟨102, _⟩ => ⟨S8x32x2048x2x32, .f32⟩
  | .hbm, ⟨103, _⟩ => ⟨S8x32x2048x2x32, .f32⟩
  | .hbm, ⟨104, _⟩ => ⟨S8x32x2048x2x32, .f32⟩
  | .hbm, ⟨105, _⟩ => ⟨S1x1x2048x2x32, .f32⟩
  | .hbm, ⟨106, _⟩ => ⟨S8x32x2048x2x32, .f32⟩
  | .hbm, ⟨107, _⟩ => ⟨S8x32x2048x2x32, .f32⟩
  | .hbm, ⟨108, _⟩ => ⟨S1x1x2048x2x32, .f32⟩
  | .hbm, ⟨109, _⟩ => ⟨S8x32x2048x2x32, .f32⟩
  | .hbm, ⟨110, _⟩ => ⟨S8x32x2048x2x32, .f32⟩
  | .hbm, ⟨111, _⟩ => ⟨S8x32x2048x2x32, .f32⟩
  | .hbm, ⟨112, _⟩ => ⟨S8x32x2048x2x1x32, .f32⟩
  | .hbm, ⟨113, _⟩ => ⟨S8x32x2048x2x1x32, .f32⟩
  | .hbm, ⟨114, _⟩ => ⟨S8x32x2048x2x2x32, .f32⟩
  | .hbm, ⟨115, _⟩ => ⟨S8x32x2048x128, .f32⟩
  | .hbm, ⟨116, _⟩ => ⟨S8x2048x32x128, .f32⟩
  | .hbm, ⟨117, _⟩ => ⟨S8x2048x4096, .f32⟩
  | .hbm, ⟨118, _⟩ => ⟨S8x256x4096, .f32⟩
  | .hbm, ⟨119, _⟩ => ⟨S8x2304x4096, .f32⟩
  | .hbm, ⟨120, _⟩ => ⟨S18432x4096, .f32⟩
  | .hbm, ⟨121, _⟩ => ⟨S18432x4096, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v25 : Ref sig .tc := ⟨.hbm, 48, rfl⟩
abbrev main_c_1 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]
-- ==== QkW.lean ====
abbrev S18432x2048 : Shape := ⟨2, ![18432, 2048]⟩
abbrev S9x1x2048 : Shape := ⟨3, ![9, 1, 2048]⟩
abbrev S2048x3072 : Shape := ⟨2, ![2048, 3072]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x2x1x32 : Shape := ⟨4, ![2048, 2, 1, 32]⟩
abbrev S2048x2x2x32 : Shape := ⟨4, ![2048, 2, 2, 32]⟩
abbrev S2048x128 : Shape := ⟨2, ![2048, 128]⟩
abbrev S256x128 : Shape := ⟨2, ![256, 128]⟩
abbrev S2304x128 : Shape := ⟨2, ![2304, 128]⟩
abbrev S18432x2560 : Shape := ⟨2, ![18432, 2560]⟩
abbrev S256x2048 : Shape := ⟨2, ![256, 2048]⟩
abbrev S1x1x2048 : Shape := ⟨3, ![1, 1, 2048]⟩
abbrev S2048x2560 : Shape := ⟨2, ![2048, 2560]⟩
abbrev S256x2560 : Shape := ⟨2, ![256, 2560]⟩
abbrev S1x2048 : Shape := ⟨2, ![1, 2048]⟩

abbrev nBuf : Space → Nat
  | .hbm => 80
  | .vmem => 14
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x3072, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x1, .i32⟩
  | .hbm, ⟨47, _⟩ => ⟨S2048x2, .i32⟩
  | .hbm, ⟨48, _⟩ => ⟨S2048x2, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048x2x1, .f32⟩
  | .hbm, ⟨58, _⟩ => ⟨S1x1x32, .f32⟩
  | .hbm, ⟨59, _⟩ => ⟨S2048x2x32, .f32⟩
  | .hbm, ⟨60, _⟩ => ⟨S2048x2x32, .f32⟩
  | .hbm, ⟨61, _⟩ => ⟨S2048x2x32, .f32⟩
  | .hbm, ⟨62, _⟩ => ⟨S2048x2x32, .f32⟩
  | .hbm, ⟨63, _⟩ => ⟨S2048x2x32, .f32⟩
  | .hbm, ⟨64, _⟩ => ⟨S2048x2x1x32, .f32⟩
  | .hbm, ⟨65, _⟩ => ⟨S2048x2x1x32, .f32⟩
  | .hbm, ⟨66, _⟩ => ⟨S2048x2x2x32, .f32⟩
  | .hbm, ⟨67, _⟩ => ⟨S2048x128, .f32⟩
  | .hbm, ⟨68, _⟩ => ⟨S2048x2x32, .f32⟩
  | .hbm, ⟨69, _⟩ => ⟨S2048x2x1x32, .f32⟩
  | .hbm, ⟨70, _⟩ => ⟨S2048x2x1x32, .f32⟩
  | .hbm, ⟨71, _⟩ => ⟨S2048x2x2x32, .f32⟩
  | .hbm, ⟨72, _⟩ => ⟨S2048x128, .f32⟩
  | .hbm, ⟨73, _⟩ => ⟨S_, .f32⟩
  | .hbm, ⟨74, _⟩ => ⟨S256x128, .f32⟩
  | .hbm, ⟨75, _⟩ => ⟨S2304x128, .f32⟩
  | .hbm, ⟨76, _⟩ => ⟨S_, .f32⟩
  | .hbm, ⟨77, _⟩ => ⟨S256x128, .f32⟩
  | .hbm, ⟨78, _⟩ => ⟨S2304x128, .f32⟩
  | .hbm, ⟨79, _⟩ => ⟨S18432x2560, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2560, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x2560, .bf16⟩
  | .local _ .vmem, ⟨12, _⟩ => ⟨S256x2560, .bf16⟩
  | .local _ .vmem, ⟨13, _⟩ => ⟨S2048x2560, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_v30 : Ref sig .tc := ⟨.hbm, 75, rfl⟩
abbrev main_cst_3 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkWReferenceIdeal.lean ====
abbrev S18432x2048 : Shape := ⟨2, ![18432, 2048]⟩
abbrev S9x1x2048 : Shape := ⟨3, ![9, 1, 2048]⟩
abbrev S2048x3072 : Shape := ⟨2, ![2048, 3072]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S2048x2560 : Shape := ⟨2, ![2048, 2560]⟩
abbrev S2048 : Shape := ⟨1, ![2048]⟩
abbrev S2048x1 : Shape := ⟨2, ![2048, 1]⟩
abbrev S2048x2 : Shape := ⟨2, ![2048, 2]⟩
abbrev S32 : Shape := ⟨1, ![32]⟩
abbrev S2048x2x1 : Shape := ⟨3, ![2048, 2, 1]⟩
abbrev S1x1x32 : Shape := ⟨3, ![1, 1, 32]⟩
abbrev S2048x2x32 : Shape := ⟨3, ![2048, 2, 32]⟩
abbrev S8x2048x2560 : Shape := ⟨3, ![8, 2048, 2560]⟩
abbrev S8x2048x20x128 : Shape := ⟨4, ![8, 2048, 20, 128]⟩
abbrev S8x20x2048x128 : Shape := ⟨4, ![8, 20, 2048, 128]⟩
abbrev S8x20x2048x2x2x32 : Shape := ⟨6, ![8, 20, 2048, 2, 2, 32]⟩
abbrev S8x20x2048x2x1x32 : Shape := ⟨6, ![8, 20, 2048, 2, 1, 32]⟩
abbrev S8x20x2048x2x32 : Shape := ⟨5, ![8, 20, 2048, 2, 32]⟩
abbrev S1x1x2048x2x32 : Shape := ⟨5, ![1, 1, 2048, 2, 32]⟩
abbrev S8x256x2560 : Shape := ⟨3, ![8, 256, 2560]⟩
abbrev S8x2304x2560 : Shape := ⟨3, ![8, 2304, 2560]⟩
abbrev S18432x2560 : Shape := ⟨2, ![18432, 2560]⟩

abbrev nBuf : Space → Nat
  | .hbm => 122
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x3072, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x256x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S8x256x2048, .f32⟩
  | .hbm, ⟨28, _⟩ => ⟨S8x256x2048, .f32⟩
  | .hbm, ⟨29, _⟩ => ⟨S2048x2560, .f32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S_, .i1⟩
  | .hbm, ⟨65, _⟩ => ⟨S2048, .i1⟩
  | .hbm, ⟨66, _⟩ => ⟨S2048, .i1⟩
  | .hbm, ⟨67, _⟩ => ⟨S2048, .i1⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S2048x1, .i32⟩
  | .hbm, ⟨73, _⟩ => ⟨S2048x2, .i32⟩
  | .hbm, ⟨74, _⟩ => ⟨S2048x2, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S2048x2x1, .f32⟩
  | .hbm, ⟨84, _⟩ => ⟨S1x1x32, .f32⟩
  | .hbm, ⟨85, _⟩ => ⟨S2048x2x32, .f32⟩
  | .hbm, ⟨86, _⟩ => ⟨S2048x2x32, .f32⟩
  | .hbm, ⟨87, _⟩ => ⟨S2048x2x32, .f32⟩
  | .hbm, ⟨88, _⟩ => ⟨S2048x2x32, .f32⟩
  | .hbm, ⟨89, _⟩ => ⟨S2048x2x32, .f32⟩
  | .hbm, ⟨90, _⟩ => ⟨S8x2048x2560, .f32⟩
  | .hbm, ⟨91, _⟩ => ⟨S8x2048x20x128, .f32⟩
  | .hbm, ⟨92, _⟩ => ⟨S8x20x2048x128, .f32⟩
  | .hbm, ⟨93, _⟩ => ⟨S8x20x2048x2x2x32, .f32⟩
  | .hbm, ⟨94, _⟩ => ⟨S8x20x2048x2x1x32, .f32⟩
  | .hbm, ⟨95, _⟩ => ⟨S8x20x2048x2x32, .f32⟩
  | .hbm, ⟨96, _⟩ => ⟨S8x20x2048x2x1x32, .f32⟩
  | .hbm, ⟨97, _⟩ => ⟨S8x20x2048x2x32, .f32⟩
  | .hbm, ⟨98, _⟩ => ⟨S1x1x2048x2x32, .f32⟩
  | .hbm, ⟨99, _⟩ => ⟨S8x20x2048x2x32, .f32⟩
  | .hbm, ⟨100, _⟩ => ⟨S8x20x2048x2x32, .f32⟩
  | .hbm, ⟨101, _⟩ => ⟨S1x1x2048x2x32, .f32⟩
  | .hbm, ⟨102, _⟩ => ⟨S8x20x2048x2x32, .f32⟩
  | .hbm, ⟨103, _⟩ => ⟨S8x20x2048x2x32, .f32⟩
  | .hbm, ⟨104, _⟩ => ⟨S8x20x2048x2x32, .f32⟩
  | .hbm, ⟨105, _⟩ => ⟨S1x1x2048x2x32, .f32⟩
  | .hbm, ⟨106, _⟩ => ⟨S8x20x2048x2x32, .f32⟩
  | .hbm, ⟨107, _⟩ => ⟨S8x20x2048x2x32, .f32⟩
  | .hbm, ⟨108, _⟩ => ⟨S1x1x2048x2x32, .f32⟩
  | .hbm, ⟨109, _⟩ => ⟨S8x20x2048x2x32, .f32⟩
  | .hbm, ⟨110, _⟩ => ⟨S8x20x2048x2x32, .f32⟩
  | .hbm, ⟨111, _⟩ => ⟨S8x20x2048x2x32, .f32⟩
  | .hbm, ⟨112, _⟩ => ⟨S8x20x2048x2x1x32, .f32⟩
  | .hbm, ⟨113, _⟩ => ⟨S8x20x2048x2x1x32, .f32⟩
  | .hbm, ⟨114, _⟩ => ⟨S8x20x2048x2x2x32, .f32⟩
  | .hbm, ⟨115, _⟩ => ⟨S8x20x2048x128, .f32⟩
  | .hbm, ⟨116, _⟩ => ⟨S8x2048x20x128, .f32⟩
  | .hbm, ⟨117, _⟩ => ⟨S8x2048x2560, .f32⟩
  | .hbm, ⟨118, _⟩ => ⟨S8x256x2560, .f32⟩
  | .hbm, ⟨119, _⟩ => ⟨S8x2304x2560, .f32⟩
  | .hbm, ⟨120, _⟩ => ⟨S18432x2560, .f32⟩
  | .hbm, ⟨121, _⟩ => ⟨S18432x2560, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v25 : Ref sig .tc := ⟨.hbm, 48, rfl⟩
abbrev main_c_1 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]
-- ==== ValW.lean ====
abbrev S18432x2048 : Shape := ⟨2, ![18432, 2048]⟩
abbrev S9x1x2048 : Shape := ⟨3, ![9, 1, 2048]⟩
abbrev S2048x3072 : Shape := ⟨2, ![2048, 3072]⟩
abbrev S18432x512 : Shape := ⟨2, ![18432, 512]⟩
abbrev S256x2048 : Shape := ⟨2, ![256, 2048]⟩
abbrev S1x1x2048 : Shape := ⟨3, ![1, 1, 2048]⟩
abbrev S2048x512 : Shape := ⟨2, ![2048, 512]⟩
abbrev S256x512 : Shape := ⟨2, ![256, 512]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x3072, .f32⟩
  | .hbm, ⟨4, _⟩ => ⟨S18432x512, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .f32⟩
  | .local _ .vmem, ⟨7, _⟩ => ⟨S256x512, .bf16⟩
  | .local _ .vmem, ⟨8, _⟩ => ⟨S256x512, .bf16⟩
  | .local _ .vmem, ⟨9, _⟩ => ⟨S2048x512, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg1 c9_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg1 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ValWReferenceIdeal.lean ====
abbrev S18432x2048 : Shape := ⟨2, ![18432, 2048]⟩
abbrev S9x1x2048 : Shape := ⟨3, ![9, 1, 2048]⟩
abbrev S2048x3072 : Shape := ⟨2, ![2048, 3072]⟩
abbrev S8x2304x2048 : Shape := ⟨3, ![8, 2304, 2048]⟩
abbrev S8x2048x2048 : Shape := ⟨3, ![8, 2048, 2048]⟩
abbrev S8x1x2048 : Shape := ⟨3, ![8, 1, 2048]⟩
abbrev S_ : Shape := ⟨0, ![]⟩
abbrev S8x256x2048 : Shape := ⟨3, ![8, 256, 2048]⟩
abbrev S1x1x2048 : Shape := ⟨3, ![1, 1, 2048]⟩
abbrev S1x2048 : Shape := ⟨2, ![1, 2048]⟩
abbrev S2048x512 : Shape := ⟨2, ![2048, 512]⟩
abbrev S8x2048x512 : Shape := ⟨3, ![8, 2048, 512]⟩
abbrev S8x256x512 : Shape := ⟨3, ![8, 256, 512]⟩
abbrev S8x2304x512 : Shape := ⟨3, ![8, 2304, 512]⟩
abbrev S18432x512 : Shape := ⟨2, ![18432, 512]⟩

abbrev nBuf : Space → Nat
  | .hbm => 35
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S9x1x2048, .f32⟩
  | .hbm, ⟨2, _⟩ => ⟨S9x1x2048, .f32⟩
  | .hbm, ⟨3, _⟩ => ⟨S2048x3072, .f32⟩
  | .hbm, ⟨4, _⟩ => ⟨S8x2304x2048, .f32⟩
  | .hbm, ⟨5, _⟩ => ⟨S8x2048x2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x256x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x1x2048, .f32⟩
  | .hbm, ⟨22, _⟩ => ⟨S8x256x2048, .f32⟩
  | .hbm, ⟨23, _⟩ => ⟨S8x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S8x256x2048, .f32⟩
  | .hbm, ⟨28, _⟩ => ⟨S8x256x2048, .f32⟩
  | .hbm, ⟨29, _⟩ => ⟨S2048x512, .f32⟩
  | .hbm, ⟨30, _⟩ => ⟨S8x2048x512, .f32⟩
  | .hbm, ⟨31, _⟩ => ⟨S8x256x512, .f32⟩
  | .hbm, ⟨32, _⟩ => ⟨S8x2304x512, .f32⟩
  | .hbm, ⟨33, _⟩ => ⟨S18432x512, .f32⟩
  | .hbm, ⟨34, _⟩ => ⟨S18432x512, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Out.lean ====
abbrev S18432x2048 : Shape := ⟨2, ![18432, 2048]⟩
abbrev S2048x2048 : Shape := ⟨2, ![2048, 2048]⟩
abbrev S9x1x2048 : Shape := ⟨3, ![9, 1, 2048]⟩
abbrev S2048 : Shape := ⟨1, ![2048]⟩
abbrev S2048x128 : Shape := ⟨2, ![2048, 128]⟩
abbrev S1x128 : Shape := ⟨2, ![1, 128]⟩
abbrev S1x2048 : Shape := ⟨2, ![1, 2048]⟩
abbrev S18432x128 : Shape := ⟨2, ![18432, 128]⟩
abbrev S8x128 : Shape := ⟨2, ![8, 128]⟩
abbrev S256x2048 : Shape := ⟨2, ![256, 2048]⟩
abbrev S1x1x2048 : Shape := ⟨3, ![1, 1, 2048]⟩
abbrev S256x128 : Shape := ⟨2, ![256, 128]⟩
abbrev S2048x512 : Shape := ⟨2, ![2048, 512]⟩
abbrev S256x512 : Shape := ⟨2, ![256, 512]⟩
abbrev S64x2048 : Shape := ⟨2, ![64, 2048]⟩
abbrev S64 : Shape := ⟨1, ![64]⟩
abbrev S64x1 : Shape := ⟨2, ![64, 1]⟩
abbrev S64x128 : Shape := ⟨2, ![64, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 17
  | .vmem => 25
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S18432x2048, .f32⟩
  | .hbm, ⟨3, _⟩ => ⟨S9x1x2048, .f32⟩
  | .hbm, ⟨4, _⟩ => ⟨S2048, .f32⟩
  | .hbm, ⟨5, _⟩ => ⟨S2048, .f32⟩
  | .hbm, ⟨6, _⟩ => ⟨S9x1x2048, .f32⟩
  | .hbm, ⟨7, _⟩ => ⟨S9x1x2048, .f32⟩
  | .hbm, ⟨8, _⟩ => ⟨S2048x128, .bf16⟩
  | .hbm, ⟨9, _⟩ => ⟨S1x128, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S18432x2048, .f32⟩
  | .hbm, ⟨14, _⟩ => ⟨S18432x2048, .bf16⟩
  | .hbm, ⟨15, _⟩ => ⟨S18432x128, .f32⟩
  | .hbm, ⟨16, _⟩ => ⟨S8x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x128, .bf16⟩
  | .local _ .vmem, ⟨14, _⟩ => ⟨S1x128, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S256x128, .f32⟩
  | .local _ .vmem, ⟨20, _⟩ => ⟨S256x128, .f32⟩
  | .local _ .vmem, ⟨21, _⟩ => ⟨S8x128, .f32⟩
  | .local _ .vmem, ⟨22, _⟩ => ⟨S1x128, .f32⟩
  | .local _ .vmem, ⟨23, _⟩ => ⟨S256x2048, .f32⟩
  | .local _ .vmem, ⟨24, _⟩ => ⟨S256x2048, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![73], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c71_i32 : BitVec 32 := 71#32
  let v0 : BitVec 32 := Scalar.minsi arg0 c71_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 1 := Scalar.cmpi .eq v11 c8_i32
  let c9_i32_5 : BitVec 32 := 9#32
  let v13 : BitVec 32 := Scalar.divsi v1 c9_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c9_i32_5 c0_i32_8
  let v20 : BitVec 32 := Scalar.extui v19
  let c0_i32_9 : BitVec 32 := 0#32
  let v21 : BitVec 1 := Scalar.cmpi .slt c9_i32_5 c0_i32_9
  let v22 : BitVec 32 := Scalar.extui v21
  let v23 : BitVec 32 := Scalar.subi v20 v22
  let v24 : BitVec 1 := Scalar.cmpi .ne v18 v23
  let v25 : BitVec 32 := Scalar.remsi v1 c9_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32_12 : BitVec 32 := 8#32
  let v30 : BitVec 32 := Scalar.select v12 c8_i32_12 v29
  let c0_i32_13 : BitVec 32 := 0#32
  let c0_i32_14 : BitVec 32 := 0#32
  let c0_i32_15 : BitVec 32 := 0#32
  ![v30.toNat, c0_i32_13.toNat, c0_i32_14.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 1 := Scalar.cmpi .eq v11 c8_i32
  let c9_i32_5 : BitVec 32 := 9#32
  let v13 : BitVec 32 := Scalar.divsi v1 c9_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c9_i32_5 c0_i32_8
  let v20 : BitVec 32 := Scalar.extui v19
  let c0_i32_9 : BitVec 32 := 0#32
  let v21 : BitVec 1 := Scalar.cmpi .slt c9_i32_5 c0_i32_9
  let v22 : BitVec 32 := Scalar.extui v21
  let v23 : BitVec 32 := Scalar.subi v20 v22
  let v24 : BitVec 1 := Scalar.cmpi .ne v18 v23
  let v25 : BitVec 32 := Scalar.remsi v1 c9_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32_12 : BitVec 32 := 8#32
  let v30 : BitVec 32 := Scalar.select v12 c8_i32_12 v29
  let c0_i32_13 : BitVec 32 := 0#32
  let c0_i32_14 : BitVec 32 := 0#32
  let c0_i32_15 : BitVec 32 := 0#32
  ![v30.toNat, c0_i32_13.toNat, c0_i32_14.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 1 := Scalar.cmpi .eq v11 c8_i32
  let c9_i32_5 : BitVec 32 := 9#32
  let v13 : BitVec 32 := Scalar.divsi v1 c9_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c9_i32_5 c0_i32_8
  let v20 : BitVec 32 := Scalar.extui v19
  let c0_i32_9 : BitVec 32 := 0#32
  let v21 : BitVec 1 := Scalar.cmpi .slt c9_i32_5 c0_i32_9
  let v22 : BitVec 32 := Scalar.extui v21
  let v23 : BitVec 32 := Scalar.subi v20 v22
  let v24 : BitVec 1 := Scalar.cmpi .ne v18 v23
  let v25 : BitVec 32 := Scalar.remsi v1 c9_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c8_i32_12 : BitVec 32 := 8#32
  let v30 : BitVec 32 := Scalar.select v12 c8_i32_12 v29
  let c0_i32_13 : BitVec 32 := 0#32
  let c0_i32_14 : BitVec 32 := 0#32
  let c0_i32_15 : BitVec 32 := 0#32
  ![v30.toNat, c0_i32_13.toNat, c0_i32_14.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutReferenceIdeal.lean ====
abbrev S18432x2048 : Shape := ⟨2, ![18432, 2048]⟩
abbrev S2048x2048 : Shape := ⟨2, ![2048, 2048]⟩
abbrev S9x1x2048 : Shape := ⟨3, ![9, 1, 2048]⟩
abbrev S2048 : Shape := ⟨1, ![2048]⟩
abbrev S2048x128 : Shape := ⟨2, ![2048, 128]⟩
abbrev S1x128 : Shape := ⟨2, ![1, 128]⟩
abbrev S8x2304x2048 : Shape := ⟨3, ![8, 2304, 2048]⟩
abbrev S8x2048x2048 : Shape := ⟨3, ![8, 2048, 2048]⟩
abbrev S8x256x2048 : Shape := ⟨3, ![8, 256, 2048]⟩
abbrev S8x1x2048 : Shape := ⟨3, ![8, 1, 2048]⟩
abbrev S1x1x2048 : Shape := ⟨3, ![1, 1, 2048]⟩
abbrev S1x2048 : Shape := ⟨2, ![1, 2048]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩

abbrev nBuf : Space → Nat
  | .hbm => 120
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S18432x2048, .f32⟩
  | .hbm, ⟨3, _⟩ => ⟨S9x1x2048, .f32⟩
  | .hbm, ⟨4, _⟩ => ⟨S2048, .f32⟩
  | .hbm, ⟨5, _⟩ => ⟨S2048, .f32⟩
  | .hbm, ⟨6, _⟩ => ⟨S9x1x2048, .f32⟩
  | .hbm, ⟨7, _⟩ => ⟨S9x1x2048, .f32⟩
  | .hbm, ⟨8, _⟩ => ⟨S2048x128, .bf16⟩
  | .hbm, ⟨9, _⟩ => ⟨S1x128, .f32⟩
  | .hbm, ⟨10, _⟩ => ⟨S18432x2048, .f32⟩
  | .hbm, ⟨11, _⟩ => ⟨S8x2304x2048, .f32⟩
  | .hbm, ⟨12, _⟩ => ⟨S8x2304x2048, .f32⟩
  | .hbm, ⟨13, _⟩ => ⟨S8x2048x2048, .f32⟩
  | .hbm, ⟨14, _⟩ => ⟨S8x256x2048, .f32⟩
  | .hbm, ⟨15, _⟩ => ⟨S8x1x2048, .f32⟩
  | .hbm, ⟨16, _⟩ => ⟨S1x1x2048, .f32⟩
  | .hbm, ⟨17, _⟩ => ⟨S1x2048, .f32⟩
  | .hbm, ⟨18, _⟩ => ⟨S8x2048x2048, .f32⟩
  | .hbm, ⟨19, _⟩ => ⟨S8x2048x2048, .f32⟩
  | .hbm, ⟨20, _⟩ => ⟨S8x256x2048, .f32⟩
  | .hbm, ⟨21, _⟩ => ⟨S8x256x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S1x1x2048, .f32⟩
  | .hbm, ⟨52, _⟩ => ⟨S8x2048x2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x256x2048, .f32⟩
  | .hbm, ⟨59, _⟩ => ⟨S8x256x2048, .f32⟩
  | .hbm, ⟨60, _⟩ => ⟨S1x1x2048, .f32⟩
  | .hbm, ⟨61, _⟩ => ⟨S8x256x2048, .f32⟩
  | .hbm, ⟨62, _⟩ => ⟨S8x256x2048, .f32⟩
  | .hbm, ⟨63, _⟩ => ⟨S8x256x2048, .f32⟩
  | .hbm, ⟨64, _⟩ => ⟨S_, .f32⟩
  | .hbm, ⟨65, _⟩ => ⟨S8x256, .f32⟩
  | .hbm, ⟨66, _⟩ => ⟨S8x256x1, .f32⟩
  | .hbm, ⟨67, _⟩ => ⟨S_, .f32⟩
  | .hbm, ⟨68, _⟩ => ⟨S8x256x1, .f32⟩
  | .hbm, ⟨69, _⟩ => ⟨S8x256x1, .f32⟩
  | .hbm, ⟨70, _⟩ => ⟨S8x256x2048, .f32⟩
  | .hbm, ⟨71, _⟩ => ⟨S8x256x2048, .f32⟩
  | .hbm, ⟨72, _⟩ => ⟨S8x256x2048, .f32⟩
  | .hbm, ⟨73, _⟩ => ⟨S_, .f32⟩
  | .hbm, ⟨74, _⟩ => ⟨S8x256, .f32⟩
  | .hbm, ⟨75, _⟩ => ⟨S8x256x1, .f32⟩
  | .hbm, ⟨76, _⟩ => ⟨S_, .f32⟩
  | .hbm, ⟨77, _⟩ => ⟨S8x256x1, .f32⟩
  | .hbm, ⟨78, _⟩ => ⟨S8x256x1, .f32⟩
  | .hbm, ⟨79, _⟩ => ⟨S8x256x2048, .f32⟩
  | .hbm, ⟨80, _⟩ => ⟨S8x256x2048, .f32⟩
  | .hbm, ⟨81, _⟩ => ⟨S_, .f32⟩
  | .hbm, ⟨82, _⟩ => ⟨S8x256x1, .f32⟩
  | .hbm, ⟨83, _⟩ => ⟨S8x256x1, .f32⟩
  | .hbm, ⟨84, _⟩ => ⟨S8x256x1, .f32⟩
  | .hbm, ⟨85, _⟩ => ⟨S8x256x2048, .f32⟩
  | .hbm, ⟨86, _⟩ => ⟨S8x256x2048, .f32⟩
  | .hbm, ⟨87, _⟩ => ⟨S1x1x2048, .f32⟩
  | .hbm, ⟨88, _⟩ => ⟨S8x256x2048, .f32⟩
  | .hbm, ⟨89, _⟩ => ⟨S8x256x2048, .f32⟩
  | .hbm, ⟨90, _⟩ => ⟨S1x1x2048, .f32⟩
  | .hbm, ⟨91, _⟩ => ⟨S8x256x2048, .f32⟩
  | .hbm, ⟨92, _⟩ => ⟨S8x256x2048, .f32⟩
  | .hbm, ⟨93, _⟩ => ⟨S8x1x2048, .f32⟩
  | .hbm, ⟨94, _⟩ => ⟨S_, .f32⟩
  | .hbm, ⟨95, _⟩ => ⟨S8x1x2048, .f32⟩
  | .hbm, ⟨96, _⟩ => ⟨S8x1x2048, .f32⟩
  | .hbm, ⟨97, _⟩ => ⟨S8x2048x2048, .f32⟩
  | .hbm, ⟨98, _⟩ => ⟨S8x2048x2048, .f32⟩
  | .hbm, ⟨99, _⟩ => ⟨S8x1x2048, .f32⟩
  | .hbm, ⟨100, _⟩ => ⟨S8x2048x2048, .f32⟩
  | .hbm, ⟨101, _⟩ => ⟨S8x2048x2048, .f32⟩
  | .hbm, ⟨102, _⟩ => ⟨S1x1x2048, .f32⟩
  | .hbm, ⟨103, _⟩ => ⟨S1x2048, .f32⟩
  | .hbm, ⟨104, _⟩ => ⟨S_, .f32⟩
  | .hbm, ⟨105, _⟩ => ⟨S1x2048, .f32⟩
  | .hbm, ⟨106, _⟩ => ⟨S1x2048, .f32⟩
  | .hbm, ⟨107, _⟩ => ⟨S1x1x2048, .f32⟩
  | .hbm, ⟨108, _⟩ => ⟨S8x256x2048, .f32⟩
  | .hbm, ⟨109, _⟩ => ⟨S8x256x2048, .f32⟩
  | .hbm, ⟨110, _⟩ => ⟨S1x1x2048, .f32⟩
  | .hbm, ⟨111, _⟩ => ⟨S1x2048, .f32⟩
  | .hbm, ⟨112, _⟩ => ⟨S1x1x2048, .f32⟩
  | .hbm, ⟨113, _⟩ => ⟨S8x256x2048, .f32⟩
  | .hbm, ⟨114, _⟩ => ⟨S8x256x2048, .f32⟩
  | .hbm, ⟨115, _⟩ => ⟨S8x2304x2048, .f32⟩
  | .hbm, ⟨116, _⟩ => ⟨S18432x2048, .f32⟩
  | .hbm, ⟨117, _⟩ => ⟨S8x2304x2048, .f32⟩
  | .hbm, ⟨118, _⟩ => ⟨S18432x2048, .f32⟩
  | .hbm, ⟨119, _⟩ => ⟨S18432x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Mod.lean ====
abbrev S16x2048 : Shape := ⟨2, ![16, 2048]⟩
abbrev S2048x12288 : Shape := ⟨2, ![2048, 12288]⟩
abbrev S12288 : Shape := ⟨1, ![12288]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S16x2048 : Shape := ⟨2, ![16, 2048]⟩
abbrev S2048x12288 : Shape := ⟨2, ![2048, 12288]⟩
abbrev S12288 : Shape := ⟨1, ![12288]⟩
abbrev S_ : Shape := ⟨0, ![]⟩
abbrev S16x12288 : Shape := ⟨2, ![16, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x12288, .f32⟩
  | .hbm, ⟨2, _⟩ => ⟨S12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x12288, .f32⟩
  | .hbm, ⟨13, _⟩ => ⟨S1x12288, .f32⟩
  | .hbm, ⟨14, _⟩ => ⟨S16x12288, .f32⟩
  | .hbm, ⟨15, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Comb.lean ====
abbrev S18432x2048 : Shape := ⟨2, ![18432, 2048]⟩
abbrev S18432x128 : Shape := ⟨2, ![18432, 128]⟩
abbrev S9x1x2048 : Shape := ⟨3, ![9, 1, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256x1024 : Shape := ⟨2, ![256, 1024]⟩
abbrev S256 : Shape := ⟨1, ![256]⟩

abbrev nBuf : Space → Nat
  | .hbm => 10
  | .vmem => 14
  | .smem => 0
  | _ => 0

abbrev bufTy : (tb : Table) → Fin (tcTables nBuf tb) → BufTy
  | .hbm, ⟨0, _⟩ => ⟨S18432x2048, .f32⟩
  | .hbm, ⟨1, _⟩ => ⟨S18432x2048, .bf16⟩
  | .hbm, ⟨2, _⟩ => ⟨S18432x2048, .bf16⟩
  | .hbm, ⟨3, _⟩ => ⟨S18432x128, .f32⟩
  | .hbm, ⟨4, _⟩ => ⟨S9x1x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S18432x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 1 := Scalar.cmpi .eq v9 c8_i32
  let c9_i32_3 : BitVec 32 := 9#32
  let v11 : BitVec 32 := Scalar.divsi arg0 c9_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c9_i32_3 c0_i32_6
  let v18 : BitVec 32 := Scalar.extui v17
  let c0_i32_7 : BitVec 32 := 0#32
  let v19 : BitVec 1 := Scalar.cmpi .slt c9_i32_3 c0_i32_7
  let v20 : BitVec 32 := Scalar.extui v19
  let v21 : BitVec 32 := Scalar.subi v18 v20
  let v22 : BitVec 1 := Scalar.cmpi .ne v16 v21
  let v23 : BitVec 32 := Scalar.remsi arg0 c9_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c8_i32_10 : BitVec 32 := 8#32
  let v28 : BitVec 32 := Scalar.select v10 c8_i32_10 v27
  let c0_i32_11 : BitVec 32 := 0#32
  let c0_i32_12 : BitVec 32 := 0#32
  let c0_i32_13 : BitVec 32 := 0#32
  ![v28.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombReferenceIdeal.lean ====
abbrev S18432x2048 : Shape := ⟨2, ![18432, 2048]⟩
abbrev S18432x128 : Shape := ⟨2, ![18432, 128]⟩
abbrev S9x1x2048 : Shape := ⟨3, ![9, 1, 2048]⟩
abbrev S2048 : Shape := ⟨1, ![2048]⟩
abbrev S18432x2 : Shape := ⟨2, ![18432, 2]⟩
abbrev S18432x1 : Shape := ⟨2, ![18432, 1]⟩
abbrev S8x2304x2048 : Shape := ⟨3, ![8, 2304, 2048]⟩
abbrev S8x2048x2048 : Shape := ⟨3, ![8, 2048, 2048]⟩
abbrev S_ : Shape := ⟨0, ![]⟩
abbrev S8x1x2048 : Shape := ⟨3, ![8, 1, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x256x2048 : Shape := ⟨3, ![8, 256, 2048]⟩
abbrev S1x2048 : Shape := ⟨2, ![1, 2048]⟩
abbrev S8x256 : Shape := ⟨2, ![8, 256]⟩
abbrev S8x256x1 : Shape := ⟨3, ![8, 256, 1]⟩

abbrev nBuf : Space → Nat
  | .hbm => 99
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S18432x2048, .bf16⟩
  | .hbm, ⟨2, _⟩ => ⟨S18432x2048, .bf16⟩
  | .hbm, ⟨3, _⟩ => ⟨S18432x128, .f32⟩
  | .hbm, ⟨4, _⟩ => ⟨S9x1x2048, .f32⟩
  | .hbm, ⟨5, _⟩ => ⟨S2048, .f32⟩
  | .hbm, ⟨6, _⟩ => ⟨S2048, .f32⟩
  | .hbm, ⟨7, _⟩ => ⟨S18432x2, .f32⟩
  | .hbm, ⟨8, _⟩ => ⟨S18432x2048, .f32⟩
  | .hbm, ⟨9, _⟩ => ⟨S18432x1, .f32⟩
  | .hbm, ⟨10, _⟩ => ⟨S18432x2048, .f32⟩
  | .hbm, ⟨11, _⟩ => ⟨S18432x2048, .f32⟩
  | .hbm, ⟨12, _⟩ => ⟨S18432x2048, .f32⟩
  | .hbm, ⟨13, _⟩ => ⟨S18432x1, .f32⟩
  | .hbm, ⟨14, _⟩ => ⟨S18432x2048, .f32⟩
  | .hbm, ⟨15, _⟩ => ⟨S18432x2048, .f32⟩
  | .hbm, ⟨16, _⟩ => ⟨S18432x2048, .f32⟩
  | .hbm, ⟨17, _⟩ => ⟨S8x2304x2048, .f32⟩
  | .hbm, ⟨18, _⟩ => ⟨S8x2304x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S1x1x2048, .f32⟩
  | .hbm, ⟨52, _⟩ => ⟨S8x2048x2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | .hbm, ⟨57, _⟩ => ⟨S8x256x2048, .f32⟩
  | .hbm, ⟨58, _⟩ => ⟨S_, .f32⟩
  | .hbm, ⟨59, _⟩ => ⟨S8x256x2048, .f32⟩
  | .hbm, ⟨60, _⟩ => ⟨S8x256x2048, .f32⟩
  | .hbm, ⟨61, _⟩ => ⟨S1x1x2048, .f32⟩
  | .hbm, ⟨62, _⟩ => ⟨S1x2048, .f32⟩
  | .hbm, ⟨63, _⟩ => ⟨S8x256x2048, .f32⟩
  | .hbm, ⟨64, _⟩ => ⟨S1x1x2048, .f32⟩
  | .hbm, ⟨65, _⟩ => ⟨S8x256x2048, .f32⟩
  | .hbm, ⟨66, _⟩ => ⟨S8x256x2048, .f32⟩
  | .hbm, ⟨67, _⟩ => ⟨S8x256x2048, .f32⟩
  | .hbm, ⟨68, _⟩ => ⟨S_, .f32⟩
  | .hbm, ⟨69, _⟩ => ⟨S8x256, .f32⟩
  | .hbm, ⟨70, _⟩ => ⟨S8x256x1, .f32⟩
  | .hbm, ⟨71, _⟩ => ⟨S_, .f32⟩
  | .hbm, ⟨72, _⟩ => ⟨S8x256x1, .f32⟩
  | .hbm, ⟨73, _⟩ => ⟨S8x256x1, .f32⟩
  | .hbm, ⟨74, _⟩ => ⟨S8x256x2048, .f32⟩
  | .hbm, ⟨75, _⟩ => ⟨S8x256x2048, .f32⟩
  | .hbm, ⟨76, _⟩ => ⟨S8x256x2048, .f32⟩
  | .hbm, ⟨77, _⟩ => ⟨S_, .f32⟩
  | .hbm, ⟨78, _⟩ => ⟨S8x256, .f32⟩
  | .hbm, ⟨79, _⟩ => ⟨S8x256x1, .f32⟩
  | .hbm, ⟨80, _⟩ => ⟨S_, .f32⟩
  | .hbm, ⟨81, _⟩ => ⟨S8x256x1, .f32⟩
  | .hbm, ⟨82, _⟩ => ⟨S8x256x1, .f32⟩
  | .hbm, ⟨83, _⟩ => ⟨S8x256x2048, .f32⟩
  | .hbm, ⟨84, _⟩ => ⟨S8x256x2048, .f32⟩
  | .hbm, ⟨85, _⟩ => ⟨S_, .f32⟩
  | .hbm, ⟨86, _⟩ => ⟨S8x256x1, .f32⟩
  | .hbm, ⟨87, _⟩ => ⟨S8x256x1, .f32⟩
  | .hbm, ⟨88, _⟩ => ⟨S8x256x1, .f32⟩
  | .hbm, ⟨89, _⟩ => ⟨S8x256x2048, .f32⟩
  | .hbm, ⟨90, _⟩ => ⟨S8x256x2048, .f32⟩
  | .hbm, ⟨91, _⟩ => ⟨S1x1x2048, .f32⟩
  | .hbm, ⟨92, _⟩ => ⟨S8x256x2048, .f32⟩
  | .hbm, ⟨93, _⟩ => ⟨S8x256x2048, .f32⟩
  | .hbm, ⟨94, _⟩ => ⟨S1x1x2048, .f32⟩
  | .hbm, ⟨95, _⟩ => ⟨S8x256x2048, .f32⟩
  | .hbm, ⟨96, _⟩ => ⟨S8x256x2048, .f32⟩
  | .hbm, ⟨97, _⟩ => ⟨S8x2304x2048, .f32⟩
  | .hbm, ⟨98, _⟩ => ⟨S18432x2048, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Proof.Rows.lean ====
/- One row of differential attention over the extended reals: the row as the kernel computes it (powers of two, one
   reciprocal per softmax, the second softmax's weight folded into its reciprocal), the row as the mathematics states
   it (exponentials of scaled scores, quotients, a weighted difference), and their equality wherever the scores are
   finite numbers. Nothing here mentions a program. -/
module

public import Idealize.ShloMosaic.PureOps.Ideal
public import Idealize.ShloMosaic.Lib.IdealHost

@[expose] public section

noncomputable section

namespace Diff

open Idealize.ShloMosaic

variable {n : ℕ}

/-- The largest of a row of scores, from minus infinity. -/
def top (s : Fin n → EReal) : EReal := Finset.univ.fold max ⊥ s

/-- A score's weight as a power of two: the distance to the largest score, times a constant. -/
def pow2 (a : EReal) (s : Fin n → EReal) (j : Fin n) : EReal := Ideal.exp2 ((s j - top s) * a)

/-- A scaled score's weight as an exponential: the distance to the largest scaled score. -/
def expo (b : EReal) (s : Fin n → EReal) (j : Fin n) : EReal :=
  Ideal.exp (s j * b - top fun k => s k * b)

/-- The difference of the two attention maps at one key, by reciprocals of the two sums. -/
def mapK (a lam : EReal) (s t : Fin n → EReal) (j : Fin n) : EReal :=
  pow2 a s j * Ideal.div 1 (∑ k, pow2 a s k) - pow2 a t j * Ideal.div lam (∑ k, pow2 a t k)

/-- The difference of the two attention maps at one key, as the two softmaxes and their weighted difference. -/
def mapR (b lam : EReal) (s t : Fin n → EReal) (j : Fin n) : EReal :=
  Ideal.div (expo b s j) (∑ k, expo b s k) - lam * Ideal.div (expo b t j) (∑ k, expo b t k)

/-- The inverse root mean square of a row of 256, with the small constant in it. -/
def invRms (o : Fin 256 → EReal) : EReal :=
  Ideal.rsqrt (Ideal.div (∑ k, o k * o k) (Ideal.ofBits .f32 0x43800000#32) + Ideal.ofBits .f32 0x3727C5AC#32)

/-- A real times a positive scale keeps maxima: scaling a row scales its largest entry. -/
theorem top_mul (s : Fin n → EReal) (b : ℝ) (hb : 0 < b) : (top fun k => s k * (b : EReal)) = top s * (b : EReal) := by
  have hm : Monotone fun x : EReal => x * (b : EReal) := fun x y h =>
    mul_le_mul_of_nonneg_right h (by exact_mod_cast hb.le)
  unfold top
  induction (Finset.univ : Finset (Fin n)) using Finset.induction_on with
  | empty => simp [EReal.bot_mul_coe_of_pos hb]
  | insert i u hi ih => rw [Finset.fold_insert hi, Finset.fold_insert hi, ih]; exact (hm.map_max).symm

/-- Every entry is at most the largest. -/
theorem le_top' (s : Fin n → EReal) (j : Fin n) : s j ≤ top s :=
  (Finset.le_fold_max _).mpr (.inr ⟨j, Finset.mem_univ j, le_rfl⟩)

/-- The largest of a nonempty row of reals is a real. -/
theorem top_real (s : Fin n → EReal) (σ : Fin n → ℝ) (hs : ∀ j, s j = (σ j : EReal)) (j₀ : Fin n) :
    ∃ μ : ℝ, top s = (μ : EReal) := by
  have h1 : top s ≠ ⊥ := fun h => by
    have := le_top' s j₀
    rw [h, hs j₀] at this
    exact absurd (le_bot_iff.mp this) (EReal.coe_ne_bot _)
  have h2 : top s ≠ ⊤ := by
    refine ne_of_lt ?_
    refine (Finset.fold_max_lt _).mpr ⟨bot_lt_top, fun j _ => ?_⟩
    rw [hs j]; exact EReal.coe_lt_top _
  exact ⟨(top s).toReal, (EReal.coe_toReal h2 h1).symm⟩

/-- The two weights agree on real scores, and are positive reals: `2 ^ ((s − M)·(log₂e·b)) = e ^ (s·b − M·b)`. -/
theorem pow2_eq_expo (b : ℝ) (hb : 0 < b) (s : Fin n → EReal) (σ : Fin n → ℝ) (hs : ∀ j, s j = (σ j : EReal)) (j : Fin n) :
    pow2 (((Real.log 2)⁻¹ * b : ℝ) : EReal) s j = expo (b : EReal) s j ∧ ∃ r : ℝ, 0 < r ∧ expo (b : EReal) s j = (r : EReal) := by
  obtain ⟨μ, hμ⟩ := top_real s σ hs j
  have hl : Real.log 2 ≠ 0 := (Real.log_pos (by norm_num)).ne'
  have e1 : expo (b : EReal) s j = ((Real.exp (σ j * b - μ * b) : ℝ) : EReal) := by
    unfold expo
    rw [top_mul s b hb, hμ, hs j, ← EReal.coe_mul, ← EReal.coe_mul, ← EReal.coe_sub]
    rfl
  refine ⟨?_, _, Real.exp_pos _, e1⟩
  rw [e1]
  unfold pow2
  rw [hμ, hs j, ← EReal.coe_sub, ← EReal.coe_mul, Ideal.exp2_coe]
  congr 1
  show (2 : ℝ) ^ ((σ j - μ) * ((Real.log 2)⁻¹ * b) : ℝ) = _
  rw [Real.rpow_def_of_pos (by norm_num)]
  congr 1
  field_simp

/-- The embedding of the reals takes finite sums to finite sums. -/
theorem coe_sum (f : Fin n → ℝ) : ((∑ k, f k : ℝ) : EReal) = ∑ k, (f k : EReal) := by
  induction (Finset.univ : Finset (Fin n)) using Finset.induction_on with
  | empty => simp
  | insert i u hi ih => rw [Finset.sum_insert hi, Finset.sum_insert hi, EReal.coe_add, ih]

/-- A nonempty sum of positive reals is a positive real. -/
theorem sum_pos_real (e : Fin n → EReal) (h : ∀ j, ∃ r : ℝ, 0 < r ∧ e j = (r : EReal)) (j₀ : Fin n) :
    (∑ k, e k) ≠ 0 := by
  choose r hr he using h
  have : (∑ k, e k) = ((∑ k, r k : ℝ) : EReal) := by
    rw [Finset.sum_congr rfl fun k _ => he k]; exact (coe_sum _).symm
  rw [this]
  exact_mod_cast (Finset.sum_pos (fun k _ => hr k) ⟨j₀, Finset.mem_univ _⟩).ne'

/-- THE EQUATION OF ONE ROW: on real scores the kernel's difference of attention maps is the mathematics'. -/
theorem mapK_eq_mapR (b : ℝ) (hb : 0 < b) (lam : EReal) (s t : Fin n → EReal)
    (hs : ∀ j, ∃ r : ℝ, s j = (r : EReal)) (ht : ∀ j, ∃ r : ℝ, t j = (r : EReal)) (j : Fin n) :
    mapK (((Real.log 2)⁻¹ * b : ℝ) : EReal) lam s t j = mapR (b : EReal) lam s t j := by
  choose σ hσ using hs
  choose τ hτ using ht
  have ps := fun k => pow2_eq_expo b hb s σ hσ k
  have pt := fun k => pow2_eq_expo b hb t τ hτ k
  unfold mapK mapR
  rw [(ps j).1, (pt j).1, Finset.sum_congr rfl fun k _ => (ps k).1, Finset.sum_congr rfl fun k _ => (pt k).1]
  have h1 := sum_pos_real _ (fun k => (ps k).2) j
  have h2 := sum_pos_real _ (fun k => (pt k).2) j
  unfold Ideal.div
  rw [if_neg h1, if_neg h1, if_neg h2, if_neg h2, one_mul, mul_left_comm]

/-- A sum of products of reals is a real. -/
theorem dot_real {m : ℕ} (x y : Fin m → EReal) (hx : ∀ k, ∃ r : ℝ, x k = (r : EReal)) (hy : ∀ k, ∃ r : ℝ, y k = (r : EReal)) :
    ∃ r : ℝ, (∑ k, x k * y k) = (r : EReal) := by
  choose f hf using hx
  choose g hg using hy
  refine ⟨∑ k, f k * g k, ?_⟩
  rw [coe_sum]
  exact Finset.sum_congr rfl fun k _ => by rw [hf, hg, EReal.coe_mul]

/-- The number that the reference divides by, `128`, read off its bits. -/
theorem ofBits_128 : Ideal.ofBits .f32 0x43000000#32 = ((128 : ℝ) : EReal) := by
  simp [Ideal.ofBits, Ideal.ieee, -EReal.coe_mul]; norm_num

/-- The scale `1 / √128` as the reference forms it, a real number. -/
theorem scale_eq : Ideal.div 1 (Ideal.sqrt (Ideal.ofBits .f32 0x43000000#32)) = (((Real.sqrt 128)⁻¹ : ℝ) : EReal) := by
  have h0 : Real.sqrt 128 ≠ 0 := (Real.sqrt_pos.mpr (by norm_num)).ne'
  have h1 : Ideal.sqrt ((128 : ℝ) : EReal) = ((Real.sqrt 128 : ℝ) : EReal) := by
    show (if (128 : ℝ) < 0 then ⊥ else ((Real.sqrt 128 : ℝ) : EReal)) = _
    rw [if_neg (by norm_num)]
  rw [ofBits_128, h1]
  unfold Ideal.div
  rw [if_neg (by exact_mod_cast h0), one_mul, EReal.coe_inv]

end Diff

end
-- ==== Proof.Pays.lean ====
/- The kernel's payloads read at one index, at exact arithmetic: the scores as sums over the 128 channels of a half
   head, the difference of attention maps and the normalized output row as the functions of Rows.lean. The four
   256-row sub-blocks of a loop trip and the trailing block of context rows all come out as the same functions. -/
module

public import proofs.«01_k».proof.Proof.Rows
public import proofs.«01_k».proof.Proof.Gen.KernelIdeal.Skeleton
public import Idealize.ShloMosaic.Lib.Pointwise

@[expose] public section

set_option maxRecDepth 16384

noncomputable section

namespace Diff

open Idealize.ShloMosaic Cert.KernelIdeal Cert.KernelIdeal.Gen

/-- The kernel's scale inside its powers of two. -/
def kap : EReal := Named.named (F := Ideal) (φ := .f32) κ "log2e_inv_sqrt_d" 0x3E0293EE#32

/-- The scale is the real number `1 / (log 2 · √128)`. -/
theorem kap_eq : kap = (((Real.log 2)⁻¹ * (Real.sqrt 128)⁻¹ : ℝ) : EReal) := rfl

/-- One row of output: the weighted sum of the values, its root-mean-square norm, and the gain. -/
def outRow {n : ℕ} (P : Fin n → EReal) (V : Fin n → Fin 256 → EReal) (g : Fin 256 → EReal) (c : Fin 256) : EReal :=
  (∑ j, P j * V j c) * invRms (fun e => ∑ j, P j * V j e) * g c

/-- The bits of minus infinity. -/
theorem ofBits_ninf : Ideal.ofBits .f32 0xFF800000#32 = ⊥ := by
  simp [Ideal.ofBits, Ideal.ieee]

/-- Scores of the first sub-block, first half of the head. -/
theorem low0 (q : Vec Ideal S256x256 .bf16) (k : Vec Ideal S2304x128 .bf16) (r : Fin 256) (j : Fin 2304) :
    k0_pay2 q k (ix2 r j) = ∑ d : Fin 128, q (ix2 r ⟨d, by omega⟩) * k (ix2 j d) := by
  pointwise [k0_pay2]

/-- Scores of the first sub-block, second half of the head. -/
theorem high0 (q : Vec Ideal S256x256 .bf16) (k : Vec Ideal S2304x128 .bf16) (r : Fin 256) (j : Fin 2304) :
    k0_pay3 q k (ix2 r j) = ∑ d : Fin 128, q (ix2 r ⟨128 + d, by omega⟩) * k (ix2 j d) := by
  pointwise [k0_pay3]

/-- Scores of the second sub-block, first half of the head. -/
theorem low1 (q : Vec Ideal S256x256 .bf16) (k : Vec Ideal S2304x128 .bf16) (r : Fin 256) (j : Fin 2304) :
    k0_pay4 q k (ix2 r j) = ∑ d : Fin 128, q (ix2 r ⟨d, by omega⟩) * k (ix2 j d) := by
  pointwise [k0_pay4]

/-- Scores of the second sub-block, second half of the head. -/
theorem high1 (q : Vec Ideal S256x256 .bf16) (k : Vec Ideal S2304x128 .bf16) (r : Fin 256) (j : Fin 2304) :
    k0_pay5 q k (ix2 r j) = ∑ d : Fin 128, q (ix2 r ⟨128 + d, by omega⟩) * k (ix2 j d) := by
  pointwise [k0_pay5]

/-- Scores of the third sub-block, first half of the head. -/
theorem low2 (q : Vec Ideal S256x256 .bf16) (k : Vec Ideal S2304x128 .bf16) (r : Fin 256) (j : Fin 2304) :
    k0_pay6 q k (ix2 r j) = ∑ d : Fin 128, q (ix2 r ⟨d, by omega⟩) * k (ix2 j d) := by
  pointwise [k0_pay6]

/-- Scores of the third sub-block, second half of the head. -/
theorem high2 (q : Vec Ideal S256x256 .bf16) (k : Vec Ideal S2304x128 .bf16) (r : Fin 256) (j : Fin 2304) :
    k0_pay7 q k (ix2 r j) = ∑ d : Fin 128, q (ix2 r ⟨128 + d, by omega⟩) * k (ix2 j d) := by
  pointwise [k0_pay7]

/-- Scores of the fourth sub-block, first half of the head. -/
theorem low3 (q : Vec Ideal S256x256 .bf16) (k : Vec Ideal S2304x128 .bf16) (r : Fin 256) (j : Fin 2304) :
    k0_pay8 q k (ix2 r j) = ∑ d : Fin 128, q (ix2 r ⟨d, by omega⟩) * k (ix2 j d) := by
  pointwise [k0_pay8]

/-- Scores of the fourth sub-block, second half of the head. -/
theorem high3 (q : Vec Ideal S256x256 .bf16) (k : Vec Ideal S2304x128 .bf16) (r : Fin 256) (j : Fin 2304) :
    k0_pay9 q k (ix2 r j) = ∑ d : Fin 128, q (ix2 r ⟨128 + d, by omega⟩) * k (ix2 j d) := by
  pointwise [k0_pay9]

/-- Difference of attention maps, first sub-block. -/
theorem map0 (a : FVec Ideal S1x1 .f32) (s t : FVec Ideal S256x2304 .f32) (r : Fin 256) (j : Fin 2304) :
    k0_pay13 (k0_pay10 t) (k0_pay11 s) (k0_pay12 a t) (ix2 r j) = mapK kap (a (ix2 0 0)) (fun k => s (ix2 r k)) (fun k => t (ix2 r k)) j := by
  pointwise [k0_pay13, k0_pay12, k0_pay11, k0_pay10]
  rw [ofBits_ninf]
  rfl

/-- Output rows, first sub-block. -/
theorem out0 (g : FVec Ideal S1x256 .f32) (P : FVec Ideal S256x2304 .bf16) (v : Vec Ideal S2304x256 .bf16) (r c : Fin 256) :
    k0_pay23 g (k0_pay20 P v) (k0_pay21 P v) k0_pay22 (ix2 r c) = outRow (fun j => P (ix2 r j)) (fun j e => v (ix2 j e)) (fun e => g (ix2 0 e)) c := by
  pointwise [k0_pay23, k0_pay22, k0_pay21, k0_pay20]
  rfl

/-- Difference of attention maps, second sub-block. -/
theorem map1 (a : FVec Ideal S1x1 .f32) (s t : FVec Ideal S256x2304 .f32) (r : Fin 256) (j : Fin 2304) :
    k0_pay14 a s t (ix2 r j) = mapK kap (a (ix2 0 0)) (fun k => s (ix2 r k)) (fun k => t (ix2 r k)) j := by
  pointwise [k0_pay14]
  rw [ofBits_ninf]
  rfl

/-- Output rows, second sub-block. -/
theorem out1 (g : FVec Ideal S1x256 .f32) (P : FVec Ideal S256x2304 .bf16) (v : Vec Ideal S2304x256 .bf16) (r c : Fin 256) :
    k0_pay24 g P v (ix2 r c) = outRow (fun j => P (ix2 r j)) (fun j e => v (ix2 j e)) (fun e => g (ix2 0 e)) c := by
  pointwise [k0_pay24]
  rfl

/-- Difference of attention maps, third sub-block. -/
theorem map2 (a : FVec Ideal S1x1 .f32) (s t : FVec Ideal S256x2304 .f32) (r : Fin 256) (j : Fin 2304) :
    k0_pay18 a (k0_pay15 s) (k0_pay16 s) (k0_pay17 t) (ix2 r j) = mapK kap (a (ix2 0 0)) (fun k => s (ix2 r k)) (fun k => t (ix2 r k)) j := by
  pointwise [k0_pay18, k0_pay16, k0_pay15, k0_pay17]
  rw [ofBits_ninf]
  rfl

/-- Output rows, third sub-block. -/
theorem out2 (g : FVec Ideal S1x256 .f32) (P : FVec Ideal S256x2304 .bf16) (v : Vec Ideal S2304x256 .bf16) (r c : Fin 256) :
    k0_pay25 g P v (ix2 r c) = outRow (fun j => P (ix2 r j)) (fun j e => v (ix2 j e)) (fun e => g (ix2 0 e)) c := by
  pointwise [k0_pay25]
  rfl

/-- Difference of attention maps, fourth sub-block. -/
theorem map3 (a : FVec Ideal S1x1 .f32) (s t : FVec Ideal S256x2304 .f32) (r : Fin 256) (j : Fin 2304) :
    k0_pay19 a s t (ix2 r j) = mapK kap (a (ix2 0 0)) (fun k => s (ix2 r k)) (fun k => t (ix2 r k)) j := by
  pointwise [k0_pay19]
  rw [ofBits_ninf]
  rfl

/-- Output rows, fourth sub-block. -/
theorem out3 (x : FVec Ideal S1x256 .f32) (P : FVec Ideal S256x2304 .bf16) (v : Vec Ideal S2304x256 .bf16) (r c : Fin 256) :
    k0_pay28 x P v (ix2 r c) = outRow (fun j => P (ix2 r j)) (fun j e => v (ix2 j e)) (fun e => x (ix2 0 e) * Ideal.ofBits .f32 0x3EE34C57#32) c := by
  pointwise [k0_pay28, k0_pay27]
  rfl

/-- The weight of the second map, from the four vectors. -/
def lamOf (x : Fin 4 → Fin 128 → EReal) : EReal :=
  Ideal.exp (∑ d, x 0 d * x 1 d) - Ideal.exp (∑ d, x 2 d * x 3 d) + Ideal.ofBits .f32 0x3F0E59D5#32

/-- The kernel's weight of the second map. -/
theorem lam_at (x : Vec Ideal S4x128 .f32) : k0_pay26 x (ix2 0 0) = lamOf fun a d => x (ix2 a d) := by
  pointwise [k0_pay26]
  rfl

/-- The kernel's gain. -/
theorem gain_at (x : Vec Ideal S1x256 .f32) (c : Fin 256) :
    k0_pay27 x (ix2 0 c) = x (ix2 0 c) * Ideal.ofBits .f32 0x3EE34C57#32 := by
  pointwise [k0_pay27]

/-- Context rows: the scores of the second half of the head. -/
theorem highC (q : Vec Ideal S256x256 .bf16) (k : Vec Ideal S256x128 .bf16) (r j : Fin 256) :
    k0_pay29 q k (ix2 r j) = ∑ d : Fin 128, q (ix2 r ⟨128 + d, by omega⟩) * k (ix2 j d) := by
  pointwise [k0_pay29]

/-- Context rows: the weights of the first half of the head. -/
theorem lowC (q : Vec Ideal S256x256 .bf16) (k : Vec Ideal S256x128 .bf16) (r j : Fin 256) :
    k0_pay30 q k (ix2 r j) = pow2 kap (fun j => ∑ d : Fin 128, q (ix2 r ⟨d, by omega⟩) * k (ix2 j d)) j := by
  pointwise [k0_pay30]
  rw [ofBits_ninf]
  rfl

/-- Context rows: the output. -/
theorem outC (a : FVec Ideal S1x1 .f32) (g : FVec Ideal S1x256 .f32) (q : Vec Ideal S256x256 .bf16) (k1 k2 : Vec Ideal S256x128 .bf16)
    (v : Vec Ideal S256x256 .bf16) (r c : Fin 256) :
    k0_pay1 a g (k0_pay29 q k2) (k0_pay30 q k1) v (ix2 r c)
      = outRow (mapK kap (a (ix2 0 0)) (fun j => ∑ d : Fin 128, q (ix2 r ⟨d, by omega⟩) * k1 (ix2 j d))
          (fun j => ∑ d : Fin 128, q (ix2 r ⟨128 + d, by omega⟩) * k2 (ix2 j d)))
        (fun j e => v (ix2 j e)) (fun e => g (ix2 0 e)) c := by
  pointwise [k0_pay1]
  simp only [lowC, highC]
  rw [ofBits_ninf]
  rfl

end Diff

end
-- ==== Proof.Block.lean ====
/- What the kernel's body leaves in the output block of one batch element and head: the latent rows attend to all 2304
   keys, the context rows to the context keys, and each row is the row function of Rows.lean and Pays.lean. -/
module

public import proofs.«01_k».proof.Proof.Pays
public import proofs.«01_k».proof.Proof.Gen.KernelIdeal.Value
public import Idealize.ShloMosaic.Lib.Pipeline.ValueKit

@[expose] public section

set_option maxRecDepth 16384

noncomputable section

namespace Diff

open Idealize.ShloMosaic Cert.KernelIdeal Cert.KernelIdeal.Gen
open Idealize.ShloMosaic.Tactic
open Idealize.SL Idealize.SL.RA Idealize.SL.BI Idealize.SL.Sem

/-- Scores of query row `ρ` against the keys `key j`, first half of the head. -/
def low {n : ℕ} (q k : Fin 2304 → Fin 256 → EReal) (key : Fin n → Fin 2304) (ρ : Fin 2304) (j : Fin n) : EReal :=
  ∑ d : Fin 128, q ρ ⟨d, by omega⟩ * k (key j) ⟨d, by omega⟩

/-- Scores of query row `ρ` against the keys `key j`, second half of the head. -/
def high {n : ℕ} (q k : Fin 2304 → Fin 256 → EReal) (key : Fin n → Fin 2304) (ρ : Fin 2304) (j : Fin n) : EReal :=
  ∑ d : Fin 128, q ρ ⟨128 + d, by omega⟩ * k (key j) ⟨128 + d, by omega⟩

/-- The output row `ρ` of one head over the keys `key j`, as the kernel computes it. -/
def rowK {n : ℕ} (key : Fin n → Fin 2304) (lam : EReal) (g : Fin 256 → EReal) (q k v : Fin 2304 → Fin 256 → EReal)
    (ρ : Fin 2304) (c : Fin 256) : EReal :=
  outRow (mapK kap lam (low q k key ρ) (high q k key ρ)) (fun j e => v (key j) e) g c

/-- The context keys: the last 256 of the 2304. -/
def ctxKey (j : Fin 256) : Fin 2304 := ⟨2048 + j, by omega⟩

/-- The block of one batch element and head: latent rows over all keys, context rows over the context keys. -/
def blockK (lam : EReal) (g : Fin 256 → EReal) (q k v : Fin 2304 → Fin 256 → EReal) (ρ : Fin 2304) (c : Fin 256) : EReal :=
  if ρ.val < 2048 then rowK id lam g q k v ρ c else rowK ctxKey lam g q k v ρ c

/-- Trip `k`'s four row offsets. -/
theorem off_eq (k : Fin k0_t1_loop.trips) (r : Fin 4) : k0_off1 k (BitVec.ofNat 32 r.val) = ![(k.val * 4 + r.val) * 256, 0] := by
  revert k r
  exact (by decide +kernel : ∀ k : Fin k0_t1_loop.trips, ∀ r : Fin 4,
    k0_off1 k (BitVec.ofNat 32 r.val) = ![(k.val * 4 + r.val) * 256, 0])

variable (𝒱 : Variants) (c : Dev nD) (bd : Option 𝒱.V) (i : grid0.Coords)
  (a2 : Memref sig .tc .vmem S4x128 .f32) (h2 : a2.IsWhole) (a3 : Memref sig .tc .vmem S1x256 .f32) (h3 : a3.IsWhole)
  (a4 : Memref sig .tc .vmem S2304x256 .bf16) (h4 : a4.IsWhole) (a5 : Memref sig .tc .vmem S2304x256 .bf16) (h5 : a5.IsWhole)
  (a6 : Memref sig .tc .vmem S2304x256 .bf16) (h6 : a6.IsWhole) (a7 : Memref sig .tc .vmem S2304x256 .bf16) (h7 : a7.IsWhole)
  (x0 : Vec Ideal S4x128 .f32) (x1 : Vec Ideal S1x256 .f32) (q k v : Vec Ideal S2304x256 .bf16)

/-- Queries of one sub-block, loaded at the given rows. -/
def qAt (off : Fin 2 → ℕ) (inb : ∀ a, off a + S256x256.size a ≤ S2304x256.size a) : Vec Ideal S256x256 .bf16 :=
  View.readAt (Elt Ideal) a4.view (Rect.unit (s := S2304x256) off S256x256.size inb).toLoadRect (h4.unread q)

/-- The first 128 channels of every key. -/
def kLow : Vec Ideal S2304x128 .bf16 :=
  View.readAt (Elt Ideal) a5.view (Rect.unit (s := S2304x256) ![0, 0] S2304x128.size inb_S2304x256_S2304x128_0_0).toLoadRect (h5.unread k)

/-- The last 128 channels of every key. -/
def kHigh : Vec Ideal S2304x128 .bf16 :=
  View.readAt (Elt Ideal) a5.view (Rect.unit (s := S2304x256) ![0, 128] S2304x128.size inb_S2304x256_S2304x128_0_128).toLoadRect (h5.unread k)

/-- All values. -/
def vAll : Vec Ideal S2304x256 .bf16 :=
  View.readAt (Elt Ideal) a6.view (Rect.unit (s := S2304x256) ![0, 0] S2304x256.size inb_S2304x256_S2304x256_0_0).toLoadRect (h6.unread v)

theorem qAt_at (off : Fin 2 → ℕ) (inb) (o : ℕ) (ho : off = ![o, 0]) (r e : Fin 256) (hr : o + r < 2304) :
    qAt a4 h4 q off inb (ix2 r e) = q (ix2 ⟨o + r, hr⟩ e) := by
  subst ho
  unfold qAt
  rw [View.readAt_eq_ld, h4.read_unread]
  exact View.ld_unit_apply_of _ _ _ _ _ _ fun a => by fin_cases a <;> simp [ix2]

theorem kLow_at (j : Fin 2304) (d : Fin 128) : kLow a5 h5 k (ix2 j d) = k (ix2 j ⟨d, by omega⟩) := by
  unfold kLow
  rw [View.readAt_eq_ld, h5.read_unread]
  exact View.ld_unit_apply_of _ _ _ _ _ _ fun a => by fin_cases a <;> simp [ix2]

theorem kHigh_at (j : Fin 2304) (d : Fin 128) : kHigh a5 h5 k (ix2 j d) = k (ix2 j ⟨128 + d, by omega⟩) := by
  unfold kHigh
  rw [View.readAt_eq_ld, h5.read_unread]
  exact View.ld_unit_apply_of _ _ _ _ _ _ fun a => by fin_cases a <;> simp [ix2]

theorem vAll_at (j : Fin 2304) (e : Fin 256) : vAll a6 h6 v (ix2 j e) = v (ix2 j e) := by
  unfold vAll
  rw [View.readAt_eq_ld, h6.read_unread]
  exact View.ld_unit_apply_of _ _ _ _ _ _ fun a => by fin_cases a <;> simp [ix2]

/-- One loop trip's four stored blocks, by name. -/
theorem trip_list (t : Fin k0_t1_loop.trips) :
    tripL_k0_t1 (F := Ideal) 𝒱 c bd i a2 h2 a3 h3 a4 h4 a5 h5 a6 h6 a7 h7 x0 x1 (h4.unread q) (h5.unread k) (h6.unread v) t
      = [⟨Rect.unit (s := S2304x256) (k0_off1 t 3#32) S256x256.size (k0_off1_inb t 3),
          k0_pay28 x1 (k0_pay19 (k0_pay26 x0) (k0_pay8 (qAt a4 h4 q _ (k0_off1_inb t 3)) (kLow a5 h5 k))
            (k0_pay9 (qAt a4 h4 q _ (k0_off1_inb t 3)) (kHigh a5 h5 k))) (vAll a6 h6 v)⟩,
        ⟨Rect.unit (s := S2304x256) (k0_off1 t 2#32) S256x256.size (k0_off1_inb t 2),
          k0_pay25 (k0_pay27 x1) (k0_pay18 (k0_pay26 x0) (k0_pay15 (k0_pay6 (qAt a4 h4 q _ (k0_off1_inb t 2)) (kLow a5 h5 k)))
            (k0_pay16 (k0_pay6 (qAt a4 h4 q _ (k0_off1_inb t 2)) (kLow a5 h5 k)))
            (k0_pay17 (k0_pay7 (qAt a4 h4 q _ (k0_off1_inb t 2)) (kHigh a5 h5 k)))) (vAll a6 h6 v)⟩,
        ⟨Rect.unit (s := S2304x256) (k0_off1 t 1#32) S256x256.size (k0_off1_inb t 1),
          k0_pay24 (k0_pay27 x1) (k0_pay14 (k0_pay26 x0) (k0_pay4 (qAt a4 h4 q _ (k0_off1_inb t 1)) (kLow a5 h5 k))
            (k0_pay5 (qAt a4 h4 q _ (k0_off1_inb t 1)) (kHigh a5 h5 k))) (vAll a6 h6 v)⟩,
        ⟨Rect.unit (s := S2304x256) (k0_off1 t 0#32) S256x256.size (k0_off1_inb t 0),
          k0_pay23 (k0_pay27 x1)
            (k0_pay20 (k0_pay13 (k0_pay10 (k0_pay3 (qAt a4 h4 q _ (k0_off1_inb t 0)) (kHigh a5 h5 k)))
              (k0_pay11 (k0_pay2 (qAt a4 h4 q _ (k0_off1_inb t 0)) (kLow a5 h5 k)))
              (k0_pay12 (k0_pay26 x0) (k0_pay3 (qAt a4 h4 q _ (k0_off1_inb t 0)) (kHigh a5 h5 k)))) (vAll a6 h6 v))
            (k0_pay21 (k0_pay13 (k0_pay10 (k0_pay3 (qAt a4 h4 q _ (k0_off1_inb t 0)) (kHigh a5 h5 k)))
              (k0_pay11 (k0_pay2 (qAt a4 h4 q _ (k0_off1_inb t 0)) (kLow a5 h5 k)))
              (k0_pay12 (k0_pay26 x0) (k0_pay3 (qAt a4 h4 q _ (k0_off1_inb t 0)) (kHigh a5 h5 k)))) (vAll a6 h6 v))
            k0_pay22⟩] := by
  unfold tripL_k0_t1
  unfold trip_k0_t1
  rfl

/-- The kernel's weight, gain, queries, keys and values as functions of coordinates. -/
abbrev lamB (x0 : Vec Ideal S4x128 .f32) : EReal := lamOf fun a d => x0 (ix2 a d)
abbrev gainB (x1 : Vec Ideal S1x256 .f32) (e : Fin 256) : EReal := x1 (ix2 0 e) * Ideal.ofBits .f32 0x3EE34C57#32
abbrev mat (x : Vec Ideal S2304x256 .bf16) (ρ : Fin 2304) (e : Fin 256) : EReal := x (ix2 ρ e)

/-- Every block a trip stores holds the row function at the rows it covers. -/
theorem trip_at (t : Fin k0_t1_loop.trips) (ρ : Fin 2304) (e : Fin 256) :
    View.AllAt (tripL_k0_t1 (F := Ideal) 𝒱 c bd i a2 h2 a3 h3 a4 h4 a5 h5 a6 h6 a7 h7 x0 x1 (h4.unread q) (h5.unread k) (h6.unread v) t)
      (ix2 ρ e) (blockK (lamB x0) (gainB x1) (mat q) (mat k) (mat v) ρ e) := by
  have ht : t.val < 2 := Nat.lt_of_lt_of_le t.isLt k0_t1_abs.2.1
  have o0 : k0_off1 t 0#32 = ![(t.val * 4 + 0) * 256, 0] := off_eq t 0
  have o1 : k0_off1 t 1#32 = ![(t.val * 4 + 1) * 256, 0] := off_eq t 1
  have o2 : k0_off1 t 2#32 = ![(t.val * 4 + 2) * 256, 0] := off_eq t 2
  have o3 : k0_off1 t 3#32 = ![(t.val * 4 + 3) * 256, 0] := off_eq t 3
  rw [trip_list]
  have fin : ∀ (o : ℕ) (off) (inb) (ho : off = ![o, 0]) (hb : o + 256 ≤ 2048) (w : Vec Ideal S256x256 .bf16)
      (P : Fin 256 → Fin 2304 → EReal)
      (hw : ∀ r c, w (ix2 r c) = outRow (P r) (fun j e => vAll a6 h6 v (ix2 j e)) (gainB x1) c)
      (hP : ∀ r j, P r j = mapK kap (lamB x0)
        (fun j => ∑ d : Fin 128, qAt a4 h4 q off inb (ix2 r ⟨d, by omega⟩) * kLow a5 h5 k (ix2 j d))
        (fun j => ∑ d : Fin 128, qAt a4 h4 q off inb (ix2 r ⟨128 + d, by omega⟩) * kHigh a5 h5 k (ix2 j d)) j),
      View.TileAt (Val := Elt Ideal) (S := S2304x256) (e := .bf16) (ix2 ρ e) off S256x256.size w
        (blockK (lamB x0) (gainB x1) (mat q) (mat k) (mat v) ρ e) := by
    intro o off inb ho hb w P hw hP x hx
    obtain ⟨r, c', rfl⟩ : ∃ (r c' : Fin 256), x = ix2 r c' := ⟨x 0, x 1, eq_ix2 x⟩
    have e0 : ρ.val = o + r.val := by have := hx 0; subst ho; exact this
    have e1 : e = c' := by
      have := hx 1; subst ho; exact Fin.ext (by simpa [ix2] using this)
    subst e1
    have hρ : ρ = ⟨o + r, by omega⟩ := Fin.ext e0
    rw [hw]
    unfold blockK
    rw [if_pos (by omega)]
    unfold rowK
    have hPr : P r = mapK kap (lamB x0) (low (mat q) (mat k) id ρ) (high (mat q) (mat k) id ρ) := by
      funext j
      rw [hP]
      have l : (fun j => ∑ d : Fin 128, qAt a4 h4 q off inb (ix2 r ⟨d, by omega⟩) * kLow a5 h5 k (ix2 j d)) = low (mat q) (mat k) id ρ := by
        funext j
        unfold low
        refine Finset.sum_congr rfl fun d _ => ?_
        rw [qAt_at a4 h4 q off inb o ho r _ (by omega), kLow_at, ← hρ]; rfl
      have h : (fun j => ∑ d : Fin 128, qAt a4 h4 q off inb (ix2 r ⟨128 + d, by omega⟩) * kHigh a5 h5 k (ix2 j d)) = high (mat q) (mat k) id ρ := by
        funext j
        unfold high
        refine Finset.sum_congr rfl fun d _ => ?_
        rw [qAt_at a4 h4 q off inb o ho r _ (by omega), kHigh_at, ← hρ]; rfl
      rw [l, h]
    rw [hPr]
    have hv : (fun j e => vAll a6 h6 v (ix2 j e)) = fun (j : Fin 2304) e => mat v (id j) e := by
      funext j e; exact vAll_at a6 h6 v j e
    rw [hv]
  have hg : (fun e => k0_pay27 x1 (ix2 0 e)) = gainB x1 := funext fun e => gain_at x1 e
  refine View.allAt_cons_unit _ _ _ _ _ (fin _ _ (k0_off1_inb t 3) o3 (by omega) _ _ (fun r c => out3 x1 _ _ r c) fun r j => ?_) ?_
  · rw [map3, lam_at]; simp only [low3, high3]
  refine View.allAt_cons_unit _ _ _ _ _ (fin _ _ (k0_off1_inb t 2) o2 (by omega) _ _ (fun r c => by rw [← hg]; exact out2 _ _ _ r c) fun r j => ?_) ?_
  · rw [map2, lam_at]; simp only [low2, high2]
  refine View.allAt_cons_unit _ _ _ _ _ (fin _ _ (k0_off1_inb t 1) o1 (by omega) _ _ (fun r c => by rw [← hg]; exact out1 _ _ _ r c) fun r j => ?_) ?_
  · rw [map1, lam_at]; simp only [low1, high1]
  refine View.allAt_cons_unit _ _ _ _ _ (fin _ _ (k0_off1_inb t 0) o0 (by omega) _ _ (fun r c => by rw [← hg]; exact out0 _ _ _ r c) fun r j => ?_) ?_
  · rw [map0, lam_at]; simp only [low0, high0]
  exact View.allAt_nil _ _

/-- All pieces of the first `N` trips, likewise. -/
theorem trips_at (N : ℕ) (hN : N ≤ k0_t1_loop.trips) (ρ : Fin 2304) (e : Fin 256) :
    View.AllAt (pb_k0_t1 (F := Ideal) 𝒱 c bd i a2 h2 a3 h3 a4 h4 a5 h5 a6 h6 a7 h7 x0 x1 (h4.unread q) (h5.unread k) (h6.unread v) N)
      (ix2 ρ e) (blockK (lamB x0) (gainB x1) (mat q) (mat k) (mat v) ρ e) := by
  induction N with
  | zero => exact View.allAt_nil _ _
  | succ n ih =>
    rw [pb_k0_t1_succ (F := Ideal) 𝒱 c bd i a2 h2 a3 h3 a4 h4 a5 h5 a6 h6 a7 h7 x0 x1 (h4.unread q) (h5.unread k) (h6.unread v) ⟨n, hN⟩]
    intro p hp
    rcases List.mem_append.mp hp with h | h
    · exact trip_at 𝒱 c bd i a2 h2 a3 h3 a4 h4 a5 h5 a6 h6 a7 h7 x0 x1 q k v ⟨n, hN⟩ ρ e p h
    · exact ih (by omega) p h

set_option maxHeartbeats 1000000 in
/-- THE BLOCK THE BODY LEAVES, at one row and column. -/
theorem block_at (ρ : Fin 2304) (e : Fin 256) :
    out0_A_5 (F := Ideal) c i a2 h2 a3 h3 a4 h4 a5 h5 a6 h6 a7 h7 x0 x1 q k v (ix2 ρ e)
      = blockK (lamB x0) (gainB x1) (mat q) (mat k) (mat v) ρ e := by
  unfold out0_A_5
  rw [View.read_writes_eq_canon _ _ _ (cover0_A_5 c _ _ _ _ _ _ _ _ _ _ _ _ _ _ _ _ _ _)]
  refine View.canon_eq_of_allAt _ _ _ (cover0_A_5 c _ _ _ _ _ _ _ _ _ _ _ _ _ _ _ _ _ _ _) ?_
  unfold kernelRun0_A
  dsimp only
  sl_unfold_words
  have r0 : View.readAt (Elt Ideal) a2.view (Rect.unit (s := S4x128) ![0, 0] S4x128.size inb_S4x128_S4x128_0_0).toLoadRect (h2.unread x0) = x0 := by
    rw [View.readAt_eq_ld, h2.read_unread]
    funext y
    exact View.ld_unit_apply_of _ _ _ _ _ _ fun a => by fin_cases a <;> simp
  have r1 : View.readAt (Elt Ideal) a3.view (Rect.unit (s := S1x256) ![0, 0] S1x256.size inb_S1x256_S1x256_0_0).toLoadRect (h3.unread x1) = x1 := by
    rw [View.readAt_eq_ld, h3.read_unread]
    funext y
    exact View.ld_unit_apply_of _ _ _ _ _ _ fun a => by fin_cases a <;> simp
  refine View.allAt_cons_unit _ _ _ _ _ ?_ ?_
  · intro x hx
    obtain ⟨r, c', rfl⟩ : ∃ (r c' : Fin 256), x = ix2 r c' := ⟨x 0, x 1, eq_ix2 x⟩
    have e0 : ρ.val = 2048 + r.val := hx 0
    have e1 : e = c' := Fin.ext (by simpa [ix2] using hx 1)
    subst e1
    have hρ : ρ = ⟨2048 + r, by omega⟩ := Fin.ext e0
    refine (outC _ _ _ _ _ _ r e).trans ?_
    unfold blockK
    rw [if_neg (by omega), r0, r1, lam_at]
    have hg : (fun e => k0_pay27 x1 (ix2 0 e)) = gainB x1 := funext fun e => gain_at x1 e
    rw [hg]
    unfold rowK
    have hl : (fun j : Fin 256 => ∑ d : Fin 128,
        View.readAt (Elt Ideal) a4.view (Rect.unit (s := S2304x256) ![2048, 0] S256x256.size inb_S2304x256_S256x256_2048_0).toLoadRect (h4.unread q) (ix2 r ⟨d, by omega⟩)
          * View.readAt (Elt Ideal) a5.view (Rect.unit (s := S2304x256) ![2048, 0] S256x128.size inb_S2304x256_S256x128_2048_0).toLoadRect (h5.unread k) (ix2 j d))
        = low (mat q) (mat k) ctxKey ρ := by
      funext j
      unfold low
      refine Finset.sum_congr rfl fun d _ => ?_
      rw [View.readAt_eq_ld, View.readAt_eq_ld, h4.read_unread, h5.read_unread]
      refine congrArg₂ _ (View.ld_unit_apply_of _ _ _ _ _ _ fun a => ?_) (View.ld_unit_apply_of _ _ _ _ _ _ fun a => ?_)
      · fin_cases a <;> simp [ix2, e0]
      · fin_cases a <;> simp [ix2, ctxKey]
    have hh : (fun j : Fin 256 => ∑ d : Fin 128,
        View.readAt (Elt Ideal) a4.view (Rect.unit (s := S2304x256) ![2048, 0] S256x256.size inb_S2304x256_S256x256_2048_0).toLoadRect (h4.unread q) (ix2 r ⟨128 + d, by omega⟩)
          * View.readAt (Elt Ideal) a5.view (Rect.unit (s := S2304x256) ![2048, 128] S256x128.size inb_S2304x256_S256x128_2048_128).toLoadRect (h5.unread k) (ix2 j d))
        = high (mat q) (mat k) ctxKey ρ := by
      funext j
      unfold high
      refine Finset.sum_congr rfl fun d _ => ?_
      rw [View.readAt_eq_ld, View.readAt_eq_ld, h4.read_unread, h5.read_unread]
      refine congrArg₂ _ (View.ld_unit_apply_of _ _ _ _ _ _ fun a => ?_) (View.ld_unit_apply_of _ _ _ _ _ _ fun a => ?_)
      · fin_cases a <;> simp [ix2, e0]
      · fin_cases a <;> simp [ix2, ctxKey]
    have hv : (fun (j e : Fin 256) =>
        View.readAt (Elt Ideal) a6.view (Rect.unit (s := S2304x256) ![2048, 0] S256x256.size inb_S2304x256_S256x256_2048_0).toLoadRect (h6.unread v) (ix2 j e))
        = fun j e => mat v (ctxKey j) e := by
      funext j e
      rw [View.readAt_eq_ld, h6.read_unread]
      refine View.ld_unit_apply_of _ _ _ _ _ _ fun a => ?_
      fin_cases a <;> simp [ix2, ctxKey]
    rw [hl, hh]
    exact congrArg (fun V => outRow (mapK kap (lamB x0) (low (mat q) (mat k) ctxKey ρ) (high (mat q) (mat k) ctxKey ρ)) V (gainB x1) e) hv
  · have key : View.AllAt (pb_k0_t1 (F := Ideal) Variants.none c none i a2 h2 a3 h3 a4 h4 a5 h5 a6 h6 a7 h7
        (View.readAt (Elt Ideal) a2.view (Rect.unit (s := S4x128) ![0, 0] S4x128.size inb_S4x128_S4x128_0_0).toLoadRect (h2.unread x0))
        (View.readAt (Elt Ideal) a3.view (Rect.unit (s := S1x256) ![0, 0] S1x256.size inb_S1x256_S1x256_0_0).toLoadRect (h3.unread x1))
        (h4.unread q) (h5.unread k) (h6.unread v) k0_t1_loop.trips)
        (ix2 ρ e) (blockK (lamB x0) (gainB x1) (mat q) (mat k) (mat v) ρ e) := by
      rw [r0, r1]
      exact trips_at Variants.none c none i a2 h2 a3 h3 a4 h4 a5 h5 a6 h6 a7 h7 x0 x1 q k v k0_t1_loop.trips le_rfl ρ e
    exact key

end Diff

end
-- ==== Proof.Arr.lean ====
/- The kernel's result array: every block of batch element and head, read back at one row and column, from the
   arguments' own elements. -/
module

public import proofs.«01_k».proof.Proof.Block
public import Idealize.ShloMosaic.Lib.Claim

@[expose] public section

set_option maxRecDepth 16384

noncomputable section

namespace Diff

open Idealize.ShloMosaic Idealize.ShloMosaic.TcCoe Cert.KernelIdeal Cert.KernelIdeal.Gen Idealize.SL.Sem
open Idealize.ShloMosaic.Tactic

variable (m : (ℓ : Loc nD τ sig) → Buf (Elt Ideal) ℓ)

/-- The 2304 x 256 slab of a matrix with 18432 rows: batch element `b`, columns from `256·h`. -/
def slab {C : ℕ} (x : (⟨2, ![18432, C]⟩ : Shape).Idx → EReal) (b : Fin 8) (h : ℕ) (hh : h * 256 + 256 ≤ C) (ρ : Fin 2304) (e : Fin 256) : EReal :=
  x (ix2 ⟨b * 2304 + ρ, by omega⟩ ⟨h * 256 + e, by omega⟩)

/-- The output of batch element `b` and head `h` at row `ρ` and channel `e`, from the four arguments. -/
def headK (qk : S18432x4096.Idx → EReal) (v : S18432x2048.Idx → EReal) (lam : S4x128.Idx → EReal) (g : S256.Idx → EReal)
    (b h : Fin 8) (ρ : Fin 2304) (e : Fin 256) : EReal :=
  blockK (lamOf fun a d => lam (ix2 a d)) (fun e => g (ix1 e) * Ideal.ofBits .f32 0x3EE34C57#32)
    (slab qk b h (by omega)) (slab qk b (8 + h) (by omega)) (slab v b h (by omega)) ρ e

/-- The whole result array. -/
def arrK (qk : S18432x4096.Idx → EReal) (v : S18432x2048.Idx → EReal) (lam : S4x128.Idx → EReal) (g : S256.Idx → EReal) :
    S18432x2048.Idx → EReal := fun y =>
  headK qk v lam g ⟨(y 0).val / 2304, by have h : (y 0).val < 18432 := (y 0).isLt; omega⟩ ⟨(y 1).val / 256, by have h : (y 1).val < 2048 := (y 1).isLt; omega⟩
    ⟨(y 0).val % 2304, by omega⟩ ⟨(y 1).val % 256, by omega⟩

/-- The result array at the row of batch element `b` and the column of head `h`. -/
theorem arrK_at (qk : S18432x4096.Idx → EReal) (v : S18432x2048.Idx → EReal) (lam : S4x128.Idx → EReal) (g : S256.Idx → EReal)
    (b h : Fin 8) (ρ : Fin 2304) (e : Fin 256) (y : S18432x2048.Idx) (h0 : (y 0).val = b.val * 2304 + ρ.val)
    (h1 : (y 1).val = h.val * 256 + e.val) : arrK qk v lam g y = headK qk v lam g b h ρ e := by
  unfold arrK
  have hb : (⟨(y 0).val / 2304, by have h : (y 0).val < 18432 := (y 0).isLt; omega⟩ : Fin 8) = b := Fin.ext (by show (y 0).val / 2304 = _; omega)
  have hh : (⟨(y 1).val / 256, by have h : (y 1).val < 2048 := (y 1).isLt; omega⟩ : Fin 8) = h := Fin.ext (by show (y 1).val / 256 = _; omega)
  have hρ : (⟨(y 0).val % 2304, by omega⟩ : Fin 2304) = ρ := Fin.ext (by show (y 0).val % 2304 = _; omega)
  have he : (⟨(y 1).val % 256, by omega⟩ : Fin 256) = e := Fin.ext (by show (y 1).val % 256 = _; omega)
  rw [hb, hh, hρ, he]

/-- The arguments of the run from memory `m`. -/
abbrev aQK (c : Dev nD) : S18432x4096.Idx → EReal := m ((c : Thread nD τ).loc main_arg0)
abbrev aV (c : Dev nD) : S18432x2048.Idx → EReal := m ((c : Thread nD τ).loc main_arg1)
abbrev aLam (c : Dev nD) : S4x128.Idx → EReal := m ((c : Thread nD τ).loc main_arg2)
abbrev aG (c : Dev nD) : S256.Idx → EReal := m ((c : Thread nD τ).loc main_arg3)

/-- Where each window stands at grid point `t`: batch element `t / 8`, head `t % 8`. -/
theorem at5 : ∀ t : Fin cfg0.N, win0_5.index t = ![t.val / 8, t.val % 8] := by
  exact (by decide +kernel : ∀ t : Fin grid0.N, win0_5.index t = ![t.val / 8, t.val % 8])
theorem at2 : ∀ t : Fin cfg0.N, win0_2.index t = ![t.val / 8, t.val % 8] := by
  exact (by decide +kernel : ∀ t : Fin grid0.N, win0_2.index t = ![t.val / 8, t.val % 8])
theorem at3 : ∀ t : Fin cfg0.N, win0_3.index t = ![t.val / 8, 8 + t.val % 8] := by
  exact (by decide +kernel : ∀ t : Fin grid0.N, win0_3.index t = ![t.val / 8, 8 + t.val % 8])
theorem at4 : ∀ t : Fin cfg0.N, win0_4.index t = ![t.val / 8, t.val % 8] := by
  exact (by decide +kernel : ∀ t : Fin grid0.N, win0_4.index t = ![t.val / 8, t.val % 8])
theorem at0 : ∀ t : Fin cfg0.N, win0_0.index t = ![0, 0] := by
  exact (by decide +kernel : ∀ t : Fin grid0.N, win0_0.index t = ![0, 0])
theorem at1 : ∀ t : Fin cfg0.N, win0_1.index t = ![0, 0] := by
  exact (by decide +kernel : ∀ t : Fin grid0.N, win0_1.index t = ![0, 0])

theorem tlt (t : Fin cfg0.N) : t.val < 64 := lt_of_lt_of_eq t.isLt (N_0 : cfg0.N = 64)

/-- The staged query block is the batch element's and head's slab; likewise keys and values. -/
theorem blkQ (c : Dev nD) (t : Fin cfg0.N) :
    mat (iblk m c 2 t) = slab (aQK m c) ⟨t.val / 8, by have := tlt t; omega⟩ (t.val % 8) (by omega) := by
  funext ρ e
  unfold mat slab
  blk_ext [iblk, V_main_arg0, at2 t]
theorem blkK (c : Dev nD) (t : Fin cfg0.N) :
    mat (iblk m c 3 t) = slab (aQK m c) ⟨t.val / 8, by have := tlt t; omega⟩ (8 + t.val % 8) (by omega) := by
  funext ρ e
  unfold mat slab
  blk_ext [iblk, V_main_arg0, at3 t]
theorem blkV (c : Dev nD) (t : Fin cfg0.N) :
    mat (iblk m c 4 t) = slab (aV m c) ⟨t.val / 8, by have := tlt t; omega⟩ (t.val % 8) (by omega) := by
  funext ρ e
  unfold mat slab
  blk_ext [iblk, V_main_arg1, at4 t]
theorem blkLam (c : Dev nD) (t : Fin cfg0.N) : lamB (iblk m c 0 t) = lamOf fun a d => aLam m c (ix2 a d) := by
  unfold lamB
  congr 1
  funext a d
  blk_ext [iblk, V_main_arg2, at0 t]
theorem blkG (c : Dev nD) (t : Fin cfg0.N) : gainB (iblk m c 1 t) = fun e => aG m c (ix1 e) * Ideal.ofBits .f32 0x3EE34C57#32 := by
  funext e
  unfold gainB
  congr 1
  unfold iblk
  entry_read
  have hy : (win0_1.blk t).view.emb (ix2 0 e) = ix2 0 e := by blk_ext [at1 t]
  show shapeCast S1x256 (aG m c) shapeCasts_S256_S1x256 ((win0_1.blk t).view.emb (ix2 0 e)) = _
  rw [hy]
  pointwise

/-- THE RESULT ARRAY after the run. -/
theorem final (c : Dev nD) : (dats m 0 c).arrAt 5 cfg0.N = arrK (aQK m c) (aV m c) (aLam m c) (aG m c) := by
  refine (dats m 0 c).arrAt_eq_of_covers 5 _ (by decide +kernel) fun t hf y => ?_
  have ht := tlt t
  obtain ⟨ρ, e, rfl⟩ : ∃ (ρ : Fin 2304) (e : Fin 256), y = ix2 ρ e := ⟨y 0, y 1, eq_ix2 y⟩
  blk_simp
  rw [after0_5]
  show out0_A_5 c _ _ _ _ _ _ _ _ _ _ _ _ _ _ _ _ _ _ (ix2 ρ e) = _
  rw [block_at, blkQ, blkK, blkV, blkLam, blkG]
  exact (arrK_at _ _ _ _ ⟨t.val / 8, by omega⟩ ⟨t.val % 8, by omega⟩ ρ e _ (by blk_simp [at5 t]) (by blk_simp [at5 t])).symm

end Diff

end
-- ==== Proof.Ref.lean ====
/- The reference's result array read at one index: its stages named, each read down to sums, maxima and quotients over
   the arguments' own elements, and the row function of Rows.lean recognized in it. -/
module

public import proofs.«01_k».proof.Proof.Pays
public import proofs.«01_k».proof.Proof.Gen.ReferenceIdeal.Run
public import Idealize.ShloMosaic.Lib.Tactic.CleanTypes

@[expose] public section

set_option maxRecDepth 16384

noncomputable section

namespace DiffRef

open Idealize.ShloMosaic Idealize.ShloMosaic.TcCoe Cert.ReferenceIdeal Cert.ReferenceIdeal.Gen Cert.ReferenceIdeal.Value Idealize.SL.Sem

abbrev A (S : Shape) := FVec Ideal S .f32

/-- Queries by batch element, head, half, row, channel. -/
def Q (a : FVec Ideal S18432x4096 .bf16) : A S8x8x2x2304x128 :=
  transpose S8x8x2x2304x128 [0, 2, 3, 1, 4] (shapeCast S8x2304x8x2x128 (extractStridedSlice S8x2304x2048 ![0, 0, 0] (shapeCast S8x2304x4096 (extf .f32 a bitsLt_bf16_f32) shapeCasts_S18432x4096_S8x2304x4096) slices_S8x2304x4096_S8x2304x2048_0_0_0) shapeCasts_S8x2304x2048_S8x2304x8x2x128) transposes_S8x2304x8x2x128_S8x8x2x2304x128_0_2_3_1_4

/-- Keys by batch element, head, half, row, channel. -/
def K (a : FVec Ideal S18432x4096 .bf16) : A S8x8x2x2304x128 :=
  transpose S8x8x2x2304x128 [0, 2, 3, 1, 4] (shapeCast S8x2304x8x2x128 (extractStridedSlice S8x2304x2048 ![0, 0, 2048] (shapeCast S8x2304x4096 (extf .f32 a bitsLt_bf16_f32) shapeCasts_S18432x4096_S8x2304x4096) slices_S8x2304x4096_S8x2304x2048_0_0_2048) shapeCasts_S8x2304x2048_S8x2304x8x2x128) transposes_S8x2304x8x2x128_S8x8x2x2304x128_0_2_3_1_4

/-- Values by batch element, head, row, channel. -/
def V (a : FVec Ideal S18432x2048 .bf16) : A S8x8x2304x256 :=
  transpose S8x8x2304x256 [0, 2, 1, 3] (shapeCast S8x2304x8x256 (extf .f32 a bitsLt_bf16_f32) shapeCasts_S18432x2048_S8x2304x8x256) transposes_S8x2304x8x256_S8x8x2304x256_0_2_1_3

/-- The scale. -/
def SC : A S_ := Host.divf (constant S_ .f32 0x3F800000#32) (Host.sqrt (constant S_ .f32 0x43000000#32))

/-- The second map's weight. -/
def LM (a2 : A S4x128) : A S_ :=
  addf (subf (Host.exp (Host.reduceAdd (mulf (shapeCast S128 (extractStridedSlice S1x128 ![0, 0] a2 slices_S4x128_S1x128_0_0) shapeCasts_S1x128_S128) (shapeCast S128 (extractStridedSlice S1x128 ![1, 0] a2 slices_S4x128_S1x128_1_0) shapeCasts_S1x128_S128)) (constant S_ .f32 0x00000000#32) reducesTo_S128_S_d0 h_S_)) (Host.exp (Host.reduceAdd (mulf (shapeCast S128 (extractStridedSlice S1x128 ![2, 0] a2 slices_S4x128_S1x128_2_0) shapeCasts_S1x128_S128) (shapeCast S128 (extractStridedSlice S1x128 ![3, 0] a2 slices_S4x128_S1x128_3_0) shapeCasts_S1x128_S128)) (constant S_ .f32 0x00000000#32) reducesTo_S128_S_d0 h_S_))) (constant S_ .f32 0x3F0E59D5#32)

/-- Latent rows: scaled scores, their largest, exponentials, softmax, weighted difference applied to the values, output. -/
def SL (q k : A S8x8x2x2304x128) : A S8x8x2x2048x2304 :=
  mulf (Host.dotGeneral dot_S8x8x2x2048x128_S8x8x2x2304x128_S8x8x2x2048x2304_4_4_3_3_012_012 none (extractStridedSlice S8x8x2x2048x128 ![0, 0, 0, 0, 0] q slices_S8x8x2x2304x128_S8x8x2x2048x128_0_0_0_0_0) k) (broadcastInDim S8x8x2x2048x2304 ![] bcast_S_S8x8x2x2048x2304 SC)
def RL (s : A S8x8x2x2048x2304) : A S8x8x2x2048 :=
  Host.reduce FloatOps.maximumf s (constant S_ .f32 0xFF800000#32) reducesTo_S8x8x2x2048x2304_S8x8x2x2048_d4 h_S_
def ML (s : A S8x8x2x2048x2304) : A S8x8x2x2048x2304 :=
  broadcastInDim S8x8x2x2048x2304 ![0, 1, 2, 3, 4] bcast_S8x8x2x2048x1_S8x8x2x2048x2304_0_1_2_3_4 (broadcastInDim S8x8x2x2048x1 ![0, 1, 2, 3] bcast_S8x8x2x2048_S8x8x2x2048x1_0_1_2_3 (maximumf (broadcastInDim S8x8x2x2048 ![] bcast_S_S8x8x2x2048 (constant S_ .f32 0xFF800000#32)) (RL s)))
def EL (s : A S8x8x2x2048x2304) : A S8x8x2x2048x2304 := Host.exp (subf s (ML s))
def PL (e : A S8x8x2x2048x2304) : A S8x8x2x2048x2304 :=
  Host.divf e (broadcastInDim S8x8x2x2048x2304 ![0, 1, 2, 3, 4] bcast_S8x8x2x2048x1_S8x8x2x2048x2304_0_1_2_3_4 (broadcastInDim S8x8x2x2048x1 ![0, 1, 2, 3] bcast_S8x8x2x2048_S8x8x2x2048x1_0_1_2_3 (Host.reduceAdd e (constant S_ .f32 0x00000000#32) reducesTo_S8x8x2x2048x2304_S8x8x2x2048_d4 h_S_)))
def DL (lm : A S_) (p : A S8x8x2x2048x2304) : A S8x8x2048x2304 :=
  subf (shapeCast S8x8x2048x2304 (extractStridedSlice S8x8x1x2048x2304 ![0, 0, 0, 0, 0] p slices_S8x8x2x2048x2304_S8x8x1x2048x2304_0_0_0_0_0) shapeCasts_S8x8x1x2048x2304_S8x8x2048x2304) (mulf (broadcastInDim S8x8x2048x2304 ![] bcast_S_S8x8x2048x2304 lm) (shapeCast S8x8x2048x2304 (extractStridedSlice S8x8x1x2048x2304 ![0, 0, 1, 0, 0] p slices_S8x8x2x2048x2304_S8x8x1x2048x2304_0_0_1_0_0) shapeCasts_S8x8x1x2048x2304_S8x8x2048x2304))
def OL (d : A S8x8x2048x2304) (v : A S8x8x2304x256) : A S8x8x2048x256 :=
  Host.dotGeneral dot_S8x8x2048x2304_S8x8x2304x256_S8x8x2048x256_3_2_2_3_01_01 none d v
def FL (o : A S8x8x2048x256) (a3 : A S256) : A S8x8x2048x256 :=
  mulf (mulf (mulf o (broadcastInDim S8x8x2048x256 ![0, 1, 2, 3] bcast_S8x8x2048x1_S8x8x2048x256_0_1_2_3 (Host.rsqrt (addf (Host.divf (broadcastInDim S8x8x2048x1 ![0, 1, 2] bcast_S8x8x2048_S8x8x2048x1_0_1_2 (Host.reduceAdd (mulf o o) (constant S_ .f32 0x00000000#32) reducesTo_S8x8x2048x256_S8x8x2048_d3 h_S_)) (broadcastInDim S8x8x2048x1 ![] bcast_S_S8x8x2048x1 (constant S_ .f32 0x43800000#32))) (broadcastInDim S8x8x2048x1 ![] bcast_S_S8x8x2048x1 (constant S_ .f32 0x3727C5AC#32)))))) (broadcastInDim S8x8x2048x256 ![0, 1, 2, 3] bcast_S1x1x1x256_S8x8x2048x256_0_1_2_3 (broadcastInDim S1x1x1x256 ![3] bcast_S256_S1x1x1x256_3 a3))) (broadcastInDim S8x8x2048x256 ![] bcast_S_S8x8x2048x256 (constant S_ .f32 0x3EE34C57#32))
def YL (f : A S8x8x2048x256) : A S8x2048x2048 :=
  shapeCast S8x2048x2048 (transpose S8x2048x8x256 [0, 2, 1, 3] f transposes_S8x8x2048x256_S8x2048x8x256_0_2_1_3) shapeCasts_S8x2048x8x256_S8x2048x2048

/-- Context rows, likewise over the context keys. -/
def SX (q k : A S8x8x2x2304x128) : A S8x8x2x256x256 :=
  mulf (Host.dotGeneral dot_S8x8x2x256x128_S8x8x2x256x128_S8x8x2x256x256_4_4_3_3_012_012 none (extractStridedSlice S8x8x2x256x128 ![0, 0, 0, 2048, 0] q slices_S8x8x2x2304x128_S8x8x2x256x128_0_0_0_2048_0) (extractStridedSlice S8x8x2x256x128 ![0, 0, 0, 2048, 0] k slices_S8x8x2x2304x128_S8x8x2x256x128_0_0_0_2048_0)) (broadcastInDim S8x8x2x256x256 ![] bcast_S_S8x8x2x256x256 SC)
def RC (s : A S8x8x2x256x256) : A S8x8x2x256 :=
  Host.reduce FloatOps.maximumf s (constant S_ .f32 0xFF800000#32) reducesTo_S8x8x2x256x256_S8x8x2x256_d4 h_S_
def MC (s : A S8x8x2x256x256) : A S8x8x2x256x256 :=
  broadcastInDim S8x8x2x256x256 ![0, 1, 2, 3, 4] bcast_S8x8x2x256x1_S8x8x2x256x256_0_1_2_3_4 (broadcastInDim S8x8x2x256x1 ![0, 1, 2, 3] bcast_S8x8x2x256_S8x8x2x256x1_0_1_2_3 (maximumf (broadcastInDim S8x8x2x256 ![] bcast_S_S8x8x2x256 (constant S_ .f32 0xFF800000#32)) (RC s)))
def EC (s : A S8x8x2x256x256) : A S8x8x2x256x256 := Host.exp (subf s (MC s))
def PC (e : A S8x8x2x256x256) : A S8x8x2x256x256 :=
  Host.divf e (broadcastInDim S8x8x2x256x256 ![0, 1, 2, 3, 4] bcast_S8x8x2x256x1_S8x8x2x256x256_0_1_2_3_4 (broadcastInDim S8x8x2x256x1 ![0, 1, 2, 3] bcast_S8x8x2x256_S8x8x2x256x1_0_1_2_3 (Host.reduceAdd e (constant S_ .f32 0x00000000#32) reducesTo_S8x8x2x256x256_S8x8x2x256_d4 h_S_)))
def DC (lm : A S_) (p : A S8x8x2x256x256) : A S8x8x256x256 :=
  subf (shapeCast S8x8x256x256 (extractStridedSlice S8x8x1x256x256 ![0, 0, 0, 0, 0] p slices_S8x8x2x256x256_S8x8x1x256x256_0_0_0_0_0) shapeCasts_S8x8x1x256x256_S8x8x256x256) (mulf (broadcastInDim S8x8x256x256 ![] bcast_S_S8x8x256x256 lm) (shapeCast S8x8x256x256 (extractStridedSlice S8x8x1x256x256 ![0, 0, 1, 0, 0] p slices_S8x8x2x256x256_S8x8x1x256x256_0_0_1_0_0) shapeCasts_S8x8x1x256x256_S8x8x256x256))
def OC (d : A S8x8x256x256) (v : A S8x8x2304x256) : A S8x8x256x256 :=
  Host.dotGeneral dot_S8x8x256x256_S8x8x256x256_S8x8x256x256_3_2_2_3_01_01 none d (extractStridedSlice S8x8x256x256 ![0, 0, 2048, 0] v slices_S8x8x2304x256_S8x8x256x256_0_0_2048_0)
def FC (o : A S8x8x256x256) (a3 : A S256) : A S8x8x256x256 :=
  mulf (mulf (mulf o (broadcastInDim S8x8x256x256 ![0, 1, 2, 3] bcast_S8x8x256x1_S8x8x256x256_0_1_2_3 (Host.rsqrt (addf (Host.divf (broadcastInDim S8x8x256x1 ![0, 1, 2] bcast_S8x8x256_S8x8x256x1_0_1_2 (Host.reduceAdd (mulf o o) (constant S_ .f32 0x00000000#32) reducesTo_S8x8x256x256_S8x8x256_d3 h_S_)) (broadcastInDim S8x8x256x1 ![] bcast_S_S8x8x256x1 (constant S_ .f32 0x43800000#32))) (broadcastInDim S8x8x256x1 ![] bcast_S_S8x8x256x1 (constant S_ .f32 0x3727C5AC#32)))))) (broadcastInDim S8x8x256x256 ![0, 1, 2, 3] bcast_S1x1x1x256_S8x8x256x256_0_1_2_3 (broadcastInDim S1x1x1x256 ![3] bcast_S256_S1x1x1x256_3 a3))) (broadcastInDim S8x8x256x256 ![] bcast_S_S8x8x256x256 (constant S_ .f32 0x3EE34C57#32))
def YC (f : A S8x8x256x256) : A S8x256x2048 :=
  shapeCast S8x256x2048 (transpose S8x256x8x256 [0, 2, 1, 3] f transposes_S8x8x256x256_S8x256x8x256_0_2_1_3) shapeCasts_S8x256x8x256_S8x256x2048

/-- The latent rows' and the context rows' normalized outputs. -/
def latOut (a0 : FVec Ideal S18432x4096 .bf16) (a1 : FVec Ideal S18432x2048 .bf16) (a2 : A S4x128) (a3 : A S256) : A S8x8x2048x256 :=
  FL (OL (DL (LM a2) (PL (EL (SL (Q a0) (K a0))))) (V a1)) a3
def ctxOut (a0 : FVec Ideal S18432x4096 .bf16) (a1 : FVec Ideal S18432x2048 .bf16) (a2 : A S4x128) (a3 : A S256) : A S8x8x256x256 :=
  FC (OC (DC (LM a2) (PC (EC (SX (Q a0) (K a0))))) (V a1)) a3

/-- Both, side by side, as the result's rows. -/
def whole (l : A S8x8x2048x256) (x : A S8x8x256x256) : FVec Ideal S18432x2048 .bf16 :=
  truncf .bf16 (shapeCast S18432x2048 (concatenate S8x2304x2048 1 [⟨S8x2048x2048, YL l⟩, ⟨S8x256x2048, YC x⟩] concatenates_S8x2048x2048_S8x256x2048_S8x2304x2048_d1) shapeCasts_S8x2304x2048_S18432x2048) bitsLt_bf16_f32

variable (m : (ℓ : Loc nD τ sig) → Buf (Elt Ideal) ℓ)

/-- The reference's result is these stages composed. -/
theorem result_eq (c : Dev nD) : res_main_v113 (F := Ideal) m c
    = whole (latOut (m ((c.tc : Thread nD τ).loc main_arg0)) (m ((c.tc : Thread nD τ).loc main_arg1)) (m ((c.tc : Thread nD τ).loc main_arg2)) (m ((c.tc : Thread nD τ).loc main_arg3)))
        (ctxOut (m ((c.tc : Thread nD τ).loc main_arg0)) (m ((c.tc : Thread nD τ).loc main_arg1)) (m ((c.tc : Thread nD τ).loc main_arg2)) (m ((c.tc : Thread nD τ).loc main_arg3))) := by
  unfold res_main_v113
  rfl

theorem Q_at (a : FVec Ideal S18432x4096 .bf16) (b h : Fin 8) (s : Fin 2) (ρ : Fin 2304) (d : Fin 128) :
    Q a (ix5 b h s ρ d) = a (ix2 ⟨b * 2304 + ρ, by omega⟩ ⟨h * 256 + (s * 128 + d), by omega⟩) := by
  pointwise [Q]
  exact congrArg (fun k => a (ix2 _ k)) (Fin.ext (by show h.val * 256 + s.val * 128 + d.val = h.val * 256 + (s.val * 128 + d.val); omega))

theorem K_at (a : FVec Ideal S18432x4096 .bf16) (b h : Fin 8) (s : Fin 2) (ρ : Fin 2304) (d : Fin 128) :
    K a (ix5 b h s ρ d) = a (ix2 ⟨b * 2304 + ρ, by omega⟩ ⟨(8 + h) * 256 + (s * 128 + d), by omega⟩) := by
  pointwise [K]
  exact congrArg (fun k => a (ix2 _ k)) (Fin.ext (by
    show 2048 + (h.val * 256 + s.val * 128 + d.val) = (8 + h.val) * 256 + (s.val * 128 + d.val); omega))

theorem V_at (a : FVec Ideal S18432x2048 .bf16) (b h : Fin 8) (ρ : Fin 2304) (d : Fin 256) :
    V a (ix4 b h ρ d) = a (ix2 ⟨b * 2304 + ρ, by omega⟩ ⟨h * 256 + d, by omega⟩) := by
  pointwise [V]

theorem LM_at (a : A S4x128) : LM a ix0 = Diff.lamOf fun i d => a (ix2 i d) := by
  pointwise [LM]
  rfl

theorem SC_at : SC ix0 = (((Real.sqrt 128)⁻¹ : ℝ) : EReal) := by
  pointwise [SC]
  exact Diff.scale_eq

theorem SL_at (q k : A S8x8x2x2304x128) (b h : Fin 8) (s : Fin 2) (r : Fin 2048) (j : Fin 2304) :
    SL q k (ix5 b h s r j) = (∑ d : Fin 128, q (ix5 b h s ⟨r, by omega⟩ d) * k (ix5 b h s j d)) * SC ix0 := by
  pointwise [SL]

theorem RL_at (x : A S8x8x2x2048x2304) (b h : Fin 8) (s : Fin 2) (r : Fin 2048) :
    RL x (ix4 b h s r) = Diff.top fun j => x (ix5 b h s r j) := by
  unfold RL
  pointwise
  rw [Diff.ofBits_ninf]
  rfl

/-- A row's value spread over its keys. -/
theorem spreadML (z : A S8x8x2x2048) (b h : Fin 8) (s : Fin 2) (r : Fin 2048) (j : Fin 2304) :
    broadcastInDim S8x8x2x2048x2304 ![0, 1, 2, 3, 4] bcast_S8x8x2x2048x1_S8x8x2x2048x2304_0_1_2_3_4 (broadcastInDim S8x8x2x2048x1 ![0, 1, 2, 3] bcast_S8x8x2x2048_S8x8x2x2048x1_0_1_2_3 z) (ix5 b h s r j) = z (ix4 b h s r) := by
  pointwise

/-- The larger of a row's value and −∞. -/
theorem floorML (y : A S8x8x2x2048) (i : S8x8x2x2048.Idx) : maximumf (broadcastInDim S8x8x2x2048 ![] bcast_S_S8x8x2x2048 (constant S_ .f32 0xFF800000#32)) y i = y i := by
  have h : maximumf (broadcastInDim S8x8x2x2048 ![] bcast_S_S8x8x2x2048 (constant S_ .f32 0xFF800000#32)) y i = max ⊥ (y i) := by
    rw [← Diff.ofBits_ninf]
    rfl
  rw [h, max_eq_right bot_le]

theorem ML_at (x : A S8x8x2x2048x2304) (b h : Fin 8) (s : Fin 2) (r : Fin 2048) (j : Fin 2304) :
    ML x (ix5 b h s r j) = RL x (ix4 b h s r) := by
  unfold ML
  rw [spreadML, floorML]

theorem EL_at (x : A S8x8x2x2048x2304) (b h : Fin 8) (s : Fin 2) (r : Fin 2048) (j : Fin 2304) :
    EL x (ix5 b h s r j) = Ideal.exp (x (ix5 b h s r j) - Diff.top fun j => x (ix5 b h s r j)) := by
  show Ideal.exp (x (ix5 b h s r j) - ML x (ix5 b h s r j)) = _
  rw [ML_at, RL_at]

theorem PL_at (x : A S8x8x2x2048x2304) (b h : Fin 8) (s : Fin 2) (r : Fin 2048) (j : Fin 2304) :
    PL x (ix5 b h s r j) = Ideal.div (x (ix5 b h s r j)) (∑ j, x (ix5 b h s r j)) := by
  pointwise [PL]

theorem DL_at (l : A S_) (x : A S8x8x2x2048x2304) (b h : Fin 8) (r : Fin 2048) (j : Fin 2304) :
    DL l x (ix4 b h r j) = x (ix5 b h 0 r j) - l ix0 * x (ix5 b h 1 r j) := by
  pointwise [DL]

theorem OL_at (x : A S8x8x2048x2304) (v : A S8x8x2304x256) (b h : Fin 8) (r : Fin 2048) (j : Fin 256) :
    OL x v (ix4 b h r j) = ∑ k : Fin 2304, x (ix4 b h r k) * v (ix4 b h k j) := by
  pointwise [OL]

theorem FL_at (o : A S8x8x2048x256) (g : A S256) (b h : Fin 8) (r : Fin 2048) (j : Fin 256) :
    FL o g (ix4 b h r j) = o (ix4 b h r j) * Diff.invRms (fun j => o (ix4 b h r j)) * g (ix1 j) * Ideal.ofBits .f32 0x3EE34C57#32 := by
  pointwise [FL]
  rfl

theorem SX_at (q k : A S8x8x2x2304x128) (b h : Fin 8) (s : Fin 2) (r : Fin 256) (j : Fin 256) :
    SX q k (ix5 b h s r j) = (∑ d : Fin 128, q (ix5 b h s ⟨2048 + r, by omega⟩ d) * k (ix5 b h s ⟨2048 + j, by omega⟩ d)) * SC ix0 := by
  pointwise [SX]

theorem RC_at (x : A S8x8x2x256x256) (b h : Fin 8) (s : Fin 2) (r : Fin 256) :
    RC x (ix4 b h s r) = Diff.top fun j => x (ix5 b h s r j) := by
  unfold RC
  pointwise
  rw [Diff.ofBits_ninf]
  rfl

/-- A row's value spread over its keys. -/
theorem spreadMC (z : A S8x8x2x256) (b h : Fin 8) (s : Fin 2) (r : Fin 256) (j : Fin 256) :
    broadcastInDim S8x8x2x256x256 ![0, 1, 2, 3, 4] bcast_S8x8x2x256x1_S8x8x2x256x256_0_1_2_3_4 (broadcastInDim S8x8x2x256x1 ![0, 1, 2, 3] bcast_S8x8x2x256_S8x8x2x256x1_0_1_2_3 z) (ix5 b h s r j) = z (ix4 b h s r) := by
  pointwise

/-- The larger of a row's value and −∞. -/
theorem floorMC (y : A S8x8x2x256) (i : S8x8x2x256.Idx) : maximumf (broadcastInDim S8x8x2x256 ![] bcast_S_S8x8x2x256 (constant S_ .f32 0xFF800000#32)) y i = y i := by
  have h : maximumf (broadcastInDim S8x8x2x256 ![] bcast_S_S8x8x2x256 (constant S_ .f32 0xFF800000#32)) y i = max ⊥ (y i) := by
    rw [← Diff.ofBits_ninf]
    rfl
  rw [h, max_eq_right bot_le]

theorem MC_at (x : A S8x8x2x256x256) (b h : Fin 8) (s : Fin 2) (r : Fin 256) (j : Fin 256) :
    MC x (ix5 b h s r j) = RC x (ix4 b h s r) := by
  unfold MC
  rw [spreadMC, floorMC]

theorem EC_at (x : A S8x8x2x256x256) (b h : Fin 8) (s : Fin 2) (r : Fin 256) (j : Fin 256) :
    EC x (ix5 b h s r j) = Ideal.exp (x (ix5 b h s r j) - Diff.top fun j => x (ix5 b h s r j)) := by
  show Ideal.exp (x (ix5 b h s r j) - MC x (ix5 b h s r j)) = _
  rw [MC_at, RC_at]

theorem PC_at (x : A S8x8x2x256x256) (b h : Fin 8) (s : Fin 2) (r : Fin 256) (j : Fin 256) :
    PC x (ix5 b h s r j) = Ideal.div (x (ix5 b h s r j)) (∑ j, x (ix5 b h s r j)) := by
  pointwise [PC]

theorem DC_at (l : A S_) (x : A S8x8x2x256x256) (b h : Fin 8) (r : Fin 256) (j : Fin 256) :
    DC l x (ix4 b h r j) = x (ix5 b h 0 r j) - l ix0 * x (ix5 b h 1 r j) := by
  pointwise [DC]

theorem OC_at (x : A S8x8x256x256) (v : A S8x8x2304x256) (b h : Fin 8) (r : Fin 256) (j : Fin 256) :
    OC x v (ix4 b h r j) = ∑ k : Fin 256, x (ix4 b h r k) * v (ix4 b h ⟨2048 + k, by omega⟩ j) := by
  pointwise [OC]

theorem FC_at (o : A S8x8x256x256) (g : A S256) (b h : Fin 8) (r : Fin 256) (j : Fin 256) :
    FC o g (ix4 b h r j) = o (ix4 b h r j) * Diff.invRms (fun j => o (ix4 b h r j)) * g (ix1 j) * Ideal.ofBits .f32 0x3EE34C57#32 := by
  pointwise [FC]
  rfl

theorem whole_at (l : A S8x8x2048x256) (x : A S8x8x256x256) (b h : Fin 8) (ρ : Fin 2304) (e : Fin 256) :
    whole l x (ix2 ⟨b * 2304 + ρ, by omega⟩ ⟨h * 256 + e, by omega⟩)
      = if hr : ρ.val < 2048 then l (ix4 b h ⟨ρ, hr⟩ e) else x (ix4 b h ⟨ρ - 2048, by omega⟩ e) := by
  pointwise [whole, YL, YC]

end DiffRef

end
-- ==== Proof.Equal.lean ====
/- The kernel's result array and the reference's are the same array whenever the queries and keys are real numbers. -/
module

public import proofs.«01_k».proof.Proof.Arr
public import proofs.«01_k».proof.Proof.Ref

@[expose] public section

set_option maxRecDepth 16384

noncomputable section

namespace DiffRef

open Idealize.ShloMosaic Idealize.ShloMosaic.TcCoe Cert.ReferenceIdeal Cert.ReferenceIdeal.Gen Cert.ReferenceIdeal.Value Idealize.SL.Sem
open Diff (low high slab mapR mapK expo ctxKey)

/-- The scale `1/√128`. -/
abbrev sc : EReal := (((Real.sqrt 128)⁻¹ : ℝ) : EReal)

variable (a : FVec Ideal S18432x4096 .bf16) (v : FVec Ideal S18432x2048 .bf16) (l : A S4x128) (g : A S256) (b h : Fin 8)

/-- The queries and the keys of one batch element and head. -/
abbrev qs : Fin 2304 → Fin 256 → EReal := slab (C := 4096) a b h (by omega)
abbrev ks : Fin 2304 → Fin 256 → EReal := slab (C := 4096) a b (8 + h) (by omega)

/-- A first-half and a second-half query entry, as entries of the slab. -/
theorem Q_low (ρ : Fin 2304) (d : Fin 128) : Q a (ix5 b h 0 ρ d) = qs a b h ρ ⟨d, by omega⟩ := by
  rw [Q_at]
  exact congrArg (fun k => a (ix2 _ k)) (Fin.ext (by show h.val * 256 + (0 * 128 + d.val) = h.val * 256 + d.val; omega))
theorem Q_high (ρ : Fin 2304) (d : Fin 128) : Q a (ix5 b h 1 ρ d) = qs a b h ρ ⟨128 + d, by omega⟩ := by
  rw [Q_at]
  exact congrArg (fun k => a (ix2 _ k)) (Fin.ext (by show h.val * 256 + (1 * 128 + d.val) = h.val * 256 + (128 + d.val); omega))
theorem K_low (ρ : Fin 2304) (d : Fin 128) : K a (ix5 b h 0 ρ d) = ks a b h ρ ⟨d, by omega⟩ := by
  rw [K_at]
  exact congrArg (fun k => a (ix2 _ k)) (Fin.ext (by show (8 + h.val) * 256 + (0 * 128 + d.val) = (8 + h.val) * 256 + d.val; omega))
theorem K_high (ρ : Fin 2304) (d : Fin 128) : K a (ix5 b h 1 ρ d) = ks a b h ρ ⟨128 + d, by omega⟩ := by
  rw [K_at]
  exact congrArg (fun k => a (ix2 _ k)) (Fin.ext (by show (8 + h.val) * 256 + (1 * 128 + d.val) = (8 + h.val) * 256 + (128 + d.val); omega))

/-- The latent scores of the two halves. -/
theorem lat_low (r : Fin 2048) (j : Fin 2304) :
    SL (Q a) (K a) (ix5 b h 0 r j) = low (qs a b h) (ks a b h) id ⟨r, by omega⟩ j * sc := by
  rw [SL_at, SC_at]; simp only [Q_low, K_low]; rfl
theorem lat_high (r : Fin 2048) (j : Fin 2304) :
    SL (Q a) (K a) (ix5 b h 1 r j) = high (qs a b h) (ks a b h) id ⟨r, by omega⟩ j * sc := by
  rw [SL_at, SC_at]; simp only [Q_high, K_high]; rfl

/-- The context scores of the two halves. -/
theorem ctx_low (r : Fin 256) (j : Fin 256) :
    SX (Q a) (K a) (ix5 b h 0 r j) = low (qs a b h) (ks a b h) ctxKey ⟨2048 + r, by omega⟩ j * sc := by
  rw [SX_at, SC_at]; simp only [Q_low, K_low]; rfl
theorem ctx_high (r : Fin 256) (j : Fin 256) :
    SX (Q a) (K a) (ix5 b h 1 r j) = high (qs a b h) (ks a b h) ctxKey ⟨2048 + r, by omega⟩ j * sc := by
  rw [SX_at, SC_at]; simp only [Q_high, K_high]; rfl

/-- The latent rows' weights are the difference of the two softmaxes. -/
theorem lat_map (r : Fin 2048) (j : Fin 2304) :
    DL (LM l) (PL (EL (SL (Q a) (K a)))) (ix4 b h r j)
      = mapR sc (Diff.lamOf fun i d => l (ix2 i d)) (low (qs a b h) (ks a b h) id ⟨r, by omega⟩) (high (qs a b h) (ks a b h) id ⟨r, by omega⟩) j := by
  rw [DL_at, LM_at, PL_at, PL_at]
  simp only [EL_at, lat_low, lat_high]
  rfl

/-- The context rows' weights, likewise. -/
theorem ctx_map (r : Fin 256) (j : Fin 256) :
    DC (LM l) (PC (EC (SX (Q a) (K a)))) (ix4 b h r j)
      = mapR sc (Diff.lamOf fun i d => l (ix2 i d)) (low (qs a b h) (ks a b h) ctxKey ⟨2048 + r, by omega⟩) (high (qs a b h) (ks a b h) ctxKey ⟨2048 + r, by omega⟩) j := by
  rw [DC_at, LM_at, PC_at, PC_at]
  simp only [EC_at, ctx_low, ctx_high]
  rfl

/-- The two normalized rows. -/
theorem lat_row (r : Fin 2048) (e : Fin 256) :
    latOut a v l g (ix4 b h r e)
      = Diff.outRow (mapR sc (Diff.lamOf fun i d => l (ix2 i d)) (low (qs a b h) (ks a b h) id ⟨r, by omega⟩) (high (qs a b h) (ks a b h) id ⟨r, by omega⟩))
          (fun j e => slab (C := 2048) v b h (by omega) j e) (fun e => g (ix1 e) * Ideal.ofBits .f32 0x3EE34C57#32) e := by
  unfold latOut
  rw [FL_at]
  simp only [OL_at, lat_map, V_at]
  rw [mul_assoc]
  rfl
theorem ctx_row (r : Fin 256) (e : Fin 256) :
    ctxOut a v l g (ix4 b h r e)
      = Diff.outRow (mapR sc (Diff.lamOf fun i d => l (ix2 i d)) (low (qs a b h) (ks a b h) ctxKey ⟨2048 + r, by omega⟩) (high (qs a b h) (ks a b h) ctxKey ⟨2048 + r, by omega⟩))
          (fun j e => slab (C := 2048) v b h (by omega) (ctxKey j) e) (fun e => g (ix1 e) * Ideal.ofBits .f32 0x3EE34C57#32) e := by
  unfold ctxOut
  rw [FC_at]
  simp only [OC_at, ctx_map, V_at]
  rw [mul_assoc]
  rfl

variable (ha : ∀ i, ∃ r : ℝ, a i = (r : EReal))

include ha in
/-- The kernel's row of weights is the reference's, the scores being real. -/
theorem map_eq {n : ℕ} (key : Fin n → Fin 2304) (lam : EReal) (ρ : Fin 2304) :
    mapK Diff.kap lam (low (qs a b h) (ks a b h) key ρ) (high (qs a b h) (ks a b h) key ρ)
      = mapR sc lam (low (qs a b h) (ks a b h) key ρ) (high (qs a b h) (ks a b h) key ρ) := by
  funext j
  rw [Diff.kap_eq]
  refine Diff.mapK_eq_mapR _ (by positivity) lam _ _ (fun j => ?_) (fun j => ?_) j
  · exact Diff.dot_real _ _ (fun k => ha _) (fun k => ha _)
  · exact Diff.dot_real _ _ (fun k => ha _) (fun k => ha _)

include ha in
/-- The two result arrays are equal. -/
theorem arr_eq : Diff.arrK a v l g = whole (latOut a v l g) (ctxOut a v l g) := by
  funext y
  obtain ⟨i, j, rfl⟩ : ∃ (i : Fin 18432) (j : Fin 2048), y = ix2 i j := ⟨y 0, y 1, by funext z; fin_cases z <;> rfl⟩
  obtain ⟨b, ρ, rfl⟩ : ∃ (b : Fin 8) (ρ : Fin 2304), i = ⟨b * 2304 + ρ, by omega⟩ :=
    ⟨⟨i / 2304, by have := i.isLt; omega⟩, ⟨i % 2304, by omega⟩, Fin.ext (by show i.val = i.val / 2304 * 2304 + i.val % 2304; omega)⟩
  obtain ⟨h, e, rfl⟩ : ∃ (h : Fin 8) (e : Fin 256), j = ⟨h * 256 + e, by omega⟩ :=
    ⟨⟨j / 256, by have := j.isLt; omega⟩, ⟨j % 256, by omega⟩, Fin.ext (by show j.val = j.val / 256 * 256 + j.val % 256; omega)⟩
  rw [Diff.arrK_at a v l g b h ρ e _ rfl rfl, whole_at]
  unfold Diff.headK Diff.blockK Diff.rowK
  split
  · next hr =>
    rw [lat_row, map_eq a b h ha]
    rfl
  · next hr =>
    rw [ctx_row, map_eq a b h ha]
    have hk : (⟨2048 + (ρ.val - 2048), by omega⟩ : Fin 2304) = ρ := Fin.ext (by show 2048 + (ρ.val - 2048) = ρ.val; omega)
    rw [hk]

end DiffRef

end
-- ==== Proof.DiffClaims.lean ====
/- The claims about the differential attention, each closed from the modules before it. -/
module

public import proofs.«01_k».proof.Defs
public import proofs.«01_k».proof.Proof.Gen.Kernel.Frame
public import proofs.«01_k».proof.Proof.Gen.KernelIdeal.Frame
public import proofs.«01_k».proof.Proof.Equal
public import Idealize.ShloMosaic.Adequacy
public import Idealize.ShloMosaic.Init
public import Idealize.ShloMosaic.Lib.Quiescent

@[expose] public section

noncomputable section

namespace DiffClaims

open Idealize.ShloMosaic Idealize.SL.Sem

/-- The precondition's side conditions. -/
theorem preFacts : Cert.Pre_finite_queries_and_keys.Facts where
  bitsLt_bf16_f32 := by decide
  bcast_S_S18432x4096 := by decide

/-- A number whose absolute value is below +∞ is real. -/
theorem real_of_abs_lt (x : EReal) (h : BitVec.ofBool (decide (max x (-x) < ⊤)) = 1#1) : ∃ r : ℝ, x = (r : EReal) := by
  induction x using EReal.rec with
  | bot => simp at h
  | coe r => exact ⟨r, rfl⟩
  | top => simp at h

/-- The bits of +∞. -/
theorem ofBits_inf : Ideal.ofBits .f32 0x7F800000#32 = ⊤ := by
  simp [Ideal.ofBits, Ideal.ieee]

/-- The precondition says that every query and key is a real number. -/
theorem finite [hp : Cert.Pre_finite_queries_and_keys.Facts] (m : (ℓ : Loc Cert.KernelIdeal.nD Cert.KernelIdeal.τ Cert.KernelIdeal.sig) → Buf (Elt Ideal) ℓ)
    (h : Cert.Pre_KernelIdeal_finite_queries_and_keys m) (c : Dev Cert.KernelIdeal.nD) (i : (⟨2, ![18432, 4096]⟩ : Shape).Idx) :
    ∃ r : ℝ, Diff.aQK m c i = (r : EReal) := by
  have h := congrFun (h c) i
  have e : Cert.Pre_finite_queries_and_keys.fn (F := Ideal) (Diff.aQK m c) (Diff.aV m c) (Diff.aLam m c) (Diff.aG m c) i = 1#1 := h
  pointwise [Cert.Pre_finite_queries_and_keys.fn] at e
  rw [ofBits_inf] at e
  exact real_of_abs_lt _ e

/-- The kernel, as written and with its named constant, runs to its end and leaves its arguments alone; so does the
    reference. -/
theorem frameKernel : Cert.quiescent_Kernel (hKernel := Cert.Kernel.Gen.facts) := fun m ρ _ => Cert.Kernel.Gen.frame m ρ
theorem frameIdeal : Cert.quiescent_KernelIdeal (hKernelIdeal := Cert.KernelIdeal.Gen.facts) := fun m ρ _ => Cert.KernelIdeal.Gen.frame m ρ
theorem frameIdealPre : Cert.quiescent_KernelIdeal_pre_finite_queries_and_keys (hKernelIdeal := Cert.KernelIdeal.Gen.facts) (hPre_finite_queries_and_keys := preFacts) :=
  fun m ρ _ => Cert.KernelIdeal.Gen.frame m ρ
theorem frameReference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frameReferencePre : Cert.quiescent_ReferenceIdeal_pre_finite_queries_and_keys (hReferenceIdeal := Cert.ReferenceIdeal.Gen.facts) (hPre_finite_queries_and_keys := preFacts) :=
  fun m ρ _ => frameReference m ρ trivial

/-- The named scale stands for the number it names. -/
theorem preserves : Cert.preserves_Kernel_KernelIdeal :=
  IdealRules.named_const.statement Cert.KernelIdeal.κ "log2e_inv_sqrt_d" .f32 0x3E0293EE#32 (((Real.log 2)⁻¹ * (Real.sqrt 128)⁻¹ : ℝ) : EReal) rfl

/-- From finite queries and keys the kernel and the reference leave the same array. -/
theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := preFacts) := by
  intro m ρ m' ρ' hpre hagree
  refine ⟨fun c => Diff.arrK (Diff.aQK m c) (Diff.aV m c) (Diff.aLam m c) (Diff.aG m c), ?_, ?_⟩
  · exact (θ_run _ _ _).mono (fun _ h c => ⟨(h c).1.trans (Diff.final m c), (h c).2⟩) (Cert.KernelIdeal.Value.run_blocks (F := Ideal) m ρ)
  · refine (θ_run _ _ _).mono (fun _ h c => ⟨(h c).1.trans ?_, (h c).2⟩) (Cert.ReferenceIdeal.Value.run (F := Ideal) m' ρ')
    rw [DiffRef.result_eq, (hagree c).1, (hagree c).2.1, (hagree c).2.2.1, (hagree c).2.2.2]
    exact (DiffRef.arr_eq _ _ _ _ fun i => finite (hp := preFacts) m hpre c i).symm

end DiffClaims

end
-- ==== Proof.Proj.lean ====
/- The layers' linear projections of a modulated stream: what one is at a row and a column, and the two modulated
   arrays of a reference (latent rows, context rows) read at an index. -/
module

public import proofs.«01_k».proof.Proof.Gen.QkvReferenceIdeal.Run
public import Idealize.ShloMosaic.PureOps.Ideal
public import Idealize.ShloMosaic.Lib.IdealHost
public import Idealize.ShloMosaic.Lib.Pointwise
public import Idealize.ShloMosaic.Lib.Claim
public import Idealize.ShloMosaic.Lib.Tactic.CleanTypes

@[expose] public section

set_option maxRecDepth 16384

noncomputable section

namespace Proj

open Idealize.ShloMosaic Idealize.ShloMosaic.TcCoe Cert.QkvReferenceIdeal Cert.QkvReferenceIdeal.Gen Idealize.SL.Sem
open scoped BigOperators

/-- The stream's elements and the modulation's elements. -/
abbrev X := S18432x2048.Idx → EReal
abbrev G := S9x1x2048.Idx → EReal

/-- The modulation row of stream row `r`: the batch element's own, or the ninth on a context row. -/
def grp (r : Fin 18432) : Fin 9 := ⟨if r.val % 2304 < 2048 then r.val / 2304 else 8, by have := r.isLt; split <;> omega⟩

/-- The modulated stream at row `r` and channel `d`. -/
def modu (x : X) (sc sh : G) (r : Fin 18432) (d : Fin 2048) : EReal :=
  x (ix2 r d) * (Ideal.ofBits .f32 0x3F800000#32 + sc (ix3 (grp r) 0 d)) + sh (ix3 (grp r) 0 d)

/-- The modulated row `r` against one column of weights. -/
def lin (x : X) (sc sh : G) (col : Fin 2048 → EReal) (r : Fin 18432) : EReal := ∑ d, modu x sc sh r d * col d

/-- A staged block of rows, modulated by the staged modulation rows. -/
def modB (x0 : (⟨2, ![256, 2048]⟩ : Shape).Idx → EReal) (x1 x2 : (⟨3, ![1, 1, 2048]⟩ : Shape).Idx → EReal) (p : Fin 256) (d : Fin 2048) : EReal :=
  x0 (ix2 p d) * (Ideal.ofBits .f32 0x3F800000#32 + x1 (ix3 0 0 d)) + x2 (ix3 0 0 d)

/-- The stream row that row `p` of row tile `i` is, and the modulation row it takes. -/
def tileRow (i : ℕ) (hi : i < 72) (p : Fin 256) : Fin 18432 := ⟨i * 256 + p, by omega⟩
theorem grp_tile (i : ℕ) (hi : i < 72) (p : Fin 256) : (grp (tileRow i hi p)).val = if i % 9 = 8 then 8 else i / 9 := by
  show (if (i * 256 + p.val) % 2304 < 2048 then (i * 256 + p.val) / 2304 else 8) = _
  have := p.isLt
  by_cases h : i % 9 = 8
  · rw [if_pos h, if_neg (by omega)]
  · rw [if_neg h, if_pos (by omega)]
    omega

/-- The stream rows of a latent token and of a context token of batch element `b`. -/
def latRow (b : Fin 8) (ρ : Fin 2048) : Fin 18432 := ⟨b * 2304 + ρ, by omega⟩
def ctxRow (b : Fin 8) (ρ : Fin 256) : Fin 18432 := ⟨b * 2304 + (2048 + ρ), by omega⟩

theorem grp_lat (b : Fin 8) (ρ : Fin 2048) : grp (latRow b ρ) = ⟨b, by omega⟩ := by
  apply Fin.ext
  show (if (b.val * 2304 + ρ.val) % 2304 < 2048 then (b.val * 2304 + ρ.val) / 2304 else 8) = b.val
  rw [if_pos (by omega)]
  omega
theorem grp_ctx (b : Fin 8) (ρ : Fin 256) : grp (ctxRow b ρ) = 8 := by
  apply Fin.ext
  show (if (b.val * 2304 + (2048 + ρ.val)) % 2304 < 2048 then (b.val * 2304 + (2048 + ρ.val)) / 2304 else 8) = 8
  rw [if_neg (by omega)]

/-- Every stream row is a latent token's or a context token's. -/
theorem row_cases (r : Fin 18432) : (∃ b ρ, r = latRow b ρ) ∨ ∃ b ρ, r = ctxRow b ρ := by
  by_cases h : r.val % 2304 < 2048
  · exact .inl ⟨⟨r.val / 2304, by have := r.isLt; omega⟩, ⟨r.val % 2304, h⟩, Fin.ext (by show r.val = r.val / 2304 * 2304 + r.val % 2304; omega)⟩
  · exact .inr ⟨⟨r.val / 2304, by have := r.isLt; omega⟩, ⟨r.val % 2304 - 2048, by omega⟩, Fin.ext (by show r.val = r.val / 2304 * 2304 + (2048 + (r.val % 2304 - 2048)); omega)⟩

/-- The reference's modulated latent rows and context rows. -/
def U (x : FVec Ideal S18432x2048 .f32) (sc sh : FVec Ideal S9x1x2048 .f32) : FVec Ideal S8x2048x2048 .f32 :=
  addf (mulf (extractStridedSlice S8x2048x2048 ![0, 0, 0] (shapeCast S8x2304x2048 x shapeCasts_S18432x2048_S8x2304x2048) slices_S8x2304x2048_S8x2048x2048_0_0_0) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 0] sc slices_S9x1x2048_S8x1x2048_0_0_0)))) (broadcastInDim S8x2048x2048 ![0, 1, 2] bcast_S8x1x2048_S8x2048x2048_0_1_2 (extractStridedSlice S8x1x2048 ![0, 0, 0] sh slices_S9x1x2048_S8x1x2048_0_0_0))
def UC (x : FVec Ideal S18432x2048 .f32) (sc sh : FVec Ideal S9x1x2048 .f32) : FVec Ideal S8x256x2048 .f32 :=
  addf (mulf (extractStridedSlice S8x256x2048 ![0, 2048, 0] (shapeCast S8x2304x2048 x shapeCasts_S18432x2048_S8x2304x2048) slices_S8x2304x2048_S8x256x2048_0_2048_0) (broadcastInDim S8x256x2048 ![0, 1, 2] bcast_S1x1x2048_S8x256x2048_0_1_2 (broadcastInDim S1x1x2048 ![1, 2] bcast_S1x2048_S1x1x2048_1_2 (addf (broadcastInDim S1x2048 ![] bcast_S_S1x2048 (constant S_ .f32 0x3F800000#32)) (shapeCast S1x2048 (extractStridedSlice S1x1x2048 ![8, 0, 0] sc slices_S9x1x2048_S1x1x2048_8_0_0) shapeCasts_S1x1x2048_S1x2048))))) (broadcastInDim S8x256x2048 ![0, 1, 2] bcast_S1x1x2048_S8x256x2048_0_1_2 (broadcastInDim S1x1x2048 ![1, 2] bcast_S1x2048_S1x1x2048_1_2 (shapeCast S1x2048 (extractStridedSlice S1x1x2048 ![8, 0, 0] sh slices_S9x1x2048_S1x1x2048_8_0_0) shapeCasts_S1x1x2048_S1x2048)))

/-- Each modulated array at an index is the modulated stream at that token's row. -/
theorem U_at (x : X) (sc sh : G) (b : Fin 8) (ρ : Fin 2048) (d : Fin 2048) : U x sc sh (ix3 b ρ d) = modu x sc sh (latRow b ρ) d := by
  unfold modu
  rw [grp_lat]
  pointwise [U, latRow]
theorem UC_at (x : X) (sc sh : G) (b : Fin 8) (ρ : Fin 256) (d : Fin 2048) : UC x sc sh (ix3 b ρ d) = modu x sc sh (ctxRow b ρ) d := by
  unfold modu
  rw [grp_ctx]
  pointwise [UC, ctxRow]

/-- A modulated array's row against a column is the projection at that token's row. -/
theorem U_lin (x : X) (sc sh : G) (b : Fin 8) (ρ : Fin 2048) (col : Fin 2048 → EReal) :
    ∑ d, U x sc sh (ix3 b ρ d) * col d = lin x sc sh col (latRow b ρ) :=
  Finset.sum_congr rfl fun d _ => by rw [U_at]
theorem UC_lin (x : X) (sc sh : G) (b : Fin 8) (ρ : Fin 256) (col : Fin 2048 → EReal) :
    ∑ d, UC x sc sh (ix3 b ρ d) * col d = lin x sc sh col (ctxRow b ρ) :=
  Finset.sum_congr rfl fun d _ => by rw [UC_at]

end Proj

end
-- ==== Proof.QkvArr.lean ====
/- The combined query, key and value projection's result array, read back at one row and column from the arguments'
   own elements. -/
module

public import proofs.«01_k».proof.Proof.Proj
public import proofs.«01_k».proof.Proof.Gen.QkvIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace QkvArr

open Idealize.ShloMosaic Idealize.ShloMosaic.TcCoe Cert.QkvIdeal Cert.QkvIdeal.Gen Idealize.SL.Sem
open Idealize.ShloMosaic.Tactic Proj

variable (m : (ℓ : Loc nD τ sig) → Buf (Elt Ideal) ℓ)

/-- The staged tile written out at a row and a column: the modulated row against the column of weights. -/
theorem pay_at (x0 : Vec Ideal S256x2048 .f32) (x1 x2 : Vec Ideal S1x1x2048 .f32) (w : Vec Ideal S2048x2048 .f32) (p : Fin 256) (n : Fin 2048) :
    k0_pay2 x0 x1 x2 (k0_pay1 w) (ix2 p n) = ∑ d, modB x0 x1 x2 p d * w (ix2 d n) := by
  pointwise [k0_pay2, k0_pay1, modB]

theorem tlt (t : Fin cfg0.N) : t.val < 216 := lt_of_lt_of_eq t.isLt (N_0 : cfg0.N = 216)

/-- The point of `t`'s column at which the weights were cast. -/
def head (t : Fin cfg0.N) : Fin cfg0.N := ⟨72 * (t.val / 72), by have := t.isLt; omega⟩

/-- The carried weights are the cast of the column's block, at every point of the column. -/
theorem held (c : Dev nD) (t : Fin cfg0.N) : (outsAt0 m c t.val t.isLt).2 = k0_pay1 (iblk m c 3 (head t)) := by
  refine Pipeline.eq_of_write_hold (fun n h => (outsAt0 m c n h).2) 72 (fun t => k0_pay1 (iblk m c 3 t)) (fun t h => ?_) (fun t h => ?_) t
  · show (outsAt0 m c t.val t.isLt).2 = _
    rw [outsAt0_A m c t h]
    dsimp only
    frame_out
  · show (outsAt0 m c t.val t.isLt).2 = _
    rw [outsAt0_B m c t h]
    rfl

/-- The output block at every point, over the cast weights of its column. -/
theorem block (c : Dev nD) (t : Fin cfg0.N) : (outsAt0 m c t.val t.isLt).1
    = k0_pay2 (iblk m c 0 t) (iblk m c 1 t) (iblk m c 2 t) (k0_pay1 (iblk m c 3 (head t))) := by
  by_cases h : t.val % 72 = 0
  · have hh : head t = t := Fin.ext (by show 72 * (t.val / 72) = t.val; omega)
    rw [outsAt0_A m c t h, hh]
    dsimp only
    frame_out
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held m c ⟨t.val - 1, _⟩]
    dsimp only
    frame_out
    exact congrArg _ (Memref.IsWhole.read_unread _ _)

/-- Where each window stands at grid point `t`: row tile `t % 72`, column `t / 72`. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, t.val / 72] := by
  exact (by decide +kernel : ∀ t : Fin grid0.N, win0_3.index t = ![0, t.val / 72])
theorem at4 : ∀ t : Fin cfg0.N, win0_4.index t = ![t.val % 72, t.val / 72] := by
  exact (by decide +kernel : ∀ t : Fin grid0.N, win0_4.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x6144.Idx → EReal := m ((c : Thread nD τ).loc main_arg3)

/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the columns of the tile. -/
theorem w_blk (c : Dev nD) (t : Fin cfg0.N) (d n : Fin 2048) (q : Fin 6144) (hq : q.val = t.val / 72 * 2048 + n.val) :
    iblk m c 3 (head t) (ix2 d n) = aW m c (ix2 d q) := by
  have := tlt t
  have hh : (head t).val / 72 = t.val / 72 := by show 72 * (t.val / 72) / 72 = t.val / 72; omega
  blk_ext [iblk, V_main_arg3, at3 (head t), hh, hq]

/-- The result array at an index. -/
def arr (x : X) (sc sh : G) (w : S2048x6144.Idx → EReal) : S18432x6144.Idx → EReal := fun y => lin x sc sh (fun d => w (ix2 d (y 1))) (y 0)

/-- THE RESULT ARRAY after the run. -/
theorem final (c : Dev nD) : (dats m 0 c).arrAt 4 cfg0.N = arr (aX m c) (aSc m c) (aSh m c) (aW m c) := by
  refine (dats m 0 c).arrAt_eq_of_covers 4 _ (by decide +kernel) fun t hf y => ?_
  have ht := tlt t
  obtain ⟨p, n, rfl⟩ : ∃ (p : Fin 256) (n : Fin 2048), y = ix2 p n := ⟨y 0, y 1, eq_ix2 y⟩
  blk_simp
  rw [after0_4, block]
  show k0_pay2 _ _ _ _ (ix2 p n) = _
  rw [pay_at]
  have e0 : ((cfg0.win 4).blk t).view.emb (ix2 p n) 0 = tileRow (t.val % 72) (by omega) p := Fin.ext (by blk_simp [at4 t, tileRow])
  have e1 : (((cfg0.win 4).blk t).view.emb (ix2 p n) 1).val = t.val / 72 * 2048 + n.val := by blk_simp [at4 t]
  unfold arr lin
  rw [e0]
  exact Finset.sum_congr rfl fun d _ => by rw [modB_blk, w_blk m c t d n _ e1]

end QkvArr

end
-- ==== Proof.QkvRef.lean ====
/- The combined query, key and value projection: the reference's result array is the kernel's. -/
module

public import proofs.«01_k».proof.Proof.QkvArr

@[expose] public section

set_option maxRecDepth 16384

noncomputable section

namespace QkvRef

open Idealize.ShloMosaic Idealize.ShloMosaic.TcCoe Cert.QkvReferenceIdeal Cert.QkvReferenceIdeal.Gen Cert.QkvReferenceIdeal.Value Idealize.SL.Sem Proj

/-- Latent rows and context rows, side by side, as the result's rows. -/
def whole (l : FVec Ideal S8x2048x6144 .f32) (x : FVec Ideal S8x256x6144 .f32) : FVec Ideal S18432x6144 .bf16 :=
  truncf .bf16 (shapeCast S18432x6144 (concatenate S8x2304x6144 1 [⟨S8x2048x6144, l⟩, ⟨S8x256x6144, x⟩] concatenates_S8x2048x6144_S8x256x6144_S8x2304x6144_d1) shapeCasts_S8x2304x6144_S18432x6144) bitsLt_bf16_f32

/-- The products of the two modulated arrays with the weights. -/
def lat (u : FVec Ideal S8x2048x2048 .f32) (w : FVec Ideal S2048x6144 .f32) : FVec Ideal S8x2048x6144 .f32 :=
  Host.dotGeneral dot_S8x2048x2048_S2048x6144_S8x2048x6144_2_0_01_1_n_n none u w
def ctx (u : FVec Ideal S8x256x2048 .f32) (w : FVec Ideal S2048x6144 .f32) : FVec Ideal S8x256x6144 .f32 :=
  Host.dotGeneral dot_S8x256x2048_S2048x6144_S8x256x6144_2_0_01_1_n_n none u w

theorem whole_lat (l : FVec Ideal S8x2048x6144 .f32) (x : FVec Ideal S8x256x6144 .f32) (b : Fin 8) (ρ : Fin 2048) (n : Fin 6144) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x6144 .f32) (x : FVec Ideal S8x256x6144 .f32) (b : Fin 8) (ρ : Fin 256) (n : Fin 6144) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x6144 .f32) (b : Fin 8) (ρ : Fin 2048) (n : Fin 6144) :
    lat u w (ix3 b ρ n) = ∑ d : Fin 2048, u (ix3 b ρ d) * w (ix2 d n) := by
  pointwise [lat]
theorem ctx_at (u : FVec Ideal S8x256x2048 .f32) (w : FVec Ideal S2048x6144 .f32) (b : Fin 8) (ρ : Fin 256) (n : Fin 6144) :
    ctx u w (ix3 b ρ n) = ∑ d : Fin 2048, u (ix3 b ρ d) * w (ix2 d n) := by
  pointwise [ctx]

/-- The kernel's array is the reference's stages composed. -/
theorem arr_eq (x : FVec Ideal S18432x2048 .f32) (sc sh : FVec Ideal S9x1x2048 .f32) (w : FVec Ideal S2048x6144 .f32) :
    QkvArr.arr x sc sh w = whole (lat (U x sc sh) w) (ctx (UC x sc sh) w) := by
  funext y
  obtain ⟨r, n, rfl⟩ : ∃ (r : Fin 18432) (n : Fin 6144), y = ix2 r n := ⟨y 0, y 1, eq_ix2 y⟩
  rcases row_cases r with ⟨b, ρ, rfl⟩ | ⟨b, ρ, rfl⟩
  · rw [whole_lat, lat_at]
    exact (U_lin x sc sh b ρ fun d => w (ix2 d n)).symm
  · rw [whole_ctx, ctx_at]
    exact (UC_lin x sc sh b ρ fun d => w (ix2 d n)).symm

end QkvRef

end
-- ==== Proof.QkvClaims.lean ====
/- The claims about the combined query, key and value projection, each closed from the modules before it. -/
module

public import proofs.«01_k».proof.Defs
public import proofs.«01_k».proof.Proof.Gen.Qkv.Frame
public import proofs.«01_k».proof.Proof.Gen.QkvIdeal.Frame
public import proofs.«01_k».proof.Proof.Gen.QkvIdeal.Value
public import proofs.«01_k».proof.Proof.Gen.QkvReferenceIdeal.Run
public import proofs.«01_k».proof.Proof.QkvRef
public import Idealize.ShloMosaic.Adequacy
public import Idealize.ShloMosaic.Init
public import Idealize.ShloMosaic.Lib.Quiescent

@[expose] public section

noncomputable section

namespace QkvClaims

open Idealize.ShloMosaic Idealize.SL.Sem

/-- The kernel, at machine floats and ideally, and the reference run to their ends and leave their arguments alone. -/
theorem frameKernel : Cert.quiescent_Qkv (hQkv := Cert.Qkv.Gen.facts) := fun m ρ _ => Cert.Qkv.Gen.frame m ρ
theorem frameIdeal : Cert.quiescent_QkvIdeal (hQkvIdeal := Cert.QkvIdeal.Gen.facts) := fun m ρ _ => Cert.QkvIdeal.Gen.frame m ρ
theorem frameReference : Cert.quiescent_QkvReferenceIdeal (hQkvReferenceIdeal := Cert.QkvReferenceIdeal.Gen.facts) := fun m ρ _ =>
  (θ_run Cert.QkvReferenceIdeal.defs _ _).mono (fun r h => ⟨fun c => (h c).2, Idealize.ShloMosaic.sem_eq_zero_of_no_sems (by decide) r.2⟩)
    (Cert.QkvReferenceIdeal.Value.run (F := Ideal) m ρ)

/-- The idealized kernel rewrites nothing. -/
theorem preserves : Cert.preserves_Qkv_QkvIdeal := trivial

/-- The kernel and the reference leave the same array. -/
theorem algebraic : Cert.algebraic_QkvIdeal_QkvReferenceIdeal (hQkvIdeal := Cert.QkvIdeal.Gen.facts)
    (hQkvReferenceIdeal := Cert.QkvReferenceIdeal.Gen.facts) := by
  intro m ρ m' ρ' _ hagree
  refine ⟨fun c => QkvArr.arr (QkvArr.aX m c) (QkvArr.aSc m c) (QkvArr.aSh m c) (QkvArr.aW m c), ?_, ?_⟩
  · exact (θ_run _ _ _).mono (fun _ h c => ⟨(h c).1.trans (QkvArr.final m c), (h c).2⟩) (Cert.QkvIdeal.Value.run_blocks (F := Ideal) m ρ)
  · refine (θ_run _ _ _).mono (fun _ h c => ⟨(h c).1.trans ?_, (h c).2⟩) (Cert.QkvReferenceIdeal.Value.run (F := Ideal) m' ρ')
    rw [(hagree c).1, (hagree c).2.1, (hagree c).2.2.1, (hagree c).2.2.2]
    exact (QkvRef.arr_eq _ _ _ _).symm

end QkvClaims

end
-- ==== Proof.ValArr.lean ====
/- The value projection's result array, read back at one row and column from the arguments' own elements. -/
module

public import proofs.«01_k».proof.Proof.Proj
public import proofs.«01_k».proof.Proof.Gen.ValIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace ValArr

open Idealize.ShloMosaic Idealize.ShloMosaic.TcCoe Cert.ValIdeal Cert.ValIdeal.Gen Idealize.SL.Sem
open Idealize.ShloMosaic.Tactic Proj

variable (m : (ℓ : Loc nD τ sig) → Buf (Elt Ideal) ℓ)

/-- The staged tile written out at a row and a column: the modulated row against the column of weights. -/
theorem pay_at (x0 : Vec Ideal S256x2048 .f32) (x1 x2 : Vec Ideal S1x1x2048 .f32) (w : Vec Ideal S2048x2048 .f32) (p : Fin 256) (n : Fin 2048) :
    k0_pay2 x0 x1 x2 (k0_pay1 w) (ix2 p n) = ∑ d, modB x0 x1 x2 p d * w (ix2 d n) := by
  pointwise [k0_pay2, k0_pay1, modB]

theorem tlt (t : Fin cfg0.N) : t.val < 72 := lt_of_lt_of_eq t.isLt (N_0 : cfg0.N = 72)

/-- The point of `t`'s column at which the weights were cast. -/
def head (t : Fin cfg0.N) : Fin cfg0.N := ⟨72 * (t.val / 72), by have := t.isLt; omega⟩

/-- The carried weights are the cast of the column's block, at every point of the column. -/
theorem held (c : Dev nD) (t : Fin cfg0.N) : (outsAt0 m c t.val t.isLt).2 = k0_pay1 (iblk m c 3 (head t)) := by
  refine Pipeline.eq_of_write_hold (fun n h => (outsAt0 m c n h).2) 72 (fun t => k0_pay1 (iblk m c 3 t)) (fun t h => ?_) (fun t h => ?_) t
  · show (outsAt0 m c t.val t.isLt).2 = _
    rw [outsAt0_A m c t h]
    dsimp only
    frame_out
  · show (outsAt0 m c t.val t.isLt).2 = _
    rw [outsAt0_B m c t h]
    rfl

/-- The output block at every point, over the cast weights of its column. -/
theorem block (c : Dev nD) (t : Fin cfg0.N) : (outsAt0 m c t.val t.isLt).1
    = k0_pay2 (iblk m c 0 t) (iblk m c 1 t) (iblk m c 2 t) (k0_pay1 (iblk m c 3 (head t))) := by
  by_cases h : t.val % 72 = 0
  · have hh : head t = t := Fin.ext (by show 72 * (t.val / 72) = t.val; omega)
    rw [outsAt0_A m c t h, hh]
    dsimp only
    frame_out
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held m c ⟨t.val - 1, _⟩]
    dsimp only
    frame_out
    exact congrArg _ (Memref.IsWhole.read_unread _ _)

/-- Where each window stands at grid point `t`: row tile `t % 72`, column `t / 72`. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, 2 + t.val / 72] := by
  exact (by decide +kernel : ∀ t : Fin grid0.N, win0_3.index t = ![0, 2 + t.val / 72])
theorem at4 : ∀ t : Fin cfg0.N, win0_4.index t = ![t.val % 72, t.val / 72] := by
  exact (by decide +kernel : ∀ t : Fin grid0.N, win0_4.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x6144.Idx → EReal := m ((c : Thread nD τ).loc main_arg3)

/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the columns of the tile. -/
theorem w_blk (c : Dev nD) (t : Fin cfg0.N) (d n : Fin 2048) (q : Fin 2048) (hq : q.val = t.val / 72 * 2048 + n.val) :
    iblk m c 3 (head t) (ix2 d n) = aW m c (ix2 d ⟨4096 + q.val, by have := q.isLt; omega⟩) := by
  have := tlt t
  have hh : (head t).val / 72 = t.val / 72 := by show 72 * (t.val / 72) / 72 = t.val / 72; omega
  blk_ext [iblk, V_main_arg3, at3 (head t), hh, hq]

/-- The result array at an index. -/
def arr (x : X) (sc sh : G) (w : S2048x6144.Idx → EReal) : S18432x2048.Idx → EReal := fun y => lin x sc sh (fun d => w (ix2 d ⟨4096 + (y 1).val, by have h : (y 1).val < 2048 := (y 1).isLt; omega⟩)) (y 0)

/-- THE RESULT ARRAY after the run. -/
theorem final (c : Dev nD) : (dats m 0 c).arrAt 4 cfg0.N = arr (aX m c) (aSc m c) (aSh m c) (aW m c) := by
  refine (dats m 0 c).arrAt_eq_of_covers 4 _ (by decide +kernel) fun t hf y => ?_
  have ht := tlt t
  obtain ⟨p, n, rfl⟩ : ∃ (p : Fin 256) (n : Fin 2048), y = ix2 p n := ⟨y 0, y 1, eq_ix2 y⟩
  blk_simp
  rw [after0_4, block]
  show k0_pay2 _ _ _ _ (ix2 p n) = _
  rw [pay_at]
  have e0 : ((cfg0.win 4).blk t).view.emb (ix2 p n) 0 = tileRow (t.val % 72) (by omega) p := Fin.ext (by blk_simp [at4 t, tileRow])
  have e1 : (((cfg0.win 4).blk t).view.emb (ix2 p n) 1).val = t.val / 72 * 2048 + n.val := by blk_simp [at4 t]
  unfold arr lin
  rw [e0]
  exact Finset.sum_congr rfl fun d _ => by rw [modB_blk, w_blk m c t d n _ e1]

end ValArr

end
-- ==== Proof.ValRef.lean ====
/- The value projection: the reference's result array is the kernel's. -/
module

public import proofs.«01_k».proof.Proof.ValArr
public import proofs.«01_k».proof.Proof.Gen.ValReferenceIdeal.Run

@[expose] public section

set_option maxRecDepth 16384

noncomputable section

namespace ValRef

open Idealize.ShloMosaic Idealize.ShloMosaic.TcCoe Cert.ValReferenceIdeal Cert.ValReferenceIdeal.Gen Cert.ValReferenceIdeal.Value Idealize.SL.Sem Proj

/-- Latent rows and context rows, side by side, as the result's rows. -/
def whole (l : FVec Ideal S8x2048x2048 .f32) (x : FVec Ideal S8x256x2048 .f32) : FVec Ideal S18432x2048 .bf16 :=
  truncf .bf16 (shapeCast S18432x2048 (concatenate S8x2304x2048 1 [⟨S8x2048x2048, l⟩, ⟨S8x256x2048, x⟩] concatenates_S8x2048x2048_S8x256x2048_S8x2304x2048_d1) shapeCasts_S8x2304x2048_S18432x2048) bitsLt_bf16_f32

/-- The values' columns of the weights. -/
def cols (w : FVec Ideal S2048x6144 .f32) : FVec Ideal S2048x2048 .f32 :=
  extractStridedSlice S2048x2048 ![0, 4096] w slices_S2048x6144_S2048x2048_0_4096
theorem cols_at (w : FVec Ideal S2048x6144 .f32) (d n : Fin 2048) : cols w (ix2 d n) = w (ix2 d ⟨4096 + n, by omega⟩) := by
  pointwise [cols]

/-- The products of the two modulated arrays with the weights. -/
def lat (u : FVec Ideal S8x2048x2048 .f32) (w : FVec Ideal S2048x2048 .f32) : FVec Ideal S8x2048x2048 .f32 :=
  Host.dotGeneral dot_S8x2048x2048_S2048x2048_S8x2048x2048_2_0_01_1_n_n none u w
def ctx (u : FVec Ideal S8x256x2048 .f32) (w : FVec Ideal S2048x2048 .f32) : FVec Ideal S8x256x2048 .f32 :=
  Host.dotGeneral dot_S8x256x2048_S2048x2048_S8x256x2048_2_0_01_1_n_n none u w

theorem whole_lat (l : FVec Ideal S8x2048x2048 .f32) (x : FVec Ideal S8x256x2048 .f32) (b : Fin 8) (ρ : Fin 2048) (n : Fin 2048) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x2048 .f32) (x : FVec Ideal S8x256x2048 .f32) (b : Fin 8) (ρ : Fin 256) (n : Fin 2048) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x2048 .f32) (b : Fin 8) (ρ : Fin 2048) (n : Fin 2048) :
    lat u w (ix3 b ρ n) = ∑ d : Fin 2048, u (ix3 b ρ d) * w (ix2 d n) := by
  pointwise [lat]
theorem ctx_at (u : FVec Ideal S8x256x2048 .f32) (w : FVec Ideal S2048x2048 .f32) (b : Fin 8) (ρ : Fin 256) (n : Fin 2048) :
    ctx u w (ix3 b ρ n) = ∑ d : Fin 2048, u (ix3 b ρ d) * w (ix2 d n) := by
  pointwise [ctx]

/-- The kernel's array is the reference's stages composed. -/
theorem arr_eq (x : FVec Ideal S18432x2048 .f32) (sc sh : FVec Ideal S9x1x2048 .f32) (w : FVec Ideal S2048x6144 .f32) :
    ValArr.arr x sc sh w = whole (lat (U x sc sh) (cols w)) (ctx (UC x sc sh) (cols w)) := by
  funext y
  obtain ⟨r, n, rfl⟩ : ∃ (r : Fin 18432) (n : Fin 2048), y = ix2 r n := ⟨y 0, y 1, eq_ix2 y⟩
  rcases row_cases r with ⟨b, ρ, rfl⟩ | ⟨b, ρ, rfl⟩
  · rw [whole_lat, lat_at]
    simp only [cols_at]
    exact (U_lin x sc sh b ρ fun d => w (ix2 d ⟨4096 + n, by omega⟩)).symm
  · rw [whole_ctx, ctx_at]
    simp only [cols_at]
    exact (UC_lin x sc sh b ρ fun d => w (ix2 d ⟨4096 + n, by omega⟩)).symm

end ValRef

end
-- ==== Proof.ValClaims.lean ====
/- The claims about the value projection, each closed from the modules before it. -/
module

public import proofs.«01_k».proof.Defs
public import proofs.«01_k».proof.Proof.Gen.Val.Frame
public import proofs.«01_k».proof.Proof.Gen.ValIdeal.Frame
public import proofs.«01_k».proof.Proof.Gen.ValIdeal.Value
public import proofs.«01_k».proof.Proof.Gen.ValReferenceIdeal.Run
public import proofs.«01_k».proof.Proof.ValRef
public import Idealize.ShloMosaic.Adequacy
public import Idealize.ShloMosaic.Init
public import Idealize.ShloMosaic.Lib.Quiescent

@[expose] public section

noncomputable section

namespace ValClaims

open Idealize.ShloMosaic Idealize.SL.Sem

/-- The kernel, at machine floats and ideally, and the reference run to their ends and leave their arguments alone. -/
theorem frameKernel : Cert.quiescent_Val (hVal := Cert.Val.Gen.facts) := fun m ρ _ => Cert.Val.Gen.frame m ρ
theorem frameIdeal : Cert.quiescent_ValIdeal (hValIdeal := Cert.ValIdeal.Gen.facts) := fun m ρ _ => Cert.ValIdeal.Gen.frame m ρ
theorem frameReference : Cert.quiescent_ValReferenceIdeal (hValReferenceIdeal := Cert.ValReferenceIdeal.Gen.facts) := fun m ρ _ =>
  (θ_run Cert.ValReferenceIdeal.defs _ _).mono (fun r h => ⟨fun c => (h c).2, Idealize.ShloMosaic.sem_eq_zero_of_no_sems (by decide) r.2⟩)
    (Cert.ValReferenceIdeal.Value.run (F := Ideal) m ρ)

/-- The idealized kernel rewrites nothing. -/
theorem preserves : Cert.preserves_Val_ValIdeal := trivial

/-- The kernel and the reference leave the same array. -/
theorem algebraic : Cert.algebraic_ValIdeal_ValReferenceIdeal (hValIdeal := Cert.ValIdeal.Gen.facts)
    (hValReferenceIdeal := Cert.ValReferenceIdeal.Gen.facts) := by
  intro m ρ m' ρ' _ hagree
  refine ⟨fun c => ValArr.arr (ValArr.aX m c) (ValArr.aSc m c) (ValArr.aSh m c) (ValArr.aW m c), ?_, ?_⟩
  · exact (θ_run _ _ _).mono (fun _ h c => ⟨(h c).1.trans (ValArr.final m c), (h c).2⟩) (Cert.ValIdeal.Value.run_blocks (F := Ideal) m ρ)
  · refine (θ_run _ _ _).mono (fun _ h c => ⟨(h c).1.trans ?_, (h c).2⟩) (Cert.ValReferenceIdeal.Value.run (F := Ideal) m' ρ')
    rw [(hagree c).1, (hagree c).2.1, (hagree c).2.2.1, (hagree c).2.2.2]
    exact (ValRef.arr_eq _ _ _ _).symm

end ValClaims

end
-- ==== Proof.GluArr.lean ====
/- The gated projection's result array, read back at one row and column from the arguments' own elements. -/
module

public import proofs.«01_k».proof.Proof.Proj
public import proofs.«01_k».proof.Proof.Gen.GluIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace GluArr

open Idealize.ShloMosaic Idealize.ShloMosaic.TcCoe Cert.GluIdeal Cert.GluIdeal.Gen Idealize.SL.Sem
open Idealize.ShloMosaic.Tactic Proj

variable (m : (ℓ : Loc nD τ sig) → Buf (Elt Ideal) ℓ)

/-- A value times the logistic function of a gate. -/
def gated (a z : EReal) : EReal :=
  a * Ideal.div (Ideal.ofBits .f32 0x3F800000#32) (Ideal.ofBits .f32 0x3F800000#32 + Ideal.exp (-z))

/-- The staged tile written out at a row and a column. -/
theorem pay_at (x0 : Vec Ideal S256x2048 .f32) (x1 x2 : Vec Ideal S1x1x2048 .f32) (w v : Vec Ideal S2048x1024 .f32) (b e : Vec Ideal S1x1024 .f32) (p : Fin 256) (n : Fin 1024) :
    k0_pay1 (k0_pay5 x0 x1 x2 (k0_pay2 w) b) (k0_pay6 x0 x1 x2 (k0_pay3 v) e) k0_pay7 (ix2 p n)
      = gated ((∑ d, modB x0 x1 x2 p d * w (ix2 d n)) + b (ix2 0 n)) ((∑ d, modB x0 x1 x2 p d * v (ix2 d n)) + e (ix2 0 n)) := by
  pointwise [k0_pay1, k0_pay2, k0_pay3, k0_pay4, k0_pay5, k0_pay6, k0_pay7, modB, gated]
  rw [zero_sub]

theorem tlt (t : Fin cfg0.N) : t.val < 144 := lt_of_lt_of_eq t.isLt (N_0 : cfg0.N = 144)

/-- The point of `t`'s column at which the weights were cast. -/
def head (t : Fin cfg0.N) : Fin cfg0.N := ⟨72 * (t.val / 72), by have := t.isLt; omega⟩

/-- The carried weights are the casts of the column's two blocks, at every point of the column. -/
theorem held0 (c : Dev nD) (t : Fin cfg0.N) : (outsAt0 m c t.val t.isLt).2.1 = k0_pay2 (iblk m c 3 (head t)) := by
  refine Pipeline.eq_of_write_hold (fun n h => (outsAt0 m c n h).2.1) 72 (fun t => k0_pay2 (iblk m c 3 t)) (fun t h => ?_) (fun t h => ?_) t
  · show (outsAt0 m c t.val t.isLt).2.1 = _
    rw [outsAt0_A m c t h]
    dsimp only
    frame_out
  · show (outsAt0 m c t.val t.isLt).2.1 = _
    rw [outsAt0_B m c t h]
    rfl
theorem held1 (c : Dev nD) (t : Fin cfg0.N) : (outsAt0 m c t.val t.isLt).2.2 = k0_pay3 (iblk m c 4 (head t)) := by
  refine Pipeline.eq_of_write_hold (fun n h => (outsAt0 m c n h).2.2) 72 (fun t => k0_pay3 (iblk m c 4 t)) (fun t h => ?_) (fun t h => ?_) t
  · show (outsAt0 m c t.val t.isLt).2.2 = _
    rw [outsAt0_A m c t h]
    dsimp only
    frame_out
  · show (outsAt0 m c t.val t.isLt).2.2 = _
    rw [outsAt0_B m c t h]
    rfl

/-- The output block at every point, over the cast weights of its column. -/
theorem block (c : Dev nD) (t : Fin cfg0.N) : (outsAt0 m c t.val t.isLt).1
    = k0_pay1 (k0_pay5 (iblk m c 0 t) (iblk m c 1 t) (iblk m c 2 t) (k0_pay2 (iblk m c 3 (head t))) (iblk m c 5 t))
        (k0_pay6 (iblk m c 0 t) (iblk m c 1 t) (iblk m c 2 t) (k0_pay3 (iblk m c 4 (head t))) (iblk m c 6 t)) k0_pay7 := by
  by_cases h : t.val % 72 = 0
  · have hh : head t = t := Fin.ext (by show 72 * (t.val / 72) = t.val; omega)
    rw [outsAt0_A m c t h, hh]
    dsimp only
    frame_out
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held0 m c ⟨t.val - 1, _⟩, ← held1 m c ⟨t.val - 1, _⟩]
    dsimp only
    frame_out
    congr 2
    · exact Memref.IsWhole.read_unread _ _
    · exact Memref.IsWhole.read_unread _ _

/-- Where each window stands at grid point `t`: row tile `t % 72`, column `t / 72`. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, t.val / 72] := by
  exact (by decide +kernel : ∀ t : Fin grid0.N, win0_3.index t = ![0, t.val / 72])
theorem at4 : ∀ t : Fin cfg0.N, win0_4.index t = ![0, 2 + t.val / 72] := by
  exact (by decide +kernel : ∀ t : Fin grid0.N, win0_4.index t = ![0, 2 + t.val / 72])
theorem at5 : ∀ t : Fin cfg0.N, win0_5.index t = ![0, t.val / 72] := by
  exact (by decide +kernel : ∀ t : Fin grid0.N, win0_5.index t = ![0, t.val / 72])
theorem at6 : ∀ t : Fin cfg0.N, win0_6.index t = ![0, 2 + t.val / 72] := by
  exact (by decide +kernel : ∀ t : Fin grid0.N, win0_6.index t = ![0, 2 + t.val / 72])
theorem at7 : ∀ t : Fin cfg0.N, win0_7.index t = ![t.val % 72, t.val / 72] := by
  exact (by decide +kernel : ∀ t : Fin grid0.N, win0_7.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x4096.Idx → EReal := m ((c : Thread nD τ).loc main_arg3)
abbrev aB (c : Dev nD) : S4096.Idx → EReal := m ((c : Thread nD τ).loc main_arg4)

/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the tile's columns of the values' half and of the gates' half. -/
theorem w_blk (c : Dev nD) (t : Fin cfg0.N) (d : Fin 2048) (n : Fin 1024) (q : Fin 2048) (hq : q.val = t.val / 72 * 1024 + n.val) :
    iblk m c 3 (head t) (ix2 d n) = aW m c (ix2 d ⟨q, by omega⟩) := by
  have := tlt t
  have hh : (head t).val / 72 = t.val / 72 := by show 72 * (t.val / 72) / 72 = t.val / 72; omega
  blk_ext [iblk, V_main_arg3, at3 (head t), hh, hq]
theorem v_blk (c : Dev nD) (t : Fin cfg0.N) (d : Fin 2048) (n : Fin 1024) (q : Fin 2048) (hq : q.val = t.val / 72 * 1024 + n.val) :
    iblk m c 4 (head t) (ix2 d n) = aW m c (ix2 d ⟨2048 + q, by omega⟩) := by
  have := tlt t
  have hh : (head t).val / 72 = t.val / 72 := by show 72 * (t.val / 72) / 72 = t.val / 72; omega
  blk_ext [iblk, V_main_arg3, at4 (head t), hh, hq]

/-- The staged biases likewise. -/
theorem b_blk (c : Dev nD) (t : Fin cfg0.N) (n : Fin 1024) (q : Fin 2048) (hq : q.val = t.val / 72 * 1024 + n.val) :
    iblk m c 5 t (ix2 0 n) = aB m c (ix1 ⟨q, by omega⟩) := by
  have := tlt t
  unfold iblk
  entry_read
  have hy : (win0_5.blk t).view.emb (ix2 0 n) = ix2 0 ⟨q, by omega⟩ := by blk_ext [at5 t, hq]
  show shapeCast S1x4096 (aB m c) shapeCasts_S4096_S1x4096 ((win0_5.blk t).view.emb (ix2 0 n)) = _
  rw [hy]
  pointwise
theorem e_blk (c : Dev nD) (t : Fin cfg0.N) (n : Fin 1024) (q : Fin 2048) (hq : q.val = t.val / 72 * 1024 + n.val) :
    iblk m c 6 t (ix2 0 n) = aB m c (ix1 ⟨2048 + q, by omega⟩) := by
  have := tlt t
  unfold iblk
  entry_read
  have hy : (win0_6.blk t).view.emb (ix2 0 n) = ix2 0 ⟨2048 + q, by omega⟩ := by blk_ext [at6 t, hq]
  show shapeCast S1x4096 (aB m c) shapeCasts_S4096_S1x4096 ((win0_6.blk t).view.emb (ix2 0 n)) = _
  rw [hy]
  pointwise

/-- The result at stream row `r` and channel `q`: the channel's value gated by the channel's gate. -/
def out (x : X) (sc sh : G) (w : S2048x4096.Idx → EReal) (b : S4096.Idx → EReal) (r : Fin 18432) (q : Fin 2048) : EReal :=
  gated (lin x sc sh (fun d => w (ix2 d ⟨q, by omega⟩)) r + b (ix1 ⟨q, by omega⟩))
    (lin x sc sh (fun d => w (ix2 d ⟨2048 + q, by omega⟩)) r + b (ix1 ⟨2048 + q, by omega⟩))

/-- The result array at an index. -/
def arr (x : X) (sc sh : G) (w : S2048x4096.Idx → EReal) (b : S4096.Idx → EReal) : S18432x2048.Idx → EReal :=
  fun y => out x sc sh w b (y 0) (y 1)

/-- THE RESULT ARRAY after the run. -/
theorem final (c : Dev nD) : (dats m 0 c).arrAt 7 cfg0.N = arr (aX m c) (aSc m c) (aSh m c) (aW m c) (aB m c) := by
  refine (dats m 0 c).arrAt_eq_of_covers 7 _ (by decide +kernel) fun t hf y => ?_
  have ht := tlt t
  obtain ⟨p, n, rfl⟩ : ∃ (p : Fin 256) (n : Fin 1024), y = ix2 p n := ⟨y 0, y 1, eq_ix2 y⟩
  blk_simp
  rw [after0_7, block]
  show k0_pay1 _ _ _ (ix2 p n) = _
  rw [pay_at]
  have e0 : ((cfg0.win 7).blk t).view.emb (ix2 p n) 0 = tileRow (t.val % 72) (by omega) p := Fin.ext (by blk_simp [at7 t, tileRow])
  have e1 : (((cfg0.win 7).blk t).view.emb (ix2 p n) 1).val = t.val / 72 * 1024 + n.val := by blk_simp [at7 t]
  unfold arr out lin
  rw [e0, b_blk m c t n _ e1, e_blk m c t n _ e1]
  simp only [modB_blk, w_blk m c t _ n _ e1, v_blk m c t _ n _ e1]

end GluArr

end
-- ==== Proof.GluRef.lean ====
/- The gated projection: the reference's result array is the kernel's. -/
module

public import proofs.«01_k».proof.Proof.GluArr
public import proofs.«01_k».proof.Proof.Gen.GluReferenceIdeal.Run

@[expose] public section

set_option maxRecDepth 16384

noncomputable section

namespace GluRef

open Idealize.ShloMosaic Idealize.ShloMosaic.TcCoe Cert.GluReferenceIdeal Cert.GluReferenceIdeal.Gen Cert.GluReferenceIdeal.Value Idealize.SL.Sem Proj GluArr

/-- Latent rows and context rows, side by side, as the result's rows. -/
def whole (l : FVec Ideal S8x2048x2048 .f32) (x : FVec Ideal S8x256x2048 .f32) : FVec Ideal S18432x2048 .f32 :=
  shapeCast S18432x2048 (concatenate S8x2304x2048 1 [⟨S8x2048x2048, l⟩, ⟨S8x256x2048, x⟩] concatenates_S8x2048x2048_S8x256x2048_S8x2304x2048_d1) shapeCasts_S8x2304x2048_S18432x2048

/-- The biased products of the two modulated arrays with the weights. -/
def lat (u : FVec Ideal S8x2048x2048 .f32) (w : FVec Ideal S2048x4096 .f32) (b : FVec Ideal S4096 .f32) : FVec Ideal S8x2048x4096 .f32 :=
  addf (Host.dotGeneral dot_S8x2048x2048_S2048x4096_S8x2048x4096_2_0_01_1_n_n none u w) (broadcastInDim S8x2048x4096 ![0, 1, 2] bcast_S1x1x4096_S8x2048x4096_0_1_2 (broadcastInDim S1x1x4096 ![2] bcast_S4096_S1x1x4096_2 b))
def ctx (u : FVec Ideal S8x256x2048 .f32) (w : FVec Ideal S2048x4096 .f32) (b : FVec Ideal S4096 .f32) : FVec Ideal S8x256x4096 .f32 :=
  addf (Host.dotGeneral dot_S8x256x2048_S2048x4096_S8x256x4096_2_0_01_1_n_n none u w) (broadcastInDim S8x256x4096 ![0, 1, 2] bcast_S1x1x4096_S8x256x4096_0_1_2 (broadcastInDim S1x1x4096 ![2] bcast_S4096_S1x1x4096_2 b))

/-- The first half of the channels, gated by the second half. -/
def gateL (a : FVec Ideal S8x2048x4096 .f32) : FVec Ideal S8x2048x2048 .f32 :=
  mulf (extractStridedSlice S8x2048x2048 ![0, 0, 0] a slices_S8x2048x4096_S8x2048x2048_0_0_0) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] a slices_S8x2048x4096_S8x2048x2048_0_0_2048)))))
def gateC (a : FVec Ideal S8x256x4096 .f32) : FVec Ideal S8x256x2048 .f32 :=
  mulf (extractStridedSlice S8x256x2048 ![0, 0, 0] a slices_S8x256x4096_S8x256x2048_0_0_0) (Host.divf (broadcastInDim S8x256x2048 ![] bcast_S_S8x256x2048 (constant S_ .f32 0x3F800000#32)) (addf (broadcastInDim S8x256x2048 ![] bcast_S_S8x256x2048 (constant S_ .f32 0x3F800000#32)) (Host.exp (Host.negf (extractStridedSlice S8x256x2048 ![0, 0, 2048] a slices_S8x256x4096_S8x256x2048_0_0_2048)))))

theorem whole_lat (l : FVec Ideal S8x2048x2048 .f32) (x : FVec Ideal S8x256x2048 .f32) (b : Fin 8) (ρ : Fin 2048) (n : Fin 2048) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x2048 .f32) (x : FVec Ideal S8x256x2048 .f32) (b : Fin 8) (ρ : Fin 256) (n : Fin 2048) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x4096 .f32) (e : FVec Ideal S4096 .f32) (b : Fin 8) (ρ : Fin 2048) (n : Fin 4096) :
    lat u w e (ix3 b ρ n) = (∑ d : Fin 2048, u (ix3 b ρ d) * w (ix2 d n)) + e (ix1 n) := by
  pointwise [lat]
theorem ctx_at (u : FVec Ideal S8x256x2048 .f32) (w : FVec Ideal S2048x4096 .f32) (e : FVec Ideal S4096 .f32) (b : Fin 8) (ρ : Fin 256) (n : Fin 4096) :
    ctx u w e (ix3 b ρ n) = (∑ d : Fin 2048, u (ix3 b ρ d) * w (ix2 d n)) + e (ix1 n) := by
  pointwise [ctx]
theorem gateL_at (a : FVec Ideal S8x2048x4096 .f32) (b : Fin 8) (ρ : Fin 2048) (n : Fin 2048) :
    gateL a (ix3 b ρ n) = gated (a (ix3 b ρ ⟨n, by omega⟩)) (a (ix3 b ρ ⟨2048 + n, by omega⟩)) := by
  pointwise [gateL, gated]
theorem gateC_at (a : FVec Ideal S8x256x4096 .f32) (b : Fin 8) (ρ : Fin 256) (n : Fin 2048) :
    gateC a (ix3 b ρ n) = gated (a (ix3 b ρ ⟨n, by omega⟩)) (a (ix3 b ρ ⟨2048 + n, by omega⟩)) := by
  pointwise [gateC, gated]

/-- The kernel's array is the reference's stages composed. -/
theorem arr_eq (x : FVec Ideal S18432x2048 .f32) (sc sh : FVec Ideal S9x1x2048 .f32) (w : FVec Ideal S2048x4096 .f32) (e : FVec Ideal S4096 .f32) :
    GluArr.arr x sc sh w e = whole (gateL (lat (U x sc sh) w e)) (gateC (ctx (UC x sc sh) w e)) := by
  funext y
  obtain ⟨r, n, rfl⟩ : ∃ (r : Fin 18432) (n : Fin 2048), y = ix2 r n := ⟨y 0, y 1, eq_ix2 y⟩
  rcases row_cases r with ⟨b, ρ, rfl⟩ | ⟨b, ρ, rfl⟩
  · rw [whole_lat, gateL_at, lat_at, lat_at, U_lin x sc sh b ρ fun d => w (ix2 d ⟨n, by omega⟩), U_lin x sc sh b ρ fun d => w (ix2 d ⟨2048 + n, by omega⟩)]
    rfl
  · rw [whole_ctx, gateC_at, ctx_at, ctx_at, UC_lin x sc sh b ρ fun d => w (ix2 d ⟨n, by omega⟩), UC_lin x sc sh b ρ fun d => w (ix2 d ⟨2048 + n, by omega⟩)]
    rfl

variable (m : (ℓ : Loc nD τ sig) → Buf (Elt Ideal) ℓ)

/-- The reference's result is these stages composed. -/
theorem result_eq (c : Dev nD) : res_main_v50 (F := Ideal) m c
    = whole (gateL (lat (U (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))))
        (gateC (ctx (UC (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))) := by
  unfold res_main_v50
  rfl

end GluRef

end
-- ==== Proof.GluClaims.lean ====
/- The claims about the gated projection, each closed from the modules before it. -/
module

public import proofs.«01_k».proof.Defs
public import proofs.«01_k».proof.Proof.Gen.Glu.Frame
public import proofs.«01_k».proof.Proof.Gen.GluIdeal.Frame
public import proofs.«01_k».proof.Proof.Gen.GluIdeal.Value
public import proofs.«01_k».proof.Proof.Gen.GluReferenceIdeal.Run
public import proofs.«01_k».proof.Proof.GluRef
public import Idealize.ShloMosaic.Adequacy
public import Idealize.ShloMosaic.Init
public import Idealize.ShloMosaic.Lib.Quiescent

@[expose] public section

noncomputable section

namespace GluClaims

open Idealize.ShloMosaic Idealize.SL.Sem

/-- The kernel, at machine floats and ideally, and the reference run to their ends and leave their arguments alone. -/
theorem frameKernel : Cert.quiescent_Glu (hGlu := Cert.Glu.Gen.facts) := fun m ρ _ => Cert.Glu.Gen.frame m ρ
theorem frameIdeal : Cert.quiescent_GluIdeal (hGluIdeal := Cert.GluIdeal.Gen.facts) := fun m ρ _ => Cert.GluIdeal.Gen.frame m ρ
theorem frameReference : Cert.quiescent_GluReferenceIdeal (hGluReferenceIdeal := Cert.GluReferenceIdeal.Gen.facts) := fun m ρ _ =>
  (θ_run Cert.GluReferenceIdeal.defs _ _).mono (fun r h => ⟨fun c => (h c).2, Idealize.ShloMosaic.sem_eq_zero_of_no_sems (by decide) r.2⟩)
    (Cert.GluReferenceIdeal.Value.run (F := Ideal) m ρ)

/-- The idealized kernel rewrites nothing. -/
theorem preserves : Cert.preserves_Glu_GluIdeal := trivial

/-- The kernel and the reference leave the same array. -/
theorem algebraic : Cert.algebraic_GluIdeal_GluReferenceIdeal (hGluIdeal := Cert.GluIdeal.Gen.facts)
    (hGluReferenceIdeal := Cert.GluReferenceIdeal.Gen.facts) := by
  intro m ρ m' ρ' _ hagree
  refine ⟨fun c => GluArr.arr (GluArr.aX m c) (GluArr.aSc m c) (GluArr.aSh m c) (GluArr.aW m c) (GluArr.aB m c), ?_, ?_⟩
  · exact (θ_run _ _ _).mono (fun _ h c => ⟨(h c).1.trans (GluArr.final m c), (h c).2⟩) (Cert.GluIdeal.Value.run_blocks (F := Ideal) m ρ)
  · refine (θ_run _ _ _).mono (fun _ h c => ⟨(h c).1.trans ?_, (h c).2⟩) (Cert.GluReferenceIdeal.Value.run (F := Ideal) m' ρ')
    rw [GluRef.result_eq, (hagree c).1, (hagree c).2.1, (hagree c).2.2.1, (hagree c).2.2.2.1, (hagree c).2.2.2.2]
    exact (GluRef.arr_eq _ _ _ _ _).symm

end GluClaims

end
-- ==== Proof.QkArr.lean ====
/- The query and key projection's result array, read back at one row and column from the arguments' own elements. -/
module

public import proofs.«01_k».proof.Proof.Proj
public import proofs.«01_k».proof.Proof.Gen.QkIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace QkArr

open Idealize.ShloMosaic Idealize.ShloMosaic.TcCoe Cert.QkIdeal Cert.QkIdeal.Gen Idealize.SL Idealize.SL.Sem
open Idealize.ShloMosaic.Tactic Proj

/-- A channel's partner: 32 channels on in the first half of each group of 64, 32 channels back in the second half. -/
def mate (e : Fin 128) : Fin 128 := if h : e.val % 64 < 32 then ⟨e.val + 32, by omega⟩ else ⟨e.val - 32, by omega⟩

/-- The channel number within its group of 64. -/
def lane : IVec S256x128 32 :=
  select (andi (xori k0_pay9 (broadcastTo S256x128 k0_pay10 broadcasts_S256x128_S256x128)) k0_pay8)
    (addi k0_pay7 (broadcast S256x128 (Scalar.select (Scalar.cmpi .eq 64#32 0#32) 1#32 64#32))) k0_pay7

/-- Whether a channel lies in the first half of its group. -/
def first : IVec S256x128 1 := cmpi .slt lane (broadcast S256x128 32#32)

/-- One head rotated: each channel times its cosine, and its partner times its sine. -/
def rot (y co si : FVec Ideal S256x128 .f32) : FVec Ideal S256x128 .bf16 :=
  truncf .bf16 (addf (mulf y co) (mulf (select first (dynamicRotate 1 96#32 none y rotates_S256x128_d1)
    (dynamicRotate 1 32#32 none y rotates_S256x128_d1)) si)) bitsLt_bf16_f32

theorem first_at (p : Fin 256) (e : Fin 128) : first (ix2 p e) = if e.val % 64 < 32 then 1#1 else 0#1 := by
  pointwise [first, lane, k0_pay7, k0_pay8, k0_pay9, k0_pay10]
  revert e
  decide +kernel

theorem rot_at (y co si : FVec Ideal S256x128 .f32) (p : Fin 256) (e : Fin 128) :
    rot y co si (ix2 p e) = y (ix2 p e) * co (ix2 p e) + y (ix2 p (mate e)) * si (ix2 p e) := by
  pointwise [rot, first_at]
  have h : Scalar.select (if e.val % 64 < 32 then 1#1 else 0#1) (y (ix2 p ⟨(e.val + 128 - 96) % 128, Nat.mod_lt _ (by decide)⟩))
      (y (ix2 p ⟨(e.val + 128 - 32) % 128, Nat.mod_lt _ (by decide)⟩)) = y (ix2 p (mate e)) := by
    unfold mate
    split
    · exact congrArg y (congrArg (ix2 p) (Fin.ext (by show (e.val + 128 - 96) % 128 = e.val + 32; omega)))
    · exact congrArg y (congrArg (ix2 p) (Fin.ext (by show (e.val + 128 - 32) % 128 = e.val - 32; omega)))
  exact congrArg (fun z => y (ix2 p e) * co (ix2 p e) + z * si (ix2 p e)) h

/-- The partner of a column of a tile of sixteen heads. -/
def mateC (n : Fin 2048) : Fin 2048 := if h : n.val % 64 < 32 then ⟨n.val + 32, by omega⟩ else ⟨n.val - 32, by omega⟩

/-- A tile written out at a row and a column: a product column and its partner, rotated. -/
def turned (Y : FVec Ideal S256x2048 .f32) (co si : FVec Ideal S256x128 .f32) (p : Fin 256) (n : Fin 2048) : EReal :=
  Y (ix2 p n) * co (ix2 p ⟨n.val % 128, by omega⟩) + Y (ix2 p (mateC n)) * si (ix2 p ⟨n.val % 128, by omega⟩)

/-- Head `h` of the tile, rotated, at every index of the tile it covers. -/
theorem head_at (Y : FVec Ideal S256x2048 .f32) (co si : FVec Ideal S256x128 .f32) (p : Fin 256) (n : Fin 2048) (h : Fin 16)
    (o : Fin 2 → ℕ) (ho : o = ![0, 128 * h.val]) (sl) :
    View.TileAt (Val := Elt Ideal) (S := S256x2048) (e := .bf16) (ix2 p n) o S256x128.size
      (rot (extractStridedSlice S256x128 o Y sl) co si) (turned Y co si p n) := by
  intro x hx
  subst ho
  obtain ⟨r, e, rfl⟩ : ∃ (r : Fin 256) (e : Fin 128), x = ix2 r e := ⟨x 0, x 1, eq_ix2 x⟩
  have e0 : p = r := Fin.ext (by simpa [ix2] using hx 0)
  have e1 : n.val = 128 * h.val + e.val := hx 1
  subst e0
  have he : (⟨n.val % 128, by omega⟩ : Fin 128) = e := Fin.ext (by show n.val % 128 = e.val; omega)
  refine (rot_at _ _ _ p e).trans ?_
  unfold turned
  rw [he]
  have a : extractStridedSlice S256x128 ![0, 128 * h.val] Y sl (ix2 p e) = Y (ix2 p n) := by
    pointwise []
    exact congrArg Y (congrArg (ix2 p) (Fin.ext e1.symm))
  have b : extractStridedSlice S256x128 ![0, 128 * h.val] Y sl (ix2 p (mate e)) = Y (ix2 p (mateC n)) := by
    pointwise []
    refine congrArg Y (congrArg (ix2 p) (Fin.ext ?_))
    unfold mate mateC
    split <;> split <;> simp <;> omega
  rw [a, b]

variable (c : Dev nD) (i : grid0.Coords)
  (a2 : Memref sig .tc .vmem S256x2048 .f32) (h2 : a2.IsWhole) (a3 : Memref sig .tc .vmem S1x1x2048 .f32) (h3 : a3.IsWhole)
  (a4 : Memref sig .tc .vmem S1x1x2048 .f32) (h4 : a4.IsWhole) (a5 : Memref sig .tc .vmem S2048x2048 .f32) (h5 : a5.IsWhole)
  (a6 : Memref sig .tc .vmem S256x128 .f32) (h6 : a6.IsWhole) (a7 : Memref sig .tc .vmem S256x128 .f32) (h7 : a7.IsWhole)
  (a8 : Memref sig .tc .vmem S256x2048 .bf16) (h8 : a8.IsWhole) (a9 : Memref sig .tc .vmem S2048x2048 .bf16) (h9 : a9.IsWhole)
  (x0 : Vec Ideal S256x2048 .f32) (x1 x2 : Vec Ideal S1x1x2048 .f32) (x3 : Vec Ideal S2048x2048 .f32) (x4 x5 : Vec Ideal S256x128 .f32)

theorem co_eq : k0_pay4 x4 = x4 := by
  funext y
  obtain ⟨p, e, rfl⟩ : ∃ (p : Fin 256) (e : Fin 128), y = ix2 p e := ⟨y 0, y 1, eq_ix2 y⟩
  pointwise [k0_pay4]
theorem si_eq : k0_pay5 x5 = x5 := by
  funext y
  obtain ⟨p, e, rfl⟩ : ∃ (p : Fin 256) (e : Fin 128), y = ix2 p e := ⟨y 0, y 1, eq_ix2 y⟩
  pointwise [k0_pay5]

/-- Loading a whole staged block reads the block. -/
theorem ld0 : View.readAt (Elt Ideal) a2.view (Rect.unit (s := S256x2048) ![0, 0] S256x2048.size inb_S256x2048_S256x2048_0_0).toLoadRect (h2.unread x0) = x0 := by
  rw [View.readAt_eq_ld, h2.read_unread]
  funext y
  exact View.ld_unit_apply_of _ _ _ _ _ _ fun a => by fin_cases a <;> simp
theorem ld1 : View.readAt (Elt Ideal) a3.view (Rect.unit (s := S1x1x2048) ![0, 0, 0] S1x1x2048.size inb_S1x1x2048_S1x1x2048_0_0_0).toLoadRect (h3.unread x1) = x1 := by
  rw [View.readAt_eq_ld, h3.read_unread]
  funext y
  exact View.ld_unit_apply_of _ _ _ _ _ _ fun a => by fin_cases a <;> simp
theorem ld3 : View.readAt (Elt Ideal) a5.view (Rect.unit (s := S2048x2048) ![0, 0] S2048x2048.size inb_S2048x2048_S2048x2048_0_0).toLoadRect (h5.unread x3) = x3 := by
  rw [View.readAt_eq_ld, h5.read_unread]
  funext y
  exact View.ld_unit_apply_of _ _ _ _ _ _ fun a => by fin_cases a <;> simp
theorem ld4 : View.readAt (Elt Ideal) a6.view (Rect.unit (s := S256x128) ![0, 0] S256x128.size inb_S256x128_S256x128_0_0).toLoadRect (h6.unread x4) = x4 := by
  rw [View.readAt_eq_ld, h6.read_unread]
  funext y
  exact View.ld_unit_apply_of _ _ _ _ _ _ fun a => by fin_cases a <;> simp
theorem ld6 (x6 : Vec Ideal S2048x2048 .bf16) : View.readAt (Elt Ideal) a9.view (Rect.unit (s := S2048x2048) ![0, 0] S2048x2048.size inb_S2048x2048_S2048x2048_0_0).toLoadRect (h9.unread x6) = x6 := by
  rw [View.readAt_eq_ld, h9.read_unread]
  funext y
  exact View.ld_unit_apply_of _ _ _ _ _ _ fun a => by fin_cases a <;> simp

/-- The sixteen heads a tile is stored in. -/
theorem heads_at (Y : FVec Ideal S256x2048 .f32) (co si : FVec Ideal S256x128 .f32) (p : Fin 256) (n : Fin 2048) :
    View.AllAt (Val := Elt Ideal) (S := S256x2048) (e := .bf16)
      [⟨Rect.unit (s := S256x2048) ![0, 1920] S256x128.size inb_S256x2048_S256x128_0_1920, k0_pay1 co si (k0_pay46 Y) 64#32 k0_pay47 k0_pay48 k0_pay49 k0_pay50⟩,
        ⟨Rect.unit (s := S256x2048) ![0, 1792] S256x128.size inb_S256x2048_S256x128_0_1792, k0_pay45 Y co si⟩,
        ⟨Rect.unit (s := S256x2048) ![0, 1664] S256x128.size inb_S256x2048_S256x128_0_1664, k0_pay44 Y co si⟩,
        ⟨Rect.unit (s := S256x2048) ![0, 1536] S256x128.size inb_S256x2048_S256x128_0_1536, k0_pay43 co si (k0_pay38 Y) 64#32 k0_pay39 k0_pay40 k0_pay41 k0_pay42⟩,
        ⟨Rect.unit (s := S256x2048) ![0, 1408] S256x128.size inb_S256x2048_S256x128_0_1408, k0_pay37 Y co si⟩,
        ⟨Rect.unit (s := S256x2048) ![0, 1280] S256x128.size inb_S256x2048_S256x128_0_1280, k0_pay36 Y co si⟩,
        ⟨Rect.unit (s := S256x2048) ![0, 1152] S256x128.size inb_S256x2048_S256x128_0_1152, k0_pay35 co si (k0_pay30 Y) 64#32 k0_pay31 k0_pay32 k0_pay33 k0_pay34⟩,
        ⟨Rect.unit (s := S256x2048) ![0, 1024] S256x128.size inb_S256x2048_S256x128_0_1024, k0_pay29 Y co si⟩,
        ⟨Rect.unit (s := S256x2048) ![0, 896] S256x128.size inb_S256x2048_S256x128_0_896, k0_pay28 Y co si⟩,
        ⟨Rect.unit (s := S256x2048) ![0, 768] S256x128.size inb_S256x2048_S256x128_0_768, k0_pay27 co si (k0_pay22 Y) 64#32 k0_pay23 k0_pay24 k0_pay25 k0_pay26⟩,
        ⟨Rect.unit (s := S256x2048) ![0, 640] S256x128.size inb_S256x2048_S256x128_0_640, k0_pay21 Y co si⟩,
        ⟨Rect.unit (s := S256x2048) ![0, 512] S256x128.size inb_S256x2048_S256x128_0_512, k0_pay20 Y co si⟩,
        ⟨Rect.unit (s := S256x2048) ![0, 384] S256x128.size inb_S256x2048_S256x128_0_384, k0_pay19 co si (k0_pay14 Y) 64#32 k0_pay15 k0_pay16 k0_pay17 k0_pay18⟩,
        ⟨Rect.unit (s := S256x2048) ![0, 256] S256x128.size inb_S256x2048_S256x128_0_256, k0_pay13 Y co si⟩,
        ⟨Rect.unit (s := S256x2048) ![0, 128] S256x128.size inb_S256x2048_S256x128_0_128, k0_pay12 Y co si⟩,
        ⟨Rect.unit (s := S256x2048) ![0, 0] S256x128.size inb_S256x2048_S256x128_0_0, k0_pay11 co si (extractStridedSlice S256x128 ![0, 0] Y slices_S256x2048_o0_0_S256x128) 64#32 k0_pay7 k0_pay8 k0_pay9 k0_pay10⟩]
      (ix2 p n) (turned Y co si p n) := by
  refine View.allAt_cons_unit _ _ _ _ _ (head_at Y co si p n 15 _ (by decide) slices_S256x2048_o0_1920_S256x128) ?_
  refine View.allAt_cons_unit _ _ _ _ _ (head_at Y co si p n 14 _ (by decide) slices_S256x2048_o0_1792_S256x128) ?_
  refine View.allAt_cons_unit _ _ _ _ _ (head_at Y co si p n 13 _ (by decide) slices_S256x2048_o0_1664_S256x128) ?_
  refine View.allAt_cons_unit _ _ _ _ _ (head_at Y co si p n 12 _ (by decide) slices_S256x2048_o0_1536_S256x128) ?_
  refine View.allAt_cons_unit _ _ _ _ _ (head_at Y co si p n 11 _ (by decide) slices_S256x2048_o0_1408_S256x128) ?_
  refine View.allAt_cons_unit _ _ _ _ _ (head_at Y co si p n 10 _ (by decide) slices_S256x2048_o0_1280_S256x128) ?_
  refine View.allAt_cons_unit _ _ _ _ _ (head_at Y co si p n 9 _ (by decide) slices_S256x2048_o0_1152_S256x128) ?_
  refine View.allAt_cons_unit _ _ _ _ _ (head_at Y co si p n 8 _ (by decide) slices_S256x2048_o0_1024_S256x128) ?_
  refine View.allAt_cons_unit _ _ _ _ _ (head_at Y co si p n 7 _ (by decide) slices_S256x2048_o0_896_S256x128) ?_
  refine View.allAt_cons_unit _ _ _ _ _ (head_at Y co si p n 6 _ (by decide) slices_S256x2048_o0_768_S256x128) ?_
  refine View.allAt_cons_unit _ _ _ _ _ (head_at Y co si p n 5 _ (by decide) slices_S256x2048_o0_640_S256x128) ?_
  refine View.allAt_cons_unit _ _ _ _ _ (head_at Y co si p n 4 _ (by decide) slices_S256x2048_o0_512_S256x128) ?_
  refine View.allAt_cons_unit _ _ _ _ _ (head_at Y co si p n 3 _ (by decide) slices_S256x2048_o0_384_S256x128) ?_
  refine View.allAt_cons_unit _ _ _ _ _ (head_at Y co si p n 2 _ (by decide) slices_S256x2048_o0_256_S256x128) ?_
  refine View.allAt_cons_unit _ _ _ _ _ (head_at Y co si p n 1 _ (by decide) slices_S256x2048_o0_128_S256x128) ?_
  refine View.allAt_cons_unit _ _ _ _ _ (head_at Y co si p n 0 _ (by decide) slices_S256x2048_o0_0_S256x128) ?_
  exact View.allAt_nil _ _

set_option maxHeartbeats 1000000 in
/-- The block the body leaves when it casts the weights first, at one row and column. -/
theorem blockA_at (hc) (p : Fin 256) (n : Fin 2048) :
    out0_A_6 (F := Ideal) c i a2 h2 a3 h3 a4 h4 a5 h5 a6 h6 a7 h7 a8 h8 a9 h9 hc x0 x1 x2 x3 x4 x5 (ix2 p n)
      = turned (k0_pay3 x0 x1 x2 (k0_pay2 x3)) x4 x5 p n := by
  unfold out0_A_6
  rw [View.read_writes_eq_canon _ _ _ (cover0_A_6 c _ _ _ _ _ _ _ _ _ _ _ _ _ _ _ _ _ _ _ _ _ _ _ _)]
  refine View.canon_eq_of_allAt _ _ _ (cover0_A_6 c _ _ _ _ _ _ _ _ _ _ _ _ _ _ _ _ _ _ _ _ _ _ _ _ _) ?_
  unfold kernelRun0_A
  dsimp only
  sl_unfold_words
  rw [ld0, ld1, ld1, ld3, ld4, ld4, View.readCov_unit_lit _ _ _ (by decide)]
  have h := heads_at (k0_pay3 x0 x1 x2 (k0_pay2 x3)) (k0_pay4 x4) (k0_pay5 x5) p n
  rw [co_eq, si_eq] at h
  rw [co_eq, si_eq]
  exact h

set_option maxHeartbeats 1000000 in
/-- The block the body leaves over weights cast before, at one row and column. -/
theorem blockB_at (hc) (x6 : Vec Ideal S2048x2048 .bf16) (p : Fin 256) (n : Fin 2048) :
    out0_B_6 (F := Ideal) c i a2 h2 a3 h3 a4 h4 a5 h5 a6 h6 a7 h7 a8 h8 a9 h9 hc x0 x1 x2 x3 x4 x5 x6 (ix2 p n)
      = turned (k0_pay3 x0 x1 x2 x6) x4 x5 p n := by
  unfold out0_B_6
  rw [View.read_writes_eq_canon _ _ _ (cover0_B_6 c _ _ _ _ _ _ _ _ _ _ _ _ _ _ _ _ _ _ _ _ _ _ _ _ _)]
  refine View.canon_eq_of_allAt _ _ _ (cover0_B_6 c _ _ _ _ _ _ _ _ _ _ _ _ _ _ _ _ _ _ _ _ _ _ _ _ _ _) ?_
  unfold kernelRun0_B
  dsimp only
  sl_unfold_words
  rw [ld0, ld1, ld1, ld4, ld4, ld6]
  have h := heads_at (k0_pay3 x0 x1 x2 x6) (k0_pay4 x4) (k0_pay5 x5) p n
  rw [co_eq, si_eq] at h
  rw [co_eq, si_eq]
  exact h

end QkArr

end
-- ==== Proof.Turn.lean ====
/- The rotation's tables: the cosines and signed sines the kernel is given, read back at a token and a channel. -/
module

public import proofs.«01_k».proof.Proof.Proj
public import proofs.«01_k».proof.Proof.Gen.QkIdeal.Value
public import Idealize.ShloMosaic.Lib.Pipeline.ValueKit
public import Idealize.ShloMosaic.Lib.StableHlo.RunRead

@[expose] public section

set_option maxRecDepth 16384

noncomputable section

namespace Turn

open Idealize.ShloMosaic Idealize.ShloMosaic.TcCoe Cert.QkIdeal Cert.QkIdeal.Gen Idealize.SL Idealize.SL.Sem
open Idealize.ShloMosaic.Tactic

/-- The tokens in order, and the grid's width as a number of tokens. -/
def tok : IVec S2048 32 := iotaInDim S2048 32 0
def wid : IVec S_ 32 := id (constantI S_ 32 64#32)
def widB : IVec S2048 32 := broadcastInDim S2048 ![] bcast_S_S2048 wid
/-- The divisor of the remainder, guarded. -/
def dvs : IVec S_ 32 := select (cmpi .eq wid (constantI S_ 32 0#32)) (constantI S_ 32 1#32) wid
def dvsB : IVec S2048 32 := broadcastInDim S2048 ![] bcast_S_S2048 dvs
def zeroB : IVec S2048 32 := broadcastInDim S2048 ![] bcast_S_S2048 (constantI S_ 32 0#32)

/-- A token's row of the grid. -/
def rowOf : IVec S2048 32 :=
  select (andi (cmpi .ne (signi tok) (broadcastInDim S2048 ![] bcast_S_S2048 (signi wid))) (cmpi .ne (Host.remsi tok widB) zeroB))
    (subi (Host.divsi tok widB) (broadcastInDim S2048 ![] bcast_S_S2048 (constantI S_ 32 1#32))) (Host.divsi tok widB)

/-- A token's column of the grid. -/
def colOf : IVec S2048 32 :=
  select (andi (cmpi .ne (cmpi .slt (Host.remsi tok dvsB) zeroB) (broadcastInDim S2048 ![] bcast_S_S2048 (cmpi .slt dvs (constantI S_ 32 0#32))))
      (cmpi .ne (Host.remsi tok dvsB) zeroB))
    (addi (Host.remsi tok dvsB) dvsB) (Host.remsi tok dvsB)

/-- The angle of a token, along rows and along columns, at each frequency. -/
def ang : FVec Ideal S2048x2x32 .f32 :=
  mulf (broadcastInDim S2048x2x32 ![0, 1, 2] bcast_S2048x2x1_S2048x2x32_0_1_2 (broadcastInDim S2048x2x1 ![0, 1] bcast_S2048x2_S2048x2x1_0_1
      (sitofp .f32 (concatenate S2048x2 1 [⟨S2048x1, broadcastInDim S2048x1 ![0] bcast_S2048_S2048x1_0 rowOf⟩,
        ⟨S2048x1, broadcastInDim S2048x1 ![0] bcast_S2048_S2048x1_0 colOf⟩] concatenates_S2048x1_S2048x1_S2048x2_d1))))
    (broadcastInDim S2048x2x32 ![0, 1, 2] bcast_S1x1x32_S2048x2x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two arrays of angles side by side in each group of 64 channels. -/
def pair (a b : FVec Ideal S2048x2x32 .f32) : FVec Ideal S2048x128 .f32 :=
  shapeCast S2048x128 (concatenate S2048x2x2x32 2 [⟨S2048x2x1x32, broadcastInDim S2048x2x1x32 ![0, 1, 3] bcast_S2048x2x32_S2048x2x1x32_0_1_3 a⟩,
    ⟨S2048x2x1x32, broadcastInDim S2048x2x1x32 ![0, 1, 3] bcast_S2048x2x32_S2048x2x1x32_0_1_3 b⟩] concatenates_S2048x2x1x32_S2048x2x1x32_S2048x2x2x32_d2)
    shapeCasts_S2048x2x2x32_S2048x128

/-- A table of the latent tokens, then one number for every context token. -/
def table (a : FVec Ideal S2048x128 .f32) (k : BitVec 32) : FVec Ideal S2304x128 .f32 :=
  concatenate S2304x128 0 [⟨S2048x128, a⟩, ⟨S256x128, broadcastInDim S256x128 ![] bcast_S_S256x128 (constant S_ .f32 k)⟩] concatenates_S2048x128_S256x128_S2304x128_d0

/-- The two tables. -/
def cosT : FVec Ideal S2304x128 .f32 := table (pair (Host.cos ang) (Host.cos ang)) 0x3F800000#32
def sinT : FVec Ideal S2304x128 .f32 := table (pair (Host.negf (Host.sin ang)) (Host.sin ang)) 0x00000000#32

theorem pair_at (a b : FVec Ideal S2048x2x32 .f32) (ρ : Fin 2048) (e : Fin 128) :
    pair a b (ix2 ρ e) = if e.val % 64 < 32 then a (ix3 ρ ⟨e.val / 64, by omega⟩ ⟨e.val % 32, by omega⟩)
      else b (ix3 ρ ⟨e.val / 64, by omega⟩ ⟨e.val % 32, by omega⟩) := by
  pointwise [pair]
  by_cases h : e.val % 64 < 32
  · rw [dif_pos (by omega), if_pos h]
  · rw [dif_neg (by omega), if_neg h]

theorem table_lat (a : FVec Ideal S2048x128 .f32) (k : BitVec 32) (ρ : Fin 2048) (e : Fin 128) :
    table a k (ix2 ⟨ρ.val, by omega⟩ e) = a (ix2 ρ e) := by
  pointwise [table]
theorem table_ctx (a : FVec Ideal S2048x128 .f32) (k : BitVec 32) (ρ : Fin 256) (e : Fin 128) :
    table a k (ix2 ⟨2048 + ρ.val, by omega⟩ e) = Ideal.ofBits .f32 k := by
  pointwise [table]

variable (m : (ℓ : Loc nD τ sig) → Buf (Elt Ideal) ℓ)

/-- What the host computes before the launch, in order. -/
abbrev hops : List (HloOp τ sig (Elt Ideal)) := hostOps0 ++ (hostOps0_1 ++ (hostOps0_2 ++ (hostOps0_3 ++ (hostOps0_4 ++ []))))

variable (σ : Valuation τ sig (Elt Ideal))

/-- The rows and the columns are computed as stated. -/
theorem row_read : StableHlo.upto hops σ 43 (Proc.tc.devRef main_v3) = broadcastInDim S2048x1 ![0] bcast_S2048_S2048x1_0 rowOf := by
  after_reads_simp
  rfl
theorem col_read : StableHlo.upto hops σ 43 (Proc.tc.devRef main_v4) = broadcastInDim S2048x1 ![0] bcast_S2048_S2048x1_0 colOf := by
  after_reads_simp
  rfl

/-- The angles are computed as stated. -/
theorem ang_read : StableHlo.upto hops σ 58 (Proc.tc.devRef main_v17) = ang := by
  after_reads_simp
  rw [row_read, col_read]
  rfl

/-- Their cosines and sines. -/
theorem cos_read : StableHlo.upto hops σ 59 (Proc.tc.devRef main_v18) = Host.cos ang := by
  rw [← ang_read σ]
  after_reads_simp
theorem sin_read : StableHlo.upto hops σ 60 (Proc.tc.devRef main_v19) = Host.sin ang := by
  rw [← ang_read σ]
  after_reads_simp

/-- They are laid out in pairs. -/
theorem cosP_read : StableHlo.upto hops σ 63 (Proc.tc.devRef main_v22) = concatenate S2048x2x2x32 2 [⟨S2048x2x1x32, broadcastInDim S2048x2x1x32 ![0, 1, 3] bcast_S2048x2x32_S2048x2x1x32_0_1_3 (Host.cos ang)⟩,
    ⟨S2048x2x1x32, broadcastInDim S2048x2x1x32 ![0, 1, 3] bcast_S2048x2x32_S2048x2x1x32_0_1_3 (Host.cos ang)⟩] concatenates_S2048x2x1x32_S2048x2x1x32_S2048x2x2x32_d2 := by
  rw [← cos_read σ]
  after_reads_simp
  refine congrArg₂ (fun a b => concatenate S2048x2x2x32 2 [⟨S2048x2x1x32, a⟩, ⟨S2048x2x1x32, b⟩] concatenates_S2048x2x1x32_S2048x2x1x32_S2048x2x2x32_d2) ?_ ?_
  · after_reads_simp
  · after_reads_simp

theorem sinP_read : StableHlo.upto hops σ 68 (Proc.tc.devRef main_v27) = concatenate S2048x2x2x32 2 [⟨S2048x2x1x32, broadcastInDim S2048x2x1x32 ![0, 1, 3] bcast_S2048x2x32_S2048x2x1x32_0_1_3 (Host.negf (Host.sin ang))⟩,
    ⟨S2048x2x1x32, broadcastInDim S2048x2x1x32 ![0, 1, 3] bcast_S2048x2x32_S2048x2x1x32_0_1_3 (Host.sin ang)⟩] concatenates_S2048x2x1x32_S2048x2x1x32_S2048x2x2x32_d2 := by
  rw [← sin_read σ]
  after_reads_simp
  refine congrArg₂ (fun a b => concatenate S2048x2x2x32 2 [⟨S2048x2x1x32, a⟩, ⟨S2048x2x1x32, b⟩] concatenates_S2048x2x1x32_S2048x2x1x32_S2048x2x2x32_d2) ?_ ?_
  · after_reads_simp
  · after_reads_simp

/-- The kernel is given these tables. -/
theorem V_cos (c : Dev nD) : V m c main_v30 = cosT := by
  show StableHlo.after [hostOps0, hostOps0_1, hostOps0_2, hostOps0_3, hostOps0_4].flatten (fun b => m (c, b)) (Proc.tc.devRef main_v30) = cosT
  simp only [List.flatten_cons, List.flatten_nil]
  after_reads_simp
  refine congrArg₂ (fun a b => concatenate S2304x128 0 [⟨S2048x128, a⟩, ⟨S256x128, b⟩] concatenates_S2048x128_S256x128_S2304x128_d0) ?_ ?_
  · unfold pair
    rw [← cosP_read (fun b => m (c, b))]
    after_reads_simp
    rfl
  · after_reads_simp

theorem V_sin (c : Dev nD) : V m c main_v32 = sinT := by
  show StableHlo.after [hostOps0, hostOps0_1, hostOps0_2, hostOps0_3, hostOps0_4].flatten (fun b => m (c, b)) (Proc.tc.devRef main_v32) = sinT
  simp only [List.flatten_cons, List.flatten_nil]
  after_reads_simp
  refine congrArg₂ (fun a b => concatenate S2304x128 0 [⟨S2048x128, a⟩, ⟨S256x128, b⟩] concatenates_S2048x128_S256x128_S2304x128_d0) ?_ ?_
  · unfold pair
    rw [← sinP_read (fun b => m (c, b))]
    after_reads_simp
    rfl
  · after_reads_simp

end Turn

end
-- ==== Proof.QkFin.lean ====
/- The query and key projection's result array, from the arguments' own elements and the rotation's tables. -/
module

public import proofs.«01_k».proof.Proof.QkArr
public import proofs.«01_k».proof.Proof.Turn

@[expose] public section

set_option maxRecDepth 16384

noncomputable section

namespace QkArr

open Idealize.ShloMosaic Idealize.ShloMosaic.TcCoe Cert.QkIdeal Cert.QkIdeal.Gen Idealize.SL Idealize.SL.Sem
open Idealize.ShloMosaic.Tactic Proj Turn

variable (m : (ℓ : Loc nD τ sig) → Buf (Elt Ideal) ℓ)

/-- The projected tile before it is rotated: the modulated row against the column of weights. -/
theorem pay_at (x0 : Vec Ideal S256x2048 .f32) (x1 x2 : Vec Ideal S1x1x2048 .f32) (w : Vec Ideal S2048x2048 .f32) (p : Fin 256) (n : Fin 2048) :
    k0_pay3 x0 x1 x2 (k0_pay2 w) (ix2 p n) = ∑ d, modB x0 x1 x2 p d * w (ix2 d n) := by
  pointwise [k0_pay3, k0_pay2, modB]

theorem tlt (t : Fin cfg0.N) : t.val < 144 := lt_of_lt_of_eq t.isLt (N_0 : cfg0.N = 144)

/-- The point of `t`'s column at which the weights were cast. -/
def head (t : Fin cfg0.N) : Fin cfg0.N := ⟨72 * (t.val / 72), by have := t.isLt; omega⟩

/-- The carried weights are the cast of the column's block, at every point of the column. -/
theorem held (c : Dev nD) (t : Fin cfg0.N) : (outsAt0 m c t.val t.isLt).2 = k0_pay2 (iblk m c 3 (head t)) := by
  refine Pipeline.eq_of_write_hold (fun n h => (outsAt0 m c n h).2) 72 (fun t => k0_pay2 (iblk m c 3 t)) (fun t h => ?_) (fun t h => ?_) t
  · show (outsAt0 m c t.val t.isLt).2 = _
    rw [outsAt0_A m c t h]
    dsimp only
    frame_out
  · show (outsAt0 m c t.val t.isLt).2 = _
    rw [outsAt0_B m c t h]
    rfl

/-- The output block at every point, over the cast weights of its column. -/
theorem block (c : Dev nD) (t : Fin cfg0.N) (p : Fin 256) (n : Fin 2048) : (outsAt0 m c t.val t.isLt).1 (ix2 p n)
    = turned (k0_pay3 (iblk m c 0 t) (iblk m c 1 t) (iblk m c 2 t) (k0_pay2 (iblk m c 3 (head t)))) (iblk m c 4 t) (iblk m c 5 t) p n := by
  by_cases h : t.val % 72 = 0
  · have hh : head t = t := Fin.ext (by show 72 * (t.val / 72) = t.val; omega)
    rw [outsAt0_A m c t h, hh]
    dsimp only
    exact blockA_at _ _ _ _ _ _ _ _ _ _ _ _ _ _ _ _ _ _ _ _ _ _ _ _ _ _ _
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held m c ⟨t.val - 1, _⟩]
    dsimp only
    exact blockB_at _ _ _ _ _ _ _ _ _ _ _ _ _ _ _ _ _ _ _ _ _ _ _ _ _ _ _ _

/-- Where each window stands at grid point `t`: row tile `t % 72`, column `t / 72`; the tables at the tile's tokens. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, t.val / 72] := by
  exact (by decide +kernel : ∀ t : Fin grid0.N, win0_3.index t = ![0, t.val / 72])
theorem at4 : ∀ t : Fin cfg0.N, win0_4.index t = ![t.val % 72 % 9, 0] := by
  exact (by decide +kernel : ∀ t : Fin grid0.N, win0_4.index t = ![t.val % 72 % 9, 0])
theorem at5 : ∀ t : Fin cfg0.N, win0_5.index t = ![t.val % 72 % 9, 0] := by
  exact (by decide +kernel : ∀ t : Fin grid0.N, win0_5.index t = ![t.val % 72 % 9, 0])
theorem at6 : ∀ t : Fin cfg0.N, win0_6.index t = ![t.val % 72, t.val / 72] := by
  exact (by decide +kernel : ∀ t : Fin grid0.N, win0_6.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x6144.Idx → EReal := m ((c : Thread nD τ).loc main_arg3)

set_option maxHeartbeats 2000000 in
/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the columns of the tile. -/
theorem w_blk (c : Dev nD) (t : Fin cfg0.N) (d n : Fin 2048) (q : Fin 4096) (hq : q.val = t.val / 72 * 2048 + n.val) :
    iblk m c 3 (head t) (ix2 d n) = aW m c (ix2 d ⟨q, by omega⟩) := by
  have := tlt t
  have hh : (head t).val / 72 = t.val / 72 := by show 72 * (t.val / 72) / 72 = t.val / 72; omega
  blk_ext [iblk, V_main_arg3, at3 (head t), hh, hq]

/-- The token a stream row holds: its position in its batch element's tokens. -/
def token (r : Fin 18432) : Fin 2304 := ⟨r.val % 2304, Nat.mod_lt _ (by decide)⟩

/-- The staged tables are the tables at the tile's tokens. -/
theorem co_blk (c : Dev nD) (t : Fin cfg0.N) (p : Fin 256) (e : Fin 128) :
    iblk m c 4 t (ix2 p e) = cosT (ix2 (token (tileRow (t.val % 72) (by omega) p)) e) := by
  have := tlt t
  have hy : (win0_4.blk t).view.emb (ix2 p e) = ix2 (token (tileRow (t.val % 72) (by omega) p)) e := by
    have : (t.val % 72 * 256 + p.val) % 2304 = t.val % 72 % 9 * 256 + p.val := by omega
    blk_ext [at4 t, token, tileRow, this]
  unfold iblk
  show (V m c main_v30) ((win0_4.blk t).view.emb (ix2 p e)) = _
  rw [V_cos, hy]
theorem si_blk (c : Dev nD) (t : Fin cfg0.N) (p : Fin 256) (e : Fin 128) :
    iblk m c 5 t (ix2 p e) = sinT (ix2 (token (tileRow (t.val % 72) (by omega) p)) e) := by
  have := tlt t
  have hy : (win0_5.blk t).view.emb (ix2 p e) = ix2 (token (tileRow (t.val % 72) (by omega) p)) e := by
    have : (t.val % 72 * 256 + p.val) % 2304 = t.val % 72 % 9 * 256 + p.val := by omega
    blk_ext [at5 t, token, tileRow, this]
  unfold iblk
  show (V m c main_v32) ((win0_5.blk t).view.emb (ix2 p e)) = _
  rw [V_sin, hy]

/-- The partner of a column of the result. -/
def mateQ (q : Fin 4096) : Fin 4096 := if h : q.val % 64 < 32 then ⟨q.val + 32, by omega⟩ else ⟨q.val - 32, by omega⟩

/-- Partners lie in the same tile. -/
theorem mate_tile (k : ℕ) (n : Fin 2048) (q : Fin 4096) (hq : q.val = k * 2048 + n.val) : (mateQ q).val = k * 2048 + (mateC n).val := by
  unfold mateQ mateC
  split <;> split <;> dsimp only <;> omega

/-- The result at stream row `r` and column `q`: the column's product times its cosine, and its partner's times its sine. -/
def out (x : X) (sc sh : G) (w : S2048x6144.Idx → EReal) (r : Fin 18432) (q : Fin 4096) : EReal :=
  lin x sc sh (fun d => w (ix2 d ⟨q, by omega⟩)) r * cosT (ix2 (token r) ⟨q.val % 128, by omega⟩)
    + lin x sc sh (fun d => w (ix2 d ⟨mateQ q, by omega⟩)) r * sinT (ix2 (token r) ⟨q.val % 128, by omega⟩)

/-- The result array at an index. -/
def arr (x : X) (sc sh : G) (w : S2048x6144.Idx → EReal) : S18432x4096.Idx → EReal := fun y => out x sc sh w (y 0) (y 1)

/-- THE RESULT ARRAY after the run. -/
theorem final (c : Dev nD) : (dats m 0 c).arrAt 6 cfg0.N = arr (aX m c) (aSc m c) (aSh m c) (aW m c) := by
  refine (dats m 0 c).arrAt_eq_of_covers 6 _ (by decide +kernel) fun t hf y => ?_
  have ht := tlt t
  obtain ⟨p, n, rfl⟩ : ∃ (p : Fin 256) (n : Fin 2048), y = ix2 p n := ⟨y 0, y 1, eq_ix2 y⟩
  blk_simp
  rw [after0_6]
  refine (block m c t p n).trans ?_
  have e0 : ((cfg0.win 6).blk t).view.emb (ix2 p n) 0 = tileRow (t.val % 72) (by omega) p := Fin.ext (by blk_simp [at6 t, tileRow])
  have e1 : (((cfg0.win 6).blk t).view.emb (ix2 p n) 1).val = t.val / 72 * 2048 + n.val := by blk_simp [at6 t]
  have e2 := mate_tile _ _ _ e1
  have e3 : (((cfg0.win 6).blk t).view.emb (ix2 p n) 1).val % 128 = n.val % 128 := by omega
  have e4 : (⟨(((cfg0.win 6).blk t).view.emb (ix2 p n) 1).val % 128, Nat.mod_lt _ (by decide)⟩ : Fin 128) = ⟨n.val % 128, Nat.mod_lt _ (by decide)⟩ :=
    Fin.ext e3
  unfold turned arr out lin
  rw [pay_at, pay_at, co_blk, si_blk, e0, e4]
  simp only [modB_blk, w_blk m c t _ n _ e1, w_blk m c t _ (mateC n) _ e2]

end QkArr

end
-- ==== Proof.QkStage.lean ====
/- The query and key projection: the reference's stages, each read at an index. -/
module

public import proofs.«01_k».proof.Proof.QkFin
public import proofs.«01_k».proof.Proof.Gen.QkReferenceIdeal.Run

@[expose] public section

set_option maxRecDepth 16384

noncomputable section

namespace QkRef

open Idealize.ShloMosaic Idealize.ShloMosaic.TcCoe Cert.QkReferenceIdeal Cert.QkReferenceIdeal.Gen Cert.QkReferenceIdeal.Value Idealize.SL.Sem Proj

/-- Latent rows and context rows, side by side, as the result's rows. -/
def whole (l : FVec Ideal S8x2048x4096 .f32) (x : FVec Ideal S8x256x4096 .f32) : FVec Ideal S18432x4096 .bf16 :=
  truncf .bf16 (shapeCast S18432x4096 (concatenate S8x2304x4096 1 [⟨S8x2048x4096, l⟩, ⟨S8x256x4096, x⟩] concatenates_S8x2048x4096_S8x256x4096_S8x2304x4096_d1) shapeCasts_S8x2304x4096_S18432x4096) bitsLt_bf16_f32

/-- The query and key columns of the weights. -/
def cols (w : FVec Ideal S2048x6144 .f32) : FVec Ideal S2048x4096 .f32 := extractStridedSlice S2048x4096 ![0, 0] w slices_S2048x6144_S2048x4096_0_0

/-- The products of the two modulated arrays with the weights. -/
def lat (u : FVec Ideal S8x2048x2048 .f32) (w : FVec Ideal S2048x4096 .f32) : FVec Ideal S8x2048x4096 .f32 :=
  Host.dotGeneral dot_S8x2048x2048_S2048x4096_S8x2048x4096_2_0_01_1_n_n none u w
def ctx (u : FVec Ideal S8x256x2048 .f32) (w : FVec Ideal S2048x4096 .f32) : FVec Ideal S8x256x4096 .f32 :=
  Host.dotGeneral dot_S8x256x2048_S2048x4096_S8x256x4096_2_0_01_1_n_n none u w

/-- A latent array by head, position axis, half and frequency. -/
def split (h : FVec Ideal S8x2048x4096 .f32) : FVec Ideal S8x32x2048x2x2x32 .f32 :=
  shapeCast S8x32x2048x2x2x32 (transpose S8x32x2048x128 [0, 2, 1, 3] (shapeCast S8x2048x32x128 h shapeCasts_S8x2048x4096_S8x2048x32x128) transposes_S8x2048x32x128_S8x32x2048x128_0_2_1_3) shapeCasts_S8x32x2048x128_S8x32x2048x2x2x32

/-- Its first and second halves. -/
def fstH (z : FVec Ideal S8x32x2048x2x2x32 .f32) : FVec Ideal S8x32x2048x2x32 .f32 :=
  shapeCast S8x32x2048x2x32 (extractStridedSlice S8x32x2048x2x1x32 ![0, 0, 0, 0, 0, 0] z slices_S8x32x2048x2x2x32_S8x32x2048x2x1x32_0_0_0_0_0_0) shapeCasts_S8x32x2048x2x1x32_S8x32x2048x2x32
def sndH (z : FVec Ideal S8x32x2048x2x2x32 .f32) : FVec Ideal S8x32x2048x2x32 .f32 :=
  shapeCast S8x32x2048x2x32 (extractStridedSlice S8x32x2048x2x1x32 ![0, 0, 0, 0, 1, 0] z slices_S8x32x2048x2x2x32_S8x32x2048x2x1x32_0_0_0_0_1_0) shapeCasts_S8x32x2048x2x1x32_S8x32x2048x2x32

/-- An array of angles over every batch element and head. -/
def over (a : FVec Ideal S2048x2x32 .f32) : FVec Ideal S8x32x2048x2x32 .f32 :=
  broadcastInDim S8x32x2048x2x32 ![0, 1, 2, 3, 4] bcast_S1x1x2048x2x32_S8x32x2048x2x32_0_1_2_3_4 (broadcastInDim S1x1x2048x2x32 ![2, 3, 4] bcast_S2048x2x32_S1x1x2048x2x32_2_3_4 a)

/-- Two halves side by side. -/
def both (a b : FVec Ideal S8x32x2048x2x32 .f32) : FVec Ideal S8x32x2048x2x2x32 .f32 :=
  concatenate S8x32x2048x2x2x32 4
    [⟨S8x32x2048x2x1x32, broadcastInDim S8x32x2048x2x1x32 ![0, 1, 2, 3, 5] bcast_S8x32x2048x2x32_S8x32x2048x2x1x32_0_1_2_3_5 a⟩,
     ⟨S8x32x2048x2x1x32, broadcastInDim S8x32x2048x2x1x32 ![0, 1, 2, 3, 5] bcast_S8x32x2048x2x32_S8x32x2048x2x1x32_0_1_2_3_5 b⟩]
    concatenates_S8x32x2048x2x1x32_S8x32x2048x2x1x32_S8x32x2048x2x2x32_d4

/-- The array by heads laid back in columns. -/
def flat (z : FVec Ideal S8x32x2048x2x2x32 .f32) : FVec Ideal S8x2048x4096 .f32 :=
  shapeCast S8x2048x4096 (transpose S8x2048x32x128 [0, 2, 1, 3] (shapeCast S8x32x2048x128 z shapeCasts_S8x32x2048x2x2x32_S8x32x2048x128) transposes_S8x32x2048x128_S8x2048x32x128_0_2_1_3) shapeCasts_S8x2048x32x128_S8x2048x4096

/-- A latent array, rotated. -/
def spin (h : FVec Ideal S8x2048x4096 .f32) (C S : FVec Ideal S2048x2x32 .f32) : FVec Ideal S8x2048x4096 .f32 :=
  flat (both (subf (mulf (fstH (split h)) (over C)) (mulf (sndH (split h)) (over S))) (addf (mulf (sndH (split h)) (over C)) (mulf (fstH (split h)) (over S))))

theorem whole_lat (l : FVec Ideal S8x2048x4096 .f32) (x : FVec Ideal S8x256x4096 .f32) (b : Fin 8) (ρ : Fin 2048) (n : Fin 4096) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x4096 .f32) (x : FVec Ideal S8x256x4096 .f32) (b : Fin 8) (ρ : Fin 256) (n : Fin 4096) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x6144 .f32) (b : Fin 8) (ρ : Fin 2048) (n : Fin 4096) :
    lat u (cols w) (ix3 b ρ n) = ∑ d : Fin 2048, u (ix3 b ρ d) * w (ix2 d ⟨n, by omega⟩) := by
  pointwise [lat, cols]
theorem ctx_at (u : FVec Ideal S8x256x2048 .f32) (w : FVec Ideal S2048x6144 .f32) (b : Fin 8) (ρ : Fin 256) (n : Fin 4096) :
    ctx u (cols w) (ix3 b ρ n) = ∑ d : Fin 2048, u (ix3 b ρ d) * w (ix2 d ⟨n, by omega⟩) := by
  pointwise [ctx, cols]

/-- Each stage of the rotation at an index. -/
theorem split_at (h : FVec Ideal S8x2048x4096 .f32) (b : Fin 8) (g : Fin 32) (ρ : Fin 2048) (a k : Fin 2) (f : Fin 32) :
    split h (ix6 b g ρ a k f) = h (ix3 b ρ ⟨g.val * 128 + (a.val * 64 + k.val * 32 + f.val), by omega⟩) := by
  pointwise [split]
theorem fstH_at (z : FVec Ideal S8x32x2048x2x2x32 .f32) (b : Fin 8) (g : Fin 32) (ρ : Fin 2048) (a : Fin 2) (f : Fin 32) :
    fstH z (ix5 b g ρ a f) = z (ix6 b g ρ a 0 f) := by
  pointwise [fstH]
theorem sndH_at (z : FVec Ideal S8x32x2048x2x2x32 .f32) (b : Fin 8) (g : Fin 32) (ρ : Fin 2048) (a : Fin 2) (f : Fin 32) :
    sndH z (ix5 b g ρ a f) = z (ix6 b g ρ a 1 f) := by
  pointwise [sndH]
theorem over_at (C : FVec Ideal S2048x2x32 .f32) (b : Fin 8) (g : Fin 32) (ρ : Fin 2048) (a : Fin 2) (f : Fin 32) :
    over C (ix5 b g ρ a f) = C (ix3 ρ a f) := by
  pointwise [over]
end QkRef

end
-- ==== Proof.QkRef.lean ====
/- The query and key projection: the reference's result array is the kernel's. -/
module

public import proofs.«01_k».proof.Proof.QkStage

@[expose] public section

set_option maxRecDepth 16384

noncomputable section

namespace QkRef

open Idealize.ShloMosaic Idealize.ShloMosaic.TcCoe Cert.QkReferenceIdeal Cert.QkReferenceIdeal.Gen Cert.QkReferenceIdeal.Value Idealize.SL.Sem Proj

theorem both_at (x y : FVec Ideal S8x32x2048x2x32 .f32) (b : Fin 8) (g : Fin 32) (ρ : Fin 2048) (a k : Fin 2) (f : Fin 32) :
    both x y (ix6 b g ρ a k f) = if k.val < 1 then x (ix5 b g ρ a f) else y (ix5 b g ρ a f) := by
  pointwise [both]
  by_cases h : k.val < 1
  · rw [dif_pos h, if_pos h]
  · rw [dif_neg h, if_neg h]
theorem flat_at (z : FVec Ideal S8x32x2048x2x2x32 .f32) (b : Fin 8) (ρ : Fin 2048) (n : Fin 4096) :
    flat z (ix3 b ρ n) = z (ix6 b ⟨n.val / 128, by omega⟩ ρ ⟨n.val % 128 / 64, by omega⟩ ⟨n.val % 128 / 32 % 2, by omega⟩ ⟨n.val % 128 % 32, by omega⟩) := by
  pointwise [flat]

/-- A rotated latent array at an index: the column times its cosine, and its partner times its signed sine. -/
theorem spin_at (h : FVec Ideal S8x2048x4096 .f32) (C S : FVec Ideal S2048x2x32 .f32) (b : Fin 8) (ρ : Fin 2048) (n : Fin 4096) :
    spin h C S (ix3 b ρ n) = h (ix3 b ρ n) * C (ix3 ρ ⟨n.val % 128 / 64, by omega⟩ ⟨n.val % 128 % 32, by omega⟩)
      + h (ix3 b ρ (QkArr.mateQ n)) * (if n.val % 128 % 64 < 32 then -S (ix3 ρ ⟨n.val % 128 / 64, by omega⟩ ⟨n.val % 128 % 32, by omega⟩)
          else S (ix3 ρ ⟨n.val % 128 / 64, by omega⟩ ⟨n.val % 128 % 32, by omega⟩)) := by
  unfold spin
  rw [flat_at, both_at]
  by_cases q : n.val % 64 < 32
  · have e1 : n.val / 128 * 128 + (n.val % 128 / 64 * 64 + 0 * 32 + n.val % 128 % 32) = n.val := by omega
    have e2 : n.val / 128 * 128 + (n.val % 128 / 64 * 64 + 1 * 32 + n.val % 128 % 32) = n.val + 32 := by omega
    rw [if_pos (by dsimp only; omega), if_pos (by omega)]
    show fstH (split h) _ * over C _ - sndH (split h) _ * over S _ = _
    rw [fstH_at, sndH_at, over_at, over_at, split_at, split_at, mul_neg, ← sub_eq_add_neg]
    unfold QkArr.mateQ
    rw [dif_pos q]
    refine congrArg₂ (fun u v => h (ix3 b ρ u) * _ - h (ix3 b ρ v) * _) (Fin.ext e1) (Fin.ext e2)
  · have e1 : n.val / 128 * 128 + (n.val % 128 / 64 * 64 + 1 * 32 + n.val % 128 % 32) = n.val := by omega
    have e2 : n.val / 128 * 128 + (n.val % 128 / 64 * 64 + 0 * 32 + n.val % 128 % 32) = n.val - 32 := by omega
    rw [if_neg (by dsimp only; omega), if_neg (by omega)]
    show sndH (split h) _ * over C _ + fstH (split h) _ * over S _ = _
    rw [fstH_at, sndH_at, over_at, over_at, split_at, split_at]
    unfold QkArr.mateQ
    rw [dif_neg q]
    refine congrArg₂ (fun u v => h (ix3 b ρ u) * _ + h (ix3 b ρ v) * _) (Fin.ext e1) (Fin.ext e2)

/-- The tables at a latent token and at a context token. -/
theorem cos_lat (b : Fin 8) (ρ : Fin 2048) (e : Fin 128) :
    Turn.cosT (ix2 (QkArr.token (latRow b ρ)) e) = Host.cos Turn.ang (ix3 ρ ⟨e.val / 64, by omega⟩ ⟨e.val % 32, by omega⟩) := by
  have h : QkArr.token (latRow b ρ) = ⟨ρ.val, by omega⟩ := Fin.ext (by show (b.val * 2304 + ρ.val) % 2304 = ρ.val; omega)
  unfold Turn.cosT
  rw [h, Turn.table_lat, Turn.pair_at]
  split <;> rfl
theorem sin_lat (b : Fin 8) (ρ : Fin 2048) (e : Fin 128) :
    Turn.sinT (ix2 (QkArr.token (latRow b ρ)) e) = if e.val % 64 < 32 then -Host.sin Turn.ang (ix3 ρ ⟨e.val / 64, by omega⟩ ⟨e.val % 32, by omega⟩)
      else Host.sin Turn.ang (ix3 ρ ⟨e.val / 64, by omega⟩ ⟨e.val % 32, by omega⟩) := by
  have h : QkArr.token (latRow b ρ) = ⟨ρ.val, by omega⟩ := Fin.ext (by show (b.val * 2304 + ρ.val) % 2304 = ρ.val; omega)
  unfold Turn.sinT
  rw [h, Turn.table_lat, Turn.pair_at]
  rfl
theorem cos_ctx (b : Fin 8) (ρ : Fin 256) (e : Fin 128) : Turn.cosT (ix2 (QkArr.token (ctxRow b ρ)) e) = 1 := by
  have h : QkArr.token (ctxRow b ρ) = ⟨2048 + ρ.val, by omega⟩ := Fin.ext (by show (b.val * 2304 + (2048 + ρ.val)) % 2304 = 2048 + ρ.val; omega)
  unfold Turn.cosT
  rw [h, Turn.table_ctx]
  exact Ideal.ofBits_one_f32
theorem sin_ctx (b : Fin 8) (ρ : Fin 256) (e : Fin 128) : Turn.sinT (ix2 (QkArr.token (ctxRow b ρ)) e) = 0 := by
  have h : QkArr.token (ctxRow b ρ) = ⟨2048 + ρ.val, by omega⟩ := Fin.ext (by show (b.val * 2304 + (2048 + ρ.val)) % 2304 = 2048 + ρ.val; omega)
  unfold Turn.sinT
  rw [h, Turn.table_ctx]
  exact Ideal.ofBits_zero_f32

/-- The kernel's array is the reference's stages composed. -/
theorem arr_eq (x : FVec Ideal S18432x2048 .f32) (sc sh : FVec Ideal S9x1x2048 .f32) (w : FVec Ideal S2048x6144 .f32) :
    QkArr.arr x sc sh w = whole (spin (lat (U x sc sh) (cols w)) (Host.cos Turn.ang) (Host.sin Turn.ang)) (ctx (UC x sc sh) (cols w)) := by
  funext y
  obtain ⟨r, n, rfl⟩ : ∃ (r : Fin 18432) (n : Fin 4096), y = ix2 r n := ⟨y 0, y 1, eq_ix2 y⟩
  show QkArr.out x sc sh w r n = _
  unfold QkArr.out
  rcases row_cases r with ⟨b, ρ, rfl⟩ | ⟨b, ρ, rfl⟩
  · rw [whole_lat, spin_at, lat_at, lat_at, cos_lat, sin_lat, U_lin x sc sh b ρ fun d => w (ix2 d ⟨n, by omega⟩),
      U_lin x sc sh b ρ fun d => w (ix2 d ⟨QkArr.mateQ n, by omega⟩)]
  · rw [whole_ctx, ctx_at, cos_ctx, sin_ctx, mul_one, mul_zero, add_zero, UC_lin x sc sh b ρ fun d => w (ix2 d ⟨n, by omega⟩)]

variable (m : (ℓ : Loc nD τ sig) → Buf (Elt Ideal) ℓ)

/-- The reference's result is these stages composed. -/
theorem result_eq (c : Dev nD) : res_main_v75 (F := Ideal) m c
    = whole (spin (lat (U (m ((c.tc : Thread nD τ).loc main_arg0)) (m ((c.tc : Thread nD τ).loc main_arg1)) (m ((c.tc : Thread nD τ).loc main_arg2))) (cols (m ((c.tc : Thread nD τ).loc main_arg3))))
          (Host.cos Turn.ang) (Host.sin Turn.ang))
        (ctx (UC (m ((c.tc : Thread nD τ).loc main_arg0)) (m ((c.tc : Thread nD τ).loc main_arg1)) (m ((c.tc : Thread nD τ).loc main_arg2))) (cols (m ((c.tc : Thread nD τ).loc main_arg3)))) := by
  unfold res_main_v75
  rfl

end QkRef

end
-- ==== Proof.QkClaims.lean ====
/- The claims about the query and key projection, each closed from the modules before it. -/
module

public import proofs.«01_k».proof.Defs
public import proofs.«01_k».proof.Proof.Gen.Qk.Frame
public import proofs.«01_k».proof.Proof.Gen.QkIdeal.Frame
public import proofs.«01_k».proof.Proof.Gen.QkIdeal.Value
public import proofs.«01_k».proof.Proof.Gen.QkReferenceIdeal.Run
public import proofs.«01_k».proof.Proof.QkRef
public import Idealize.ShloMosaic.Adequacy
public import Idealize.ShloMosaic.Init
public import Idealize.ShloMosaic.Lib.Quiescent

@[expose] public section

noncomputable section

namespace QkClaims

open Idealize.ShloMosaic Idealize.SL.Sem

/-- The kernel, at machine floats and ideally, and the reference run to their ends and leave their arguments alone. -/
theorem frameKernel : Cert.quiescent_Qk (hQk := Cert.Qk.Gen.facts) := fun m ρ _ => Cert.Qk.Gen.frame m ρ
theorem frameIdeal : Cert.quiescent_QkIdeal (hQkIdeal := Cert.QkIdeal.Gen.facts) := fun m ρ _ => Cert.QkIdeal.Gen.frame m ρ
theorem frameReference : Cert.quiescent_QkReferenceIdeal (hQkReferenceIdeal := Cert.QkReferenceIdeal.Gen.facts) := fun m ρ _ =>
  (θ_run Cert.QkReferenceIdeal.defs _ _).mono (fun r h => ⟨fun c => (h c).2, Idealize.ShloMosaic.sem_eq_zero_of_no_sems (by decide) r.2⟩)
    (Cert.QkReferenceIdeal.Value.run (F := Ideal) m ρ)

/-- The idealized kernel rewrites nothing. -/
theorem preserves : Cert.preserves_Qk_QkIdeal := trivial

/-- The kernel and the reference leave the same array. -/
theorem algebraic : Cert.algebraic_QkIdeal_QkReferenceIdeal (hQkIdeal := Cert.QkIdeal.Gen.facts)
    (hQkReferenceIdeal := Cert.QkReferenceIdeal.Gen.facts) := by
  intro m ρ m' ρ' _ hagree
  refine ⟨fun c => QkArr.arr (QkArr.aX m c) (QkArr.aSc m c) (QkArr.aSh m c) (QkArr.aW m c), ?_, ?_⟩
  · exact (θ_run _ _ _).mono (fun _ h c => ⟨(h c).1.trans (QkArr.final m c), (h c).2⟩) (Cert.QkIdeal.Value.run_blocks (F := Ideal) m ρ)
  · refine (θ_run _ _ _).mono (fun _ h c => ⟨(h c).1.trans ?_, (h c).2⟩) (Cert.QkReferenceIdeal.Value.run (F := Ideal) m' ρ')
    rw [QkRef.result_eq, (hagree c).1, (hagree c).2.1, (hagree c).2.2.1, (hagree c).2.2.2]
    exact (QkRef.arr_eq _ _ _ _).symm

end QkClaims

end
-- ==== Proof.QkWArr.lean ====
/- Layer 2's query and key projection's result array, read back at one row and column from the arguments' own elements. -/
module

public import proofs.«01_k».proof.Proof.Proj
public import proofs.«01_k».proof.Proof.Gen.QkWIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace QkWArr

open Idealize.ShloMosaic Idealize.ShloMosaic.TcCoe Cert.QkWIdeal Cert.QkWIdeal.Gen Idealize.SL Idealize.SL.Sem
open Idealize.ShloMosaic.Tactic Proj

/-- A channel's partner: 32 channels on in the first half of each group of 64, 32 channels back in the second half. -/
def mate (e : Fin 128) : Fin 128 := if h : e.val % 64 < 32 then ⟨e.val + 32, by omega⟩ else ⟨e.val - 32, by omega⟩

/-- The channel number within its group of 64. -/
def lane : IVec S256x128 32 :=
  select (andi (xori k0_pay8 (broadcastTo S256x128 k0_pay9 broadcasts_S256x128_S256x128)) k0_pay7)
    (addi k0_pay6 (broadcast S256x128 (Scalar.select (Scalar.cmpi .eq 64#32 0#32) 1#32 64#32))) k0_pay6

/-- Whether a channel lies in the first half of its group. -/
def first : IVec S256x128 1 := cmpi .slt lane (broadcast S256x128 32#32)

/-- One head rotated: each channel times its cosine, and its partner times its sine. -/
def rot (y co si : FVec Ideal S256x128 .f32) : FVec Ideal S256x128 .bf16 :=
  truncf .bf16 (addf (mulf y co) (mulf (select first (dynamicRotate 1 96#32 none y rotates_S256x128_d1)
    (dynamicRotate 1 32#32 none y rotates_S256x128_d1)) si)) bitsLt_bf16_f32

theorem first_at (p : Fin 256) (e : Fin 128) : first (ix2 p e) = if e.val % 64 < 32 then 1#1 else 0#1 := by
  pointwise [first, lane, k0_pay6, k0_pay7, k0_pay8, k0_pay9]
  revert e
  decide +kernel

theorem rot_at (y co si : FVec Ideal S256x128 .f32) (p : Fin 256) (e : Fin 128) :
    rot y co si (ix2 p e) = y (ix2 p e) * co (ix2 p e) + y (ix2 p (mate e)) * si (ix2 p e) := by
  pointwise [rot, first_at]
  have h : Scalar.select (if e.val % 64 < 32 then 1#1 else 0#1) (y (ix2 p ⟨(e.val + 128 - 96) % 128, Nat.mod_lt _ (by decide)⟩))
      (y (ix2 p ⟨(e.val + 128 - 32) % 128, Nat.mod_lt _ (by decide)⟩)) = y (ix2 p (mate e)) := by
    unfold mate
    split
    · exact congrArg y (congrArg (ix2 p) (Fin.ext (by show (e.val + 128 - 96) % 128 = e.val + 32; omega)))
    · exact congrArg y (congrArg (ix2 p) (Fin.ext (by show (e.val + 128 - 32) % 128 = e.val - 32; omega)))
  exact congrArg (fun z => y (ix2 p e) * co (ix2 p e) + z * si (ix2 p e)) h

/-- The partner of a column of a tile of twenty heads. -/
def mateC (n : Fin 2560) : Fin 2560 := if h : n.val % 64 < 32 then ⟨n.val + 32, by omega⟩ else ⟨n.val - 32, by omega⟩

/-- A tile written out at a row and a column: a product column and its partner, rotated. -/
def turned (Y : FVec Ideal S256x2560 .f32) (co si : FVec Ideal S256x128 .f32) (p : Fin 256) (n : Fin 2560) : EReal :=
  Y (ix2 p n) * co (ix2 p ⟨n.val % 128, by omega⟩) + Y (ix2 p (mateC n)) * si (ix2 p ⟨n.val % 128, by omega⟩)

/-- Head `h` of the tile, rotated, at every index of the tile it covers. -/
theorem head_at (Y : FVec Ideal S256x2560 .f32) (co si : FVec Ideal S256x128 .f32) (p : Fin 256) (n : Fin 2560) (h : Fin 20)
    (o : Fin 2 → ℕ) (ho : o = ![0, 128 * h.val]) (sl) :
    View.TileAt (Val := Elt Ideal) (S := S256x2560) (e := .bf16) (ix2 p n) o S256x128.size
      (rot (extractStridedSlice S256x128 o Y sl) co si) (turned Y co si p n) := by
  intro x hx
  subst ho
  obtain ⟨r, e, rfl⟩ : ∃ (r : Fin 256) (e : Fin 128), x = ix2 r e := ⟨x 0, x 1, eq_ix2 x⟩
  have e0 : p = r := Fin.ext (by simpa [ix2] using hx 0)
  have e1 : n.val = 128 * h.val + e.val := hx 1
  subst e0
  have he : (⟨n.val % 128, by omega⟩ : Fin 128) = e := Fin.ext (by show n.val % 128 = e.val; omega)
  refine (rot_at _ _ _ p e).trans ?_
  unfold turned
  rw [he]
  have a : extractStridedSlice S256x128 ![0, 128 * h.val] Y sl (ix2 p e) = Y (ix2 p n) := by
    pointwise []
    exact congrArg Y (congrArg (ix2 p) (Fin.ext e1.symm))
  have b : extractStridedSlice S256x128 ![0, 128 * h.val] Y sl (ix2 p (mate e)) = Y (ix2 p (mateC n)) := by
    pointwise []
    refine congrArg Y (congrArg (ix2 p) (Fin.ext ?_))
    unfold mate mateC
    split <;> split <;> simp <;> omega
  rw [a, b]

variable (c : Dev nD) (i : grid0.Coords)
  (a2 : Memref sig .tc .vmem S256x2048 .f32) (h2 : a2.IsWhole) (a3 : Memref sig .tc .vmem S1x1x2048 .f32) (h3 : a3.IsWhole)
  (a4 : Memref sig .tc .vmem S1x1x2048 .f32) (h4 : a4.IsWhole) (a5 : Memref sig .tc .vmem S2048x2560 .f32) (h5 : a5.IsWhole)
  (a6 : Memref sig .tc .vmem S256x128 .f32) (h6 : a6.IsWhole) (a7 : Memref sig .tc .vmem S256x128 .f32) (h7 : a7.IsWhole)
  (a8 : Memref sig .tc .vmem S256x2560 .bf16) (h8 : a8.IsWhole) (a9 : Memref sig .tc .vmem S2048x2560 .bf16) (h9 : a9.IsWhole)
  (x0 : Vec Ideal S256x2048 .f32) (x1 x2 : Vec Ideal S1x1x2048 .f32) (x3 : Vec Ideal S2048x2560 .f32) (x4 x5 : Vec Ideal S256x128 .f32)

theorem co_eq : k0_pay3 x4 = x4 := by
  funext y
  obtain ⟨p, e, rfl⟩ : ∃ (p : Fin 256) (e : Fin 128), y = ix2 p e := ⟨y 0, y 1, eq_ix2 y⟩
  pointwise [k0_pay3]
theorem si_eq : k0_pay4 x5 = x5 := by
  funext y
  obtain ⟨p, e, rfl⟩ : ∃ (p : Fin 256) (e : Fin 128), y = ix2 p e := ⟨y 0, y 1, eq_ix2 y⟩
  pointwise [k0_pay4]

/-- Loading a whole staged block reads the block. -/
theorem ld0 : View.readAt (Elt Ideal) a2.view (Rect.unit (s := S256x2048) ![0, 0] S256x2048.size inb_S256x2048_S256x2048_0_0).toLoadRect (h2.unread x0) = x0 := by
  rw [View.readAt_eq_ld, h2.read_unread]
  funext y
  exact View.ld_unit_apply_of _ _ _ _ _ _ fun a => by fin_cases a <;> simp
theorem ld1 : View.readAt (Elt Ideal) a3.view (Rect.unit (s := S1x1x2048) ![0, 0, 0] S1x1x2048.size inb_S1x1x2048_S1x1x2048_0_0_0).toLoadRect (h3.unread x1) = x1 := by
  rw [View.readAt_eq_ld, h3.read_unread]
  funext y
  exact View.ld_unit_apply_of _ _ _ _ _ _ fun a => by fin_cases a <;> simp
theorem ld3 : View.readAt (Elt Ideal) a5.view (Rect.unit (s := S2048x2560) ![0, 0] S2048x2560.size inb_S2048x2560_S2048x2560_0_0).toLoadRect (h5.unread x3) = x3 := by
  rw [View.readAt_eq_ld, h5.read_unread]
  funext y
  exact View.ld_unit_apply_of _ _ _ _ _ _ fun a => by fin_cases a <;> simp
theorem ld4 : View.readAt (Elt Ideal) a6.view (Rect.unit (s := S256x128) ![0, 0] S256x128.size inb_S256x128_S256x128_0_0).toLoadRect (h6.unread x4) = x4 := by
  rw [View.readAt_eq_ld, h6.read_unread]
  funext y
  exact View.ld_unit_apply_of _ _ _ _ _ _ fun a => by fin_cases a <;> simp
theorem ld6 (x6 : Vec Ideal S2048x2560 .bf16) : View.readAt (Elt Ideal) a9.view (Rect.unit (s := S2048x2560) ![0, 0] S2048x2560.size inb_S2048x2560_S2048x2560_0_0).toLoadRect (h9.unread x6) = x6 := by
  rw [View.readAt_eq_ld, h9.read_unread]
  funext y
  exact View.ld_unit_apply_of _ _ _ _ _ _ fun a => by fin_cases a <;> simp

/-- The twenty heads a tile is stored in. -/
theorem heads_at (Y : FVec Ideal S256x2560 .f32) (co si : FVec Ideal S256x128 .f32) (p : Fin 256) (n : Fin 2560) :
    View.AllAt (Val := Elt Ideal) (S := S256x2560) (e := .bf16)
      [⟨Rect.unit (s := S256x2560) ![0, 2432] S256x128.size inb_S256x2560_S256x128_0_2432, k0_pay59 Y co si⟩,
        ⟨Rect.unit (s := S256x2560) ![0, 2304] S256x128.size inb_S256x2560_S256x128_0_2304, k0_pay58 co si (k0_pay53 Y) 64#32 k0_pay54 k0_pay55 k0_pay56 k0_pay57⟩,
        ⟨Rect.unit (s := S256x2560) ![0, 2176] S256x128.size inb_S256x2560_S256x128_0_2176, k0_pay52 Y co si⟩,
        ⟨Rect.unit (s := S256x2560) ![0, 2048] S256x128.size inb_S256x2560_S256x128_0_2048, k0_pay51 Y co si⟩,
        ⟨Rect.unit (s := S256x2560) ![0, 1920] S256x128.size inb_S256x2560_S256x128_0_1920, k0_pay50 co si (k0_pay45 Y) 64#32 k0_pay46 k0_pay47 k0_pay48 k0_pay49⟩,
        ⟨Rect.unit (s := S256x2560) ![0, 1792] S256x128.size inb_S256x2560_S256x128_0_1792, k0_pay44 Y co si⟩,
        ⟨Rect.unit (s := S256x2560) ![0, 1664] S256x128.size inb_S256x2560_S256x128_0_1664, k0_pay43 Y co si⟩,
        ⟨Rect.unit (s := S256x2560) ![0, 1536] S256x128.size inb_S256x2560_S256x128_0_1536, k0_pay42 co si (k0_pay37 Y) 64#32 k0_pay38 k0_pay39 k0_pay40 k0_pay41⟩,
        ⟨Rect.unit (s := S256x2560) ![0, 1408] S256x128.size inb_S256x2560_S256x128_0_1408, k0_pay36 Y co si⟩,
        ⟨Rect.unit (s := S256x2560) ![0, 1280] S256x128.size inb_S256x2560_S256x128_0_1280, k0_pay35 Y co si⟩,
        ⟨Rect.unit (s := S256x2560) ![0, 1152] S256x128.size inb_S256x2560_S256x128_0_1152, k0_pay34 co si (k0_pay29 Y) 64#32 k0_pay30 k0_pay31 k0_pay32 k0_pay33⟩,
        ⟨Rect.unit (s := S256x2560) ![0, 1024] S256x128.size inb_S256x2560_S256x128_0_1024, k0_pay28 Y co si⟩,
        ⟨Rect.unit (s := S256x2560) ![0, 896] S256x128.size inb_S256x2560_S256x128_0_896, k0_pay27 Y co si⟩,
        ⟨Rect.unit (s := S256x2560) ![0, 768] S256x128.size inb_S256x2560_S256x128_0_768, k0_pay26 co si (k0_pay21 Y) 64#32 k0_pay22 k0_pay23 k0_pay24 k0_pay25⟩,
        ⟨Rect.unit (s := S256x2560) ![0, 640] S256x128.size inb_S256x2560_S256x128_0_640, k0_pay20 Y co si⟩,
        ⟨Rect.unit (s := S256x2560) ![0, 512] S256x128.size inb_S256x2560_S256x128_0_512, k0_pay19 Y co si⟩,
        ⟨Rect.unit (s := S256x2560) ![0, 384] S256x128.size inb_S256x2560_S256x128_0_384, k0_pay18 co si (k0_pay13 Y) 64#32 k0_pay14 k0_pay15 k0_pay16 k0_pay17⟩,
        ⟨Rect.unit (s := S256x2560) ![0, 256] S256x128.size inb_S256x2560_S256x128_0_256, k0_pay12 Y co si⟩,
        ⟨Rect.unit (s := S256x2560) ![0, 128] S256x128.size inb_S256x2560_S256x128_0_128, k0_pay11 Y co si⟩,
        ⟨Rect.unit (s := S256x2560) ![0, 0] S256x128.size inb_S256x2560_S256x128_0_0, k0_pay10 co si (extractStridedSlice S256x128 ![0, 0] Y slices_S256x2560_o0_0_S256x128) 64#32 k0_pay6 k0_pay7 k0_pay8 k0_pay9⟩]
      (ix2 p n) (turned Y co si p n) := by
  refine View.allAt_cons_unit _ _ _ _ _ (head_at Y co si p n 19 _ (by decide) slices_S256x2560_o0_2432_S256x128) ?_
  refine View.allAt_cons_unit _ _ _ _ _ (head_at Y co si p n 18 _ (by decide) slices_S256x2560_o0_2304_S256x128) ?_
  refine View.allAt_cons_unit _ _ _ _ _ (head_at Y co si p n 17 _ (by decide) slices_S256x2560_o0_2176_S256x128) ?_
  refine View.allAt_cons_unit _ _ _ _ _ (head_at Y co si p n 16 _ (by decide) slices_S256x2560_o0_2048_S256x128) ?_
  refine View.allAt_cons_unit _ _ _ _ _ (head_at Y co si p n 15 _ (by decide) slices_S256x2560_o0_1920_S256x128) ?_
  refine View.allAt_cons_unit _ _ _ _ _ (head_at Y co si p n 14 _ (by decide) slices_S256x2560_o0_1792_S256x128) ?_
  refine View.allAt_cons_unit _ _ _ _ _ (head_at Y co si p n 13 _ (by decide) slices_S256x2560_o0_1664_S256x128) ?_
  refine View.allAt_cons_unit _ _ _ _ _ (head_at Y co si p n 12 _ (by decide) slices_S256x2560_o0_1536_S256x128) ?_
  refine View.allAt_cons_unit _ _ _ _ _ (head_at Y co si p n 11 _ (by decide) slices_S256x2560_o0_1408_S256x128) ?_
  refine View.allAt_cons_unit _ _ _ _ _ (head_at Y co si p n 10 _ (by decide) slices_S256x2560_o0_1280_S256x128) ?_
  refine View.allAt_cons_unit _ _ _ _ _ (head_at Y co si p n 9 _ (by decide) slices_S256x2560_o0_1152_S256x128) ?_
  refine View.allAt_cons_unit _ _ _ _ _ (head_at Y co si p n 8 _ (by decide) slices_S256x2560_o0_1024_S256x128) ?_
  refine View.allAt_cons_unit _ _ _ _ _ (head_at Y co si p n 7 _ (by decide) slices_S256x2560_o0_896_S256x128) ?_
  refine View.allAt_cons_unit _ _ _ _ _ (head_at Y co si p n 6 _ (by decide) slices_S256x2560_o0_768_S256x128) ?_
  refine View.allAt_cons_unit _ _ _ _ _ (head_at Y co si p n 5 _ (by decide) slices_S256x2560_o0_640_S256x128) ?_
  refine View.allAt_cons_unit _ _ _ _ _ (head_at Y co si p n 4 _ (by decide) slices_S256x2560_o0_512_S256x128) ?_
  refine View.allAt_cons_unit _ _ _ _ _ (head_at Y co si p n 3 _ (by decide) slices_S256x2560_o0_384_S256x128) ?_
  refine View.allAt_cons_unit _ _ _ _ _ (head_at Y co si p n 2 _ (by decide) slices_S256x2560_o0_256_S256x128) ?_
  refine View.allAt_cons_unit _ _ _ _ _ (head_at Y co si p n 1 _ (by decide) slices_S256x2560_o0_128_S256x128) ?_
  refine View.allAt_cons_unit _ _ _ _ _ (head_at Y co si p n 0 _ (by decide) slices_S256x2560_o0_0_S256x128) ?_
  exact View.allAt_nil _ _

set_option maxHeartbeats 1000000 in
/-- The block the body leaves when it casts the weights first, at one row and column. -/
theorem blockA_at (hc) (p : Fin 256) (n : Fin 2560) :
    out0_A_6 (F := Ideal) c i a2 h2 a3 h3 a4 h4 a5 h5 a6 h6 a7 h7 a8 h8 a9 h9 hc x0 x1 x2 x3 x4 x5 (ix2 p n)
      = turned (k0_pay2 x0 x1 x2 (k0_pay1 x3)) x4 x5 p n := by
  unfold out0_A_6
  rw [View.read_writes_eq_canon _ _ _ (cover0_A_6 c _ _ _ _ _ _ _ _ _ _ _ _ _ _ _ _ _ _ _ _ _ _ _ _)]
  refine View.canon_eq_of_allAt _ _ _ (cover0_A_6 c _ _ _ _ _ _ _ _ _ _ _ _ _ _ _ _ _ _ _ _ _ _ _ _ _) ?_
  unfold kernelRun0_A
  dsimp only
  sl_unfold_words
  rw [ld0, ld1, ld1, ld3, ld4, ld4, View.readCov_unit_lit _ _ _ (by decide)]
  have h := heads_at (k0_pay2 x0 x1 x2 (k0_pay1 x3)) (k0_pay3 x4) (k0_pay4 x5) p n
  rw [co_eq, si_eq] at h
  rw [co_eq, si_eq]
  exact h

set_option maxHeartbeats 1000000 in
/-- The block the body leaves over weights cast before, at one row and column. -/
theorem blockB_at (hc) (x6 : Vec Ideal S2048x2560 .bf16) (p : Fin 256) (n : Fin 2560) :
    out0_B_6 (F := Ideal) c i a2 h2 a3 h3 a4 h4 a5 h5 a6 h6 a7 h7 a8 h8 a9 h9 hc x0 x1 x2 x3 x4 x5 x6 (ix2 p n)
      = turned (k0_pay2 x0 x1 x2 x6) x4 x5 p n := by
  unfold out0_B_6
  rw [View.read_writes_eq_canon _ _ _ (cover0_B_6 c _ _ _ _ _ _ _ _ _ _ _ _ _ _ _ _ _ _ _ _ _ _ _ _ _)]
  refine View.canon_eq_of_allAt _ _ _ (cover0_B_6 c _ _ _ _ _ _ _ _ _ _ _ _ _ _ _ _ _ _ _ _ _ _ _ _ _ _) ?_
  unfold kernelRun0_B
  dsimp only
  sl_unfold_words
  rw [ld0, ld1, ld1, ld4, ld4, ld6]
  have h := heads_at (k0_pay2 x0 x1 x2 x6) (k0_pay3 x4) (k0_pay4 x5) p n
  rw [co_eq, si_eq] at h
  rw [co_eq, si_eq]
  exact h

end QkWArr

end
-- ==== Proof.TurnW.lean ====
/- The rotation's tables: layer 2's kernel is given the same ones. -/
module

public import proofs.«01_k».proof.Proof.Turn
public import proofs.«01_k».proof.Proof.Gen.QkWIdeal.Value
public import Idealize.ShloMosaic.Lib.Pipeline.ValueKit
public import Idealize.ShloMosaic.Lib.StableHlo.RunRead

@[expose] public section

set_option maxRecDepth 16384

noncomputable section

namespace TurnW

open Idealize.ShloMosaic Idealize.ShloMosaic.TcCoe Cert.QkWIdeal Cert.QkWIdeal.Gen Idealize.SL Idealize.SL.Sem
open Idealize.ShloMosaic.Tactic
open Turn (rowOf colOf ang pair table cosT sinT)

variable (m : (ℓ : Loc nD τ sig) → Buf (Elt Ideal) ℓ)

/-- What the host computes before the launch, in order. -/
abbrev hops : List (HloOp τ sig (Elt Ideal)) := hostOps0 ++ (hostOps0_1 ++ (hostOps0_2 ++ (hostOps0_3 ++ (hostOps0_4 ++ []))))

variable (σ : Valuation τ sig (Elt Ideal))

/-- The rows and the columns are computed as stated. -/
theorem row_read : StableHlo.upto hops σ 43 (Proc.tc.devRef main_v3) = broadcastInDim S2048x1 ![0] bcast_S2048_S2048x1_0 rowOf := by
  after_reads_simp
  rfl
theorem col_read : StableHlo.upto hops σ 43 (Proc.tc.devRef main_v4) = broadcastInDim S2048x1 ![0] bcast_S2048_S2048x1_0 colOf := by
  after_reads_simp
  rfl

/-- The angles are computed as stated. -/
theorem ang_read : StableHlo.upto hops σ 58 (Proc.tc.devRef main_v17) = ang := by
  after_reads_simp
  rw [row_read, col_read]
  rfl

/-- Their cosines and sines. -/
theorem cos_read : StableHlo.upto hops σ 59 (Proc.tc.devRef main_v18) = Host.cos ang := by
  rw [← ang_read σ]
  after_reads_simp
theorem sin_read : StableHlo.upto hops σ 60 (Proc.tc.devRef main_v19) = Host.sin ang := by
  rw [← ang_read σ]
  after_reads_simp

/-- They are laid out in pairs. -/
theorem cosP_read : StableHlo.upto hops σ 63 (Proc.tc.devRef main_v22) = concatenate S2048x2x2x32 2 [⟨S2048x2x1x32, broadcastInDim S2048x2x1x32 ![0, 1, 3] bcast_S2048x2x32_S2048x2x1x32_0_1_3 (Host.cos ang)⟩,
    ⟨S2048x2x1x32, broadcastInDim S2048x2x1x32 ![0, 1, 3] bcast_S2048x2x32_S2048x2x1x32_0_1_3 (Host.cos ang)⟩] concatenates_S2048x2x1x32_S2048x2x1x32_S2048x2x2x32_d2 := by
  rw [← cos_read σ]
  after_reads_simp
  refine congrArg₂ (fun a b => concatenate S2048x2x2x32 2 [⟨S2048x2x1x32, a⟩, ⟨S2048x2x1x32, b⟩] concatenates_S2048x2x1x32_S2048x2x1x32_S2048x2x2x32_d2) ?_ ?_
  · after_reads_simp
  · after_reads_simp

theorem sinP_read : StableHlo.upto hops σ 68 (Proc.tc.devRef main_v27) = concatenate S2048x2x2x32 2 [⟨S2048x2x1x32, broadcastInDim S2048x2x1x32 ![0, 1, 3] bcast_S2048x2x32_S2048x2x1x32_0_1_3 (Host.negf (Host.sin ang))⟩,
    ⟨S2048x2x1x32, broadcastInDim S2048x2x1x32 ![0, 1, 3] bcast_S2048x2x32_S2048x2x1x32_0_1_3 (Host.sin ang)⟩] concatenates_S2048x2x1x32_S2048x2x1x32_S2048x2x2x32_d2 := by
  rw [← sin_read σ]
  after_reads_simp
  refine congrArg₂ (fun a b => concatenate S2048x2x2x32 2 [⟨S2048x2x1x32, a⟩, ⟨S2048x2x1x32, b⟩] concatenates_S2048x2x1x32_S2048x2x1x32_S2048x2x2x32_d2) ?_ ?_
  · after_reads_simp
  · after_reads_simp

/-- The kernel is given these tables. -/
theorem V_cos (c : Dev nD) : V m c main_v30 = cosT := by
  show StableHlo.after [hostOps0, hostOps0_1, hostOps0_2, hostOps0_3, hostOps0_4].flatten (fun b => m (c, b)) (Proc.tc.devRef main_v30) = cosT
  simp only [List.flatten_cons, List.flatten_nil]
  after_reads_simp
  refine congrArg₂ (fun a b => concatenate S2304x128 0 [⟨S2048x128, a⟩, ⟨S256x128, b⟩] concatenates_S2048x128_S256x128_S2304x128_d0) ?_ ?_
  · unfold pair
    rw [← cosP_read (fun b => m (c, b))]
    after_reads_simp
    rfl
  · after_reads_simp

theorem V_sin (c : Dev nD) : V m c main_v32 = sinT := by
  show StableHlo.after [hostOps0, hostOps0_1, hostOps0_2, hostOps0_3, hostOps0_4].flatten (fun b => m (c, b)) (Proc.tc.devRef main_v32) = sinT
  simp only [List.flatten_cons, List.flatten_nil]
  after_reads_simp
  refine congrArg₂ (fun a b => concatenate S2304x128 0 [⟨S2048x128, a⟩, ⟨S256x128, b⟩] concatenates_S2048x128_S256x128_S2304x128_d0) ?_ ?_
  · unfold pair
    rw [← sinP_read (fun b => m (c, b))]
    after_reads_simp
    rfl
  · after_reads_simp

end TurnW

end
-- ==== Proof.QkWFin.lean ====
/- Layer 2's query and key projection's result array, from the arguments' own elements and the rotation's tables. -/
module

public import proofs.«01_k».proof.Proof.QkWArr
public import proofs.«01_k».proof.Proof.TurnW

@[expose] public section

set_option maxRecDepth 16384

noncomputable section

namespace QkWArr

open Idealize.ShloMosaic Idealize.ShloMosaic.TcCoe Cert.QkWIdeal Cert.QkWIdeal.Gen Idealize.SL Idealize.SL.Sem
open Idealize.ShloMosaic.Tactic Proj TurnW
open Turn (cosT sinT)

variable (m : (ℓ : Loc nD τ sig) → Buf (Elt Ideal) ℓ)

/-- The projected tile before it is rotated: the modulated row against the column of weights. -/
theorem pay_at (x0 : Vec Ideal S256x2048 .f32) (x1 x2 : Vec Ideal S1x1x2048 .f32) (w : Vec Ideal S2048x2560 .f32) (p : Fin 256) (n : Fin 2560) :
    k0_pay2 x0 x1 x2 (k0_pay1 (F := Ideal) w) (ix2 p n) = ∑ d, modB x0 x1 x2 p d * w (ix2 d n) := by
  pointwise [k0_pay2, k0_pay1, modB]

theorem tlt (t : Fin cfg0.N) : t.val < 72 := lt_of_lt_of_eq t.isLt (N_0 : cfg0.N = 72)

/-- The point of `t`'s column at which the weights were cast. -/
def head (t : Fin cfg0.N) : Fin cfg0.N := ⟨72 * (t.val / 72), by have := t.isLt; omega⟩

/-- The carried weights are the cast of the column's block, at every point of the column. -/
theorem held (c : Dev nD) (t : Fin cfg0.N) : (outsAt0 m c t.val t.isLt).2 = k0_pay1 (X0_3 m c (head t)) := by
  refine Pipeline.eq_of_write_hold (fun n h => (outsAt0 m c n h).2) 72 (fun t => k0_pay1 (X0_3 m c t)) (fun t h => ?_) (fun t h => ?_) t
  · show (outsAt0 m c t.val t.isLt).2 = _
    rw [outsAt0_A m c t h]
    dsimp only
    frame_out
  · show (outsAt0 m c t.val t.isLt).2 = _
    rw [outsAt0_B m c t h]
    rfl

/-- The output block at every point, over the cast weights of its column. -/
theorem block (c : Dev nD) (t : Fin cfg0.N) (p : Fin 256) (n : Fin 2560) : (outsAt0 m c t.val t.isLt).1 (ix2 p n)
    = turned (k0_pay2 (iblk m c 0 t) (iblk m c 1 t) (iblk m c 2 t) (k0_pay1 (X0_3 m c (head t)))) (iblk m c 4 t) (iblk m c 5 t) p n := by
  by_cases h : t.val % 72 = 0
  · have hh : head t = t := Fin.ext (by show 72 * (t.val / 72) = t.val; omega)
    rw [outsAt0_A m c t h, hh]
    dsimp only
    exact blockA_at _ _ _ _ _ _ _ _ _ _ _ _ _ _ _ _ _ _ _ _ _ _ _ _ _ _ _
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held m c ⟨t.val - 1, _⟩]
    dsimp only
    exact blockB_at _ _ _ _ _ _ _ _ _ _ _ _ _ _ _ _ _ _ _ _ _ _ _ _ _ _ _ _

/-- Where each window stands at grid point `t`: row tile `t % 72`, column `t / 72`; the tables at the tile's tokens. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, t.val / 72] := by
  exact (by decide +kernel : ∀ t : Fin grid0.N, win0_3.index t = ![0, t.val / 72])
theorem at4 : ∀ t : Fin cfg0.N, win0_4.index t = ![t.val % 72 % 9, 0] := by
  exact (by decide +kernel : ∀ t : Fin grid0.N, win0_4.index t = ![t.val % 72 % 9, 0])
theorem at5 : ∀ t : Fin cfg0.N, win0_5.index t = ![t.val % 72 % 9, 0] := by
  exact (by decide +kernel : ∀ t : Fin grid0.N, win0_5.index t = ![t.val % 72 % 9, 0])
theorem at6 : ∀ t : Fin cfg0.N, win0_6.index t = ![t.val % 72, t.val / 72] := by
  exact (by decide +kernel : ∀ t : Fin grid0.N, win0_6.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x3072.Idx → EReal := m ((c : Thread nD τ).loc main_arg3)

set_option maxHeartbeats 2000000 in
/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the columns of the tile. -/
theorem w_blk (c : Dev nD) (t : Fin cfg0.N) (d : Fin 2048) (n : Fin 2560) (q : Fin 2560) (hq : q.val = t.val / 72 * 2560 + n.val) :
    X0_3 m c (head t) (ix2 d n) = aW m c (ix2 d ⟨q, by omega⟩) := by
  have := tlt t
  have hh : (head t).val / 72 = t.val / 72 := by show 72 * (t.val / 72) / 72 = t.val / 72; omega
  have hy : (win0_3.blk (head t)).view.emb (fun a => ⟨(ix2 d n a).val, ((cfg0.win 3).moved_iff _ _).mp (moved0_3 (head t) (ix2 d n)) a⟩) = ix2 d ⟨q, by omega⟩ := by
    blk_ext [at3 (head t), hh, hq]
  unfold X0_3 Pipeline.Window.fill
  rw [dif_pos (moved0_3 (head t) (ix2 d n))]
  unfold iblk
  show (V m c main_arg3) ((win0_3.blk (head t)).view.emb _) = _
  rw [hy, V_main_arg3]

/-- The token a stream row holds: its position in its batch element's tokens. -/
def token (r : Fin 18432) : Fin 2304 := ⟨r.val % 2304, Nat.mod_lt _ (by decide)⟩

/-- The staged tables are the tables at the tile's tokens. -/
theorem co_blk (c : Dev nD) (t : Fin cfg0.N) (p : Fin 256) (e : Fin 128) :
    iblk m c 4 t (ix2 p e) = cosT (ix2 (token (tileRow (t.val % 72) (by omega) p)) e) := by
  have := tlt t
  have hy : (win0_4.blk t).view.emb (ix2 p e) = ix2 (token (tileRow (t.val % 72) (by omega) p)) e := by
    have : (t.val % 72 * 256 + p.val) % 2304 = t.val % 72 % 9 * 256 + p.val := by omega
    blk_ext [at4 t, token, tileRow, this]
  unfold iblk
  show (V m c main_v30) ((win0_4.blk t).view.emb (ix2 p e)) = _
  rw [V_cos, hy]
theorem si_blk (c : Dev nD) (t : Fin cfg0.N) (p : Fin 256) (e : Fin 128) :
    iblk m c 5 t (ix2 p e) = sinT (ix2 (token (tileRow (t.val % 72) (by omega) p)) e) := by
  have := tlt t
  have hy : (win0_5.blk t).view.emb (ix2 p e) = ix2 (token (tileRow (t.val % 72) (by omega) p)) e := by
    have : (t.val % 72 * 256 + p.val) % 2304 = t.val % 72 % 9 * 256 + p.val := by omega
    blk_ext [at5 t, token, tileRow, this]
  unfold iblk
  show (V m c main_v32) ((win0_5.blk t).view.emb (ix2 p e)) = _
  rw [V_sin, hy]

/-- The partner of a column of the result. -/
def mateQ (q : Fin 2560) : Fin 2560 := if h : q.val % 64 < 32 then ⟨q.val + 32, by omega⟩ else ⟨q.val - 32, by omega⟩

/-- Partners lie in the same tile. -/
theorem mate_tile (k : ℕ) (n : Fin 2560) (q : Fin 2560) (hq : q.val = k * 2560 + n.val) : (mateQ q).val = k * 2560 + (mateC n).val := by
  unfold mateQ mateC
  split <;> split <;> dsimp only <;> omega

/-- The result at stream row `r` and column `q`: the column's product times its cosine, and its partner's times its sine. -/
def out (x : X) (sc sh : G) (w : S2048x3072.Idx → EReal) (r : Fin 18432) (q : Fin 2560) : EReal :=
  lin x sc sh (fun d => w (ix2 d ⟨q, by omega⟩)) r * cosT (ix2 (token r) ⟨q.val % 128, by omega⟩)
    + lin x sc sh (fun d => w (ix2 d ⟨mateQ q, by omega⟩)) r * sinT (ix2 (token r) ⟨q.val % 128, by omega⟩)

/-- The result array at an index. -/
def arr (x : X) (sc sh : G) (w : S2048x3072.Idx → EReal) : S18432x2560.Idx → EReal := fun y => out x sc sh w (y 0) (y 1)

/-- THE RESULT ARRAY after the run. -/
theorem final (c : Dev nD) : (dats m 0 c).arrAt 6 cfg0.N = arr (aX m c) (aSc m c) (aSh m c) (aW m c) := by
  refine (dats m 0 c).arrAt_eq_of_covers 6 _ (by decide +kernel) fun t hf y => ?_
  have ht := tlt t
  obtain ⟨p, n, rfl⟩ : ∃ (p : Fin 256) (n : Fin 2560), y = ix2 p n := ⟨y 0, y 1, eq_ix2 y⟩
  blk_simp
  rw [after0_6]
  refine (block m c t p n).trans ?_
  have e0 : ((cfg0.win 6).blk t).view.emb (ix2 p n) 0 = tileRow (t.val % 72) (by omega) p := Fin.ext (by blk_simp [at6 t, tileRow])
  have e1 : (((cfg0.win 6).blk t).view.emb (ix2 p n) 1).val = t.val / 72 * 2560 + n.val := by blk_simp [at6 t]
  have e2 := mate_tile _ _ _ e1
  have e3 : (((cfg0.win 6).blk t).view.emb (ix2 p n) 1).val % 128 = n.val % 128 := by omega
  have e4 : (⟨(((cfg0.win 6).blk t).view.emb (ix2 p n) 1).val % 128, Nat.mod_lt _ (by decide)⟩ : Fin 128) = ⟨n.val % 128, Nat.mod_lt _ (by decide)⟩ :=
    Fin.ext e3
  unfold turned arr out lin
  rw [pay_at, pay_at, co_blk, si_blk, e0, e4]
  simp only [modB_blk, w_blk m c t _ n _ e1, w_blk m c t _ (mateC n) _ e2]

end QkWArr

end
-- ==== Proof.QkWStage.lean ====
/- Layer 2's query and key projection: the reference's stages, each read at an index. -/
module

public import proofs.«01_k».proof.Proof.QkWFin
public import proofs.«01_k».proof.Proof.Gen.QkWReferenceIdeal.Run

@[expose] public section

set_option maxRecDepth 16384

noncomputable section

namespace QkWRef

open Idealize.ShloMosaic Idealize.ShloMosaic.TcCoe Cert.QkWReferenceIdeal Cert.QkWReferenceIdeal.Gen Cert.QkWReferenceIdeal.Value Idealize.SL.Sem Proj

/-- Latent rows and context rows, side by side, as the result's rows. -/
def whole (l : FVec Ideal S8x2048x2560 .f32) (x : FVec Ideal S8x256x2560 .f32) : FVec Ideal S18432x2560 .bf16 :=
  truncf .bf16 (shapeCast S18432x2560 (concatenate S8x2304x2560 1 [⟨S8x2048x2560, l⟩, ⟨S8x256x2560, x⟩] concatenates_S8x2048x2560_S8x256x2560_S8x2304x2560_d1) shapeCasts_S8x2304x2560_S18432x2560) bitsLt_bf16_f32

/-- The query and key columns of the weights. -/
def cols (w : FVec Ideal S2048x3072 .f32) : FVec Ideal S2048x2560 .f32 := extractStridedSlice S2048x2560 ![0, 0] w slices_S2048x3072_S2048x2560_0_0

/-- The products of the two modulated arrays with the weights. -/
def lat (u : FVec Ideal S8x2048x2048 .f32) (w : FVec Ideal S2048x2560 .f32) : FVec Ideal S8x2048x2560 .f32 :=
  Host.dotGeneral dot_S8x2048x2048_S2048x2560_S8x2048x2560_2_0_01_1_n_n none u w
def ctx (u : FVec Ideal S8x256x2048 .f32) (w : FVec Ideal S2048x2560 .f32) : FVec Ideal S8x256x2560 .f32 :=
  Host.dotGeneral dot_S8x256x2048_S2048x2560_S8x256x2560_2_0_01_1_n_n none u w

/-- A latent array by head, position axis, half and frequency. -/
def split (h : FVec Ideal S8x2048x2560 .f32) : FVec Ideal S8x20x2048x2x2x32 .f32 :=
  shapeCast S8x20x2048x2x2x32 (transpose S8x20x2048x128 [0, 2, 1, 3] (shapeCast S8x2048x20x128 h shapeCasts_S8x2048x2560_S8x2048x20x128) transposes_S8x2048x20x128_S8x20x2048x128_0_2_1_3) shapeCasts_S8x20x2048x128_S8x20x2048x2x2x32

/-- Its first and second halves. -/
def fstH (z : FVec Ideal S8x20x2048x2x2x32 .f32) : FVec Ideal S8x20x2048x2x32 .f32 :=
  shapeCast S8x20x2048x2x32 (extractStridedSlice S8x20x2048x2x1x32 ![0, 0, 0, 0, 0, 0] z slices_S8x20x2048x2x2x32_S8x20x2048x2x1x32_0_0_0_0_0_0) shapeCasts_S8x20x2048x2x1x32_S8x20x2048x2x32
def sndH (z : FVec Ideal S8x20x2048x2x2x32 .f32) : FVec Ideal S8x20x2048x2x32 .f32 :=
  shapeCast S8x20x2048x2x32 (extractStridedSlice S8x20x2048x2x1x32 ![0, 0, 0, 0, 1, 0] z slices_S8x20x2048x2x2x32_S8x20x2048x2x1x32_0_0_0_0_1_0) shapeCasts_S8x20x2048x2x1x32_S8x20x2048x2x32

/-- An array of angles over every batch element and head. -/
def over (a : FVec Ideal S2048x2x32 .f32) : FVec Ideal S8x20x2048x2x32 .f32 :=
  broadcastInDim S8x20x2048x2x32 ![0, 1, 2, 3, 4] bcast_S1x1x2048x2x32_S8x20x2048x2x32_0_1_2_3_4 (broadcastInDim S1x1x2048x2x32 ![2, 3, 4] bcast_S2048x2x32_S1x1x2048x2x32_2_3_4 a)

/-- Two halves side by side. -/
def both (a b : FVec Ideal S8x20x2048x2x32 .f32) : FVec Ideal S8x20x2048x2x2x32 .f32 :=
  concatenate S8x20x2048x2x2x32 4
    [⟨S8x20x2048x2x1x32, broadcastInDim S8x20x2048x2x1x32 ![0, 1, 2, 3, 5] bcast_S8x20x2048x2x32_S8x20x2048x2x1x32_0_1_2_3_5 a⟩,
     ⟨S8x20x2048x2x1x32, broadcastInDim S8x20x2048x2x1x32 ![0, 1, 2, 3, 5] bcast_S8x20x2048x2x32_S8x20x2048x2x1x32_0_1_2_3_5 b⟩]
    concatenates_S8x20x2048x2x1x32_S8x20x2048x2x1x32_S8x20x2048x2x2x32_d4

/-- The array by heads laid back in columns. -/
def flat (z : FVec Ideal S8x20x2048x2x2x32 .f32) : FVec Ideal S8x2048x2560 .f32 :=
  shapeCast S8x2048x2560 (transpose S8x2048x20x128 [0, 2, 1, 3] (shapeCast S8x20x2048x128 z shapeCasts_S8x20x2048x2x2x32_S8x20x2048x128) transposes_S8x20x2048x128_S8x2048x20x128_0_2_1_3) shapeCasts_S8x2048x20x128_S8x2048x2560

/-- A latent array, rotated. -/
def spin (h : FVec Ideal S8x2048x2560 .f32) (C S : FVec Ideal S2048x2x32 .f32) : FVec Ideal S8x2048x2560 .f32 :=
  flat (both (subf (mulf (fstH (split h)) (over C)) (mulf (sndH (split h)) (over S))) (addf (mulf (sndH (split h)) (over C)) (mulf (fstH (split h)) (over S))))

theorem whole_lat (l : FVec Ideal S8x2048x2560 .f32) (x : FVec Ideal S8x256x2560 .f32) (b : Fin 8) (ρ : Fin 2048) (n : Fin 2560) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x2560 .f32) (x : FVec Ideal S8x256x2560 .f32) (b : Fin 8) (ρ : Fin 256) (n : Fin 2560) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x3072 .f32) (b : Fin 8) (ρ : Fin 2048) (n : Fin 2560) :
    lat u (cols w) (ix3 b ρ n) = ∑ d : Fin 2048, u (ix3 b ρ d) * w (ix2 d ⟨n, by omega⟩) := by
  pointwise [lat, cols]
theorem ctx_at (u : FVec Ideal S8x256x2048 .f32) (w : FVec Ideal S2048x3072 .f32) (b : Fin 8) (ρ : Fin 256) (n : Fin 2560) :
    ctx u (cols w) (ix3 b ρ n) = ∑ d : Fin 2048, u (ix3 b ρ d) * w (ix2 d ⟨n, by omega⟩) := by
  pointwise [ctx, cols]

/-- Each stage of the rotation at an index. -/
theorem split_at (h : FVec Ideal S8x2048x2560 .f32) (b : Fin 8) (g : Fin 20) (ρ : Fin 2048) (a k : Fin 2) (f : Fin 32) :
    split h (ix6 b g ρ a k f) = h (ix3 b ρ ⟨g.val * 128 + (a.val * 64 + k.val * 32 + f.val), by omega⟩) := by
  pointwise [split]
theorem fstH_at (z : FVec Ideal S8x20x2048x2x2x32 .f32) (b : Fin 8) (g : Fin 20) (ρ : Fin 2048) (a : Fin 2) (f : Fin 32) :
    fstH z (ix5 b g ρ a f) = z (ix6 b g ρ a 0 f) := by
  pointwise [fstH]
theorem sndH_at (z : FVec Ideal S8x20x2048x2x2x32 .f32) (b : Fin 8) (g : Fin 20) (ρ : Fin 2048) (a : Fin 2) (f : Fin 32) :
    sndH z (ix5 b g ρ a f) = z (ix6 b g ρ a 1 f) := by
  pointwise [sndH]
theorem over_at (C : FVec Ideal S2048x2x32 .f32) (b : Fin 8) (g : Fin 20) (ρ : Fin 2048) (a : Fin 2) (f : Fin 32) :
    over C (ix5 b g ρ a f) = C (ix3 ρ a f) := by
  pointwise [over]
end QkWRef

end
-- ==== Proof.QkWRef.lean ====
/- Layer 2's query and key projection: the reference's result array is the kernel's. -/
module

public import proofs.«01_k».proof.Proof.QkWStage

@[expose] public section

set_option maxRecDepth 16384

noncomputable section

namespace QkWRef

open Idealize.ShloMosaic Idealize.ShloMosaic.TcCoe Cert.QkWReferenceIdeal Cert.QkWReferenceIdeal.Gen Cert.QkWReferenceIdeal.Value Idealize.SL.Sem Proj

theorem both_at (x y : FVec Ideal S8x20x2048x2x32 .f32) (b : Fin 8) (g : Fin 20) (ρ : Fin 2048) (a k : Fin 2) (f : Fin 32) :
    both x y (ix6 b g ρ a k f) = if k.val < 1 then x (ix5 b g ρ a f) else y (ix5 b g ρ a f) := by
  pointwise [both]
  by_cases h : k.val < 1
  · rw [dif_pos h, if_pos h]
  · rw [dif_neg h, if_neg h]
theorem flat_at (z : FVec Ideal S8x20x2048x2x2x32 .f32) (b : Fin 8) (ρ : Fin 2048) (n : Fin 2560) :
    flat z (ix3 b ρ n) = z (ix6 b ⟨n.val / 128, by omega⟩ ρ ⟨n.val % 128 / 64, by omega⟩ ⟨n.val % 128 / 32 % 2, by omega⟩ ⟨n.val % 128 % 32, by omega⟩) := by
  pointwise [flat]

/-- A rotated latent array at an index: the column times its cosine, and its partner times its signed sine. -/
theorem spin_at (h : FVec Ideal S8x2048x2560 .f32) (C S : FVec Ideal S2048x2x32 .f32) (b : Fin 8) (ρ : Fin 2048) (n : Fin 2560) :
    spin h C S (ix3 b ρ n) = h (ix3 b ρ n) * C (ix3 ρ ⟨n.val % 128 / 64, by omega⟩ ⟨n.val % 128 % 32, by omega⟩)
      + h (ix3 b ρ (QkWArr.mateQ n)) * (if n.val % 128 % 64 < 32 then -S (ix3 ρ ⟨n.val % 128 / 64, by omega⟩ ⟨n.val % 128 % 32, by omega⟩)
          else S (ix3 ρ ⟨n.val % 128 / 64, by omega⟩ ⟨n.val % 128 % 32, by omega⟩)) := by
  unfold spin
  rw [flat_at, both_at]
  by_cases q : n.val % 64 < 32
  · have e1 : n.val / 128 * 128 + (n.val % 128 / 64 * 64 + 0 * 32 + n.val % 128 % 32) = n.val := by omega
    have e2 : n.val / 128 * 128 + (n.val % 128 / 64 * 64 + 1 * 32 + n.val % 128 % 32) = n.val + 32 := by omega
    rw [if_pos (by dsimp only; omega), if_pos (by omega)]
    show fstH (split h) _ * over C _ - sndH (split h) _ * over S _ = _
    rw [fstH_at, sndH_at, over_at, over_at, split_at, split_at, mul_neg, ← sub_eq_add_neg]
    unfold QkWArr.mateQ
    rw [dif_pos q]
    refine congrArg₂ (fun u v => h (ix3 b ρ u) * _ - h (ix3 b ρ v) * _) (Fin.ext e1) (Fin.ext e2)
  · have e1 : n.val / 128 * 128 + (n.val % 128 / 64 * 64 + 1 * 32 + n.val % 128 % 32) = n.val := by omega
    have e2 : n.val / 128 * 128 + (n.val % 128 / 64 * 64 + 0 * 32 + n.val % 128 % 32) = n.val - 32 := by omega
    rw [if_neg (by dsimp only; omega), if_neg (by omega)]
    show sndH (split h) _ * over C _ + fstH (split h) _ * over S _ = _
    rw [fstH_at, sndH_at, over_at, over_at, split_at, split_at]
    unfold QkWArr.mateQ
    rw [dif_neg q]
    refine congrArg₂ (fun u v => h (ix3 b ρ u) * _ + h (ix3 b ρ v) * _) (Fin.ext e1) (Fin.ext e2)

/-- The tables at a latent token and at a context token. -/
theorem cos_lat (b : Fin 8) (ρ : Fin 2048) (e : Fin 128) :
    Turn.cosT (ix2 (QkWArr.token (latRow b ρ)) e) = Host.cos Turn.ang (ix3 ρ ⟨e.val / 64, by omega⟩ ⟨e.val % 32, by omega⟩) := by
  have h : QkWArr.token (latRow b ρ) = ⟨ρ.val, by omega⟩ := Fin.ext (by show (b.val * 2304 + ρ.val) % 2304 = ρ.val; omega)
  unfold Turn.cosT
  rw [h, Turn.table_lat, Turn.pair_at]
  split <;> rfl
theorem sin_lat (b : Fin 8) (ρ : Fin 2048) (e : Fin 128) :
    Turn.sinT (ix2 (QkWArr.token (latRow b ρ)) e) = if e.val % 64 < 32 then -Host.sin Turn.ang (ix3 ρ ⟨e.val / 64, by omega⟩ ⟨e.val % 32, by omega⟩)
      else Host.sin Turn.ang (ix3 ρ ⟨e.val / 64, by omega⟩ ⟨e.val % 32, by omega⟩) := by
  have h : QkWArr.token (latRow b ρ) = ⟨ρ.val, by omega⟩ := Fin.ext (by show (b.val * 2304 + ρ.val) % 2304 = ρ.val; omega)
  unfold Turn.sinT
  rw [h, Turn.table_lat, Turn.pair_at]
  rfl
theorem cos_ctx (b : Fin 8) (ρ : Fin 256) (e : Fin 128) : Turn.cosT (ix2 (QkWArr.token (ctxRow b ρ)) e) = 1 := by
  have h : QkWArr.token (ctxRow b ρ) = ⟨2048 + ρ.val, by omega⟩ := Fin.ext (by show (b.val * 2304 + (2048 + ρ.val)) % 2304 = 2048 + ρ.val; omega)
  unfold Turn.cosT
  rw [h, Turn.table_ctx]
  exact Ideal.ofBits_one_f32
theorem sin_ctx (b : Fin 8) (ρ : Fin 256) (e : Fin 128) : Turn.sinT (ix2 (QkWArr.token (ctxRow b ρ)) e) = 0 := by
  have h : QkWArr.token (ctxRow b ρ) = ⟨2048 + ρ.val, by omega⟩ := Fin.ext (by show (b.val * 2304 + (2048 + ρ.val)) % 2304 = 2048 + ρ.val; omega)
  unfold Turn.sinT
  rw [h, Turn.table_ctx]
  exact Ideal.ofBits_zero_f32

/-- The kernel's array is the reference's stages composed. -/
theorem arr_eq (x : FVec Ideal S18432x2048 .f32) (sc sh : FVec Ideal S9x1x2048 .f32) (w : FVec Ideal S2048x3072 .f32) :
    QkWArr.arr x sc sh w = whole (spin (lat (U x sc sh) (cols w)) (Host.cos Turn.ang) (Host.sin Turn.ang)) (ctx (UC x sc sh) (cols w)) := by
  funext y
  obtain ⟨r, n, rfl⟩ : ∃ (r : Fin 18432) (n : Fin 2560), y = ix2 r n := ⟨y 0, y 1, eq_ix2 y⟩
  show QkWArr.out x sc sh w r n = _
  unfold QkWArr.out
  rcases row_cases r with ⟨b, ρ, rfl⟩ | ⟨b, ρ, rfl⟩
  · rw [whole_lat, spin_at, lat_at, lat_at, cos_lat, sin_lat, U_lin x sc sh b ρ fun d => w (ix2 d ⟨n, by omega⟩),
      U_lin x sc sh b ρ fun d => w (ix2 d ⟨QkWArr.mateQ n, by omega⟩)]
  · rw [whole_ctx, ctx_at, cos_ctx, sin_ctx, mul_one, mul_zero, add_zero, UC_lin x sc sh b ρ fun d => w (ix2 d ⟨n, by omega⟩)]

variable (m : (ℓ : Loc nD τ sig) → Buf (Elt Ideal) ℓ)

/-- The reference's result is these stages composed. -/
theorem result_eq (c : Dev nD) : res_main_v75 (F := Ideal) m c
    = whole (spin (lat (U (m ((c.tc : Thread nD τ).loc main_arg0)) (m ((c.tc : Thread nD τ).loc main_arg1)) (m ((c.tc : Thread nD τ).loc main_arg2))) (cols (m ((c.tc : Thread nD τ).loc main_arg3))))
          (Host.cos Turn.ang) (Host.sin Turn.ang))
        (ctx (UC (m ((c.tc : Thread nD τ).loc main_arg0)) (m ((c.tc : Thread nD τ).loc main_arg1)) (m ((c.tc : Thread nD τ).loc main_arg2))) (cols (m ((c.tc : Thread nD τ).loc main_arg3)))) := by
  unfold res_main_v75
  rfl

end QkWRef

end
-- ==== Proof.QkWClaims.lean ====
/- The claims about layer 2's query and key projection, each closed from the modules before it. -/
module

public import proofs.«01_k».proof.Defs
public import proofs.«01_k».proof.Proof.Gen.QkW.Frame
public import proofs.«01_k».proof.Proof.Gen.QkWIdeal.Frame
public import proofs.«01_k».proof.Proof.Gen.QkWIdeal.Value
public import proofs.«01_k».proof.Proof.Gen.QkWReferenceIdeal.Run
public import proofs.«01_k».proof.Proof.QkWRef
public import Idealize.ShloMosaic.Adequacy
public import Idealize.ShloMosaic.Init
public import Idealize.ShloMosaic.Lib.Quiescent

@[expose] public section

noncomputable section

namespace QkWClaims

open Idealize.ShloMosaic Idealize.SL.Sem

/-- The kernel, at machine floats and ideally, and the reference run to their ends and leave their arguments alone. -/
theorem frameKernel : Cert.quiescent_QkW (hQkW := Cert.QkW.Gen.facts) := fun m ρ _ => Cert.QkW.Gen.frame m ρ
theorem frameIdeal : Cert.quiescent_QkWIdeal (hQkWIdeal := Cert.QkWIdeal.Gen.facts) := fun m ρ _ => Cert.QkWIdeal.Gen.frame m ρ
theorem frameReference : Cert.quiescent_QkWReferenceIdeal (hQkWReferenceIdeal := Cert.QkWReferenceIdeal.Gen.facts) := fun m ρ _ =>
  (θ_run Cert.QkWReferenceIdeal.defs _ _).mono (fun r h => ⟨fun c => (h c).2, Idealize.ShloMosaic.sem_eq_zero_of_no_sems (by decide) r.2⟩)
    (Cert.QkWReferenceIdeal.Value.run (F := Ideal) m ρ)

/-- The idealized kernel rewrites nothing. -/
theorem preserves : Cert.preserves_QkW_QkWIdeal := trivial

/-- The kernel and the reference leave the same array. -/
theorem algebraic : Cert.algebraic_QkWIdeal_QkWReferenceIdeal (hQkWIdeal := Cert.QkWIdeal.Gen.facts)
    (hQkWReferenceIdeal := Cert.QkWReferenceIdeal.Gen.facts) := by
  intro m ρ m' ρ' _ hagree
  refine ⟨fun c => QkWArr.arr (QkWArr.aX m c) (QkWArr.aSc m c) (QkWArr.aSh m c) (QkWArr.aW m c), ?_, ?_⟩
  · exact (θ_run _ _ _).mono (fun _ h c => ⟨(h c).1.trans (QkWArr.final m c), (h c).2⟩) (Cert.QkWIdeal.Value.run_blocks (F := Ideal) m ρ)
  · refine (θ_run _ _ _).mono (fun _ h c => ⟨(h c).1.trans ?_, (h c).2⟩) (Cert.QkWReferenceIdeal.Value.run (F := Ideal) m' ρ')
    rw [QkWRef.result_eq, (hagree c).1, (hagree c).2.1, (hagree c).2.2.1, (hagree c).2.2.2]
    exact (QkWRef.arr_eq _ _ _ _).symm

end QkWClaims

end
-- ==== Proof.ValWArr.lean ====
/- Layer 2's value projection's result array, read back at one row and column from the arguments' own elements. -/
module

public import proofs.«01_k».proof.Proof.Proj
public import proofs.«01_k».proof.Proof.Gen.ValWIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace ValWArr

open Idealize.ShloMosaic Idealize.ShloMosaic.TcCoe Cert.ValWIdeal Cert.ValWIdeal.Gen Idealize.SL.Sem
open Idealize.ShloMosaic.Tactic Proj

variable (m : (ℓ : Loc nD τ sig) → Buf (Elt Ideal) ℓ)

/-- The staged tile written out at a row and a column: the modulated row against the column of weights. -/
theorem pay_at (x0 : Vec Ideal S256x2048 .f32) (x1 x2 : Vec Ideal S1x1x2048 .f32) (w : Vec Ideal S2048x512 .f32) (p : Fin 256) (n : Fin 512) :
    k0_pay2 x0 x1 x2 (k0_pay1 w) (ix2 p n) = ∑ d, modB x0 x1 x2 p d * w (ix2 d n) := by
  pointwise [k0_pay2, k0_pay1, modB]

theorem tlt (t : Fin cfg0.N) : t.val < 72 := lt_of_lt_of_eq t.isLt (N_0 : cfg0.N = 72)

/-- The point of `t`'s column at which the weights were cast. -/
def head (t : Fin cfg0.N) : Fin cfg0.N := ⟨72 * (t.val / 72), by have := t.isLt; omega⟩

/-- The carried weights are the cast of the column's block, at every point of the column. -/
theorem held (c : Dev nD) (t : Fin cfg0.N) : (outsAt0 m c t.val t.isLt).2 = k0_pay1 (iblk m c 3 (head t)) := by
  refine Pipeline.eq_of_write_hold (fun n h => (outsAt0 m c n h).2) 72 (fun t => k0_pay1 (iblk m c 3 t)) (fun t h => ?_) (fun t h => ?_) t
  · show (outsAt0 m c t.val t.isLt).2 = _
    rw [outsAt0_A m c t h]
    dsimp only
    frame_out
  · show (outsAt0 m c t.val t.isLt).2 = _
    rw [outsAt0_B m c t h]
    rfl

/-- The output block at every point, over the cast weights of its column. -/
theorem block (c : Dev nD) (t : Fin cfg0.N) : (outsAt0 m c t.val t.isLt).1
    = k0_pay2 (iblk m c 0 t) (iblk m c 1 t) (iblk m c 2 t) (k0_pay1 (iblk m c 3 (head t))) := by
  by_cases h : t.val % 72 = 0
  · have hh : head t = t := Fin.ext (by show 72 * (t.val / 72) = t.val; omega)
    rw [outsAt0_A m c t h, hh]
    dsimp only
    frame_out
  · have hh : head t = head ⟨t.val - 1, Nat.lt_of_le_of_lt (Nat.sub_le _ _) t.isLt⟩ :=
      Fin.ext (by show 72 * (t.val / 72) = 72 * ((t.val - 1) / 72); omega)
    rw [outsAt0_B m c t h, hh, ← held m c ⟨t.val - 1, _⟩]
    dsimp only
    frame_out
    exact congrArg _ (Memref.IsWhole.read_unread _ _)

/-- Where each window stands at grid point `t`: row tile `t % 72`, column `t / 72`. -/
theorem at0 : ∀ t : Fin cfg0.N, win0_0.index t = ![t.val % 72, 0] := by
  exact (by decide +kernel : ∀ t : Fin grid0.N, win0_0.index t = ![t.val % 72, 0])
theorem at1 : ∀ t : Fin cfg0.N, win0_1.index t = ![if t.val % 72 % 9 = 8 then 8 else t.val % 72 / 9, 0, 0] := by
  exact (by decide +kernel : ∀ t : Fin grid0.N, win0_1.index t = ![if t.val % 72 % 9 = 8 then 8 else t.val % 72 / 9, 0, 0])
theorem at2 : ∀ t : Fin cfg0.N, win0_2.index t = ![if t.val % 72 % 9 = 8 then 8 else t.val % 72 / 9, 0, 0] := by
  exact (by decide +kernel : ∀ t : Fin grid0.N, win0_2.index t = ![if t.val % 72 % 9 = 8 then 8 else t.val % 72 / 9, 0, 0])
theorem at3 : ∀ t : Fin cfg0.N, win0_3.index t = ![0, 5 + t.val / 72] := by
  exact (by decide +kernel : ∀ t : Fin grid0.N, win0_3.index t = ![0, 5 + t.val / 72])
theorem at4 : ∀ t : Fin cfg0.N, win0_4.index t = ![t.val % 72, t.val / 72] := by
  exact (by decide +kernel : ∀ t : Fin grid0.N, win0_4.index t = ![t.val % 72, t.val / 72])

/-- The arguments of the run from memory `m`. -/
abbrev aX (c : Dev nD) : X := m ((c : Thread nD τ).loc main_arg0)
abbrev aSc (c : Dev nD) : G := m ((c : Thread nD τ).loc main_arg1)
abbrev aSh (c : Dev nD) : G := m ((c : Thread nD τ).loc main_arg2)
abbrev aW (c : Dev nD) : S2048x3072.Idx → EReal := m ((c : Thread nD τ).loc main_arg3)

/-- The staged block, modulated, is the modulated stream at the tile's rows. -/
theorem modB_blk (c : Dev nD) (t : Fin cfg0.N) (p : Fin 256) (d : Fin 2048) :
    modB (iblk m c 0 t) (iblk m c 1 t) (iblk m c 2 t) p d
      = modu (aX m c) (aSc m c) (aSh m c) (tileRow (t.val % 72) (by omega) p) d := by
  have h0 : iblk m c 0 t (ix2 p d) = aX m c (ix2 (tileRow (t.val % 72) (by omega) p) d) := by
    blk_ext [iblk, V_main_arg0, at0 t, tileRow]
  have h1 : iblk m c 1 t (ix3 0 0 d) = aSc m c (ix3 (grp (tileRow (t.val % 72) (by omega) p)) 0 d) := by
    blk_ext [iblk, V_main_arg1, at1 t, grp_tile]
  have h2 : iblk m c 2 t (ix3 0 0 d) = aSh m c (ix3 (grp (tileRow (t.val % 72) (by omega) p)) 0 d) := by
    blk_ext [iblk, V_main_arg2, at2 t, grp_tile]
  unfold modB modu
  rw [h0, h1, h2]

/-- The staged weights are the columns of the tile. -/
theorem w_blk (c : Dev nD) (t : Fin cfg0.N) (d : Fin 2048) (n q : Fin 512) (hq : q.val = t.val / 72 * 512 + n.val) :
    iblk m c 3 (head t) (ix2 d n) = aW m c (ix2 d ⟨2560 + q.val, by have := q.isLt; omega⟩) := by
  have := tlt t
  have hh : (head t).val / 72 = t.val / 72 := by show 72 * (t.val / 72) / 72 = t.val / 72; omega
  blk_ext [iblk, V_main_arg3, at3 (head t), hh, hq]

/-- The result array at an index. -/
def arr (x : X) (sc sh : G) (w : S2048x3072.Idx → EReal) : S18432x512.Idx → EReal := fun y => lin x sc sh (fun d => w (ix2 d ⟨2560 + (y 1).val, by have h : (y 1).val < 512 := (y 1).isLt; omega⟩)) (y 0)

/-- THE RESULT ARRAY after the run. -/
theorem final (c : Dev nD) : (dats m 0 c).arrAt 4 cfg0.N = arr (aX m c) (aSc m c) (aSh m c) (aW m c) := by
  refine (dats m 0 c).arrAt_eq_of_covers 4 _ (by decide +kernel) fun t hf y => ?_
  have ht := tlt t
  obtain ⟨p, n, rfl⟩ : ∃ (p : Fin 256) (n : Fin 512), y = ix2 p n := ⟨y 0, y 1, eq_ix2 y⟩
  blk_simp
  rw [after0_4, block]
  show k0_pay2 _ _ _ _ (ix2 p n) = _
  rw [pay_at]
  have e0 : ((cfg0.win 4).blk t).view.emb (ix2 p n) 0 = tileRow (t.val % 72) (by omega) p := Fin.ext (by blk_simp [at4 t, tileRow])
  have e1 : (((cfg0.win 4).blk t).view.emb (ix2 p n) 1).val = t.val / 72 * 512 + n.val := by blk_simp [at4 t]
  unfold arr lin
  rw [e0]
  exact Finset.sum_congr rfl fun d _ => by rw [modB_blk, w_blk m c t d n _ e1]

end ValWArr

end
-- ==== Proof.ValWRef.lean ====
/- Layer 2's value projection: the reference's result array is the kernel's. -/
module

public import proofs.«01_k».proof.Proof.ValWArr
public import proofs.«01_k».proof.Proof.Gen.ValWReferenceIdeal.Run

@[expose] public section

set_option maxRecDepth 16384

noncomputable section

namespace ValWRef

open Idealize.ShloMosaic Idealize.ShloMosaic.TcCoe Cert.ValWReferenceIdeal Cert.ValWReferenceIdeal.Gen Cert.ValWReferenceIdeal.Value Idealize.SL.Sem Proj

/-- Latent rows and context rows, side by side, as the result's rows. -/
def whole (l : FVec Ideal S8x2048x512 .f32) (x : FVec Ideal S8x256x512 .f32) : FVec Ideal S18432x512 .bf16 :=
  truncf .bf16 (shapeCast S18432x512 (concatenate S8x2304x512 1 [⟨S8x2048x512, l⟩, ⟨S8x256x512, x⟩] concatenates_S8x2048x512_S8x256x512_S8x2304x512_d1) shapeCasts_S8x2304x512_S18432x512) bitsLt_bf16_f32

/-- The values' columns of the weights. -/
def cols (w : FVec Ideal S2048x3072 .f32) : FVec Ideal S2048x512 .f32 :=
  extractStridedSlice S2048x512 ![0, 2560] w slices_S2048x3072_S2048x512_0_2560
theorem cols_at (w : FVec Ideal S2048x3072 .f32) (d : Fin 2048) (n : Fin 512) : cols w (ix2 d n) = w (ix2 d ⟨2560 + n, by omega⟩) := by
  pointwise [cols]

/-- The products of the two modulated arrays with the weights. -/
def lat (u : FVec Ideal S8x2048x2048 .f32) (w : FVec Ideal S2048x512 .f32) : FVec Ideal S8x2048x512 .f32 :=
  Host.dotGeneral dot_S8x2048x2048_S2048x512_S8x2048x512_2_0_01_1_n_n none u w
def ctx (u : FVec Ideal S8x256x2048 .f32) (w : FVec Ideal S2048x512 .f32) : FVec Ideal S8x256x512 .f32 :=
  Host.dotGeneral dot_S8x256x2048_S2048x512_S8x256x512_2_0_01_1_n_n none u w

theorem whole_lat (l : FVec Ideal S8x2048x512 .f32) (x : FVec Ideal S8x256x512 .f32) (b : Fin 8) (ρ : Fin 2048) (n : Fin 512) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x512 .f32) (x : FVec Ideal S8x256x512 .f32) (b : Fin 8) (ρ : Fin 256) (n : Fin 512) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))
theorem lat_at (u : FVec Ideal S8x2048x2048 .f32) (w : FVec Ideal S2048x512 .f32) (b : Fin 8) (ρ : Fin 2048) (n : Fin 512) :
    lat u w (ix3 b ρ n) = ∑ d : Fin 2048, u (ix3 b ρ d) * w (ix2 d n) := by
  pointwise [lat]
theorem ctx_at (u : FVec Ideal S8x256x2048 .f32) (w : FVec Ideal S2048x512 .f32) (b : Fin 8) (ρ : Fin 256) (n : Fin 512) :
    ctx u w (ix3 b ρ n) = ∑ d : Fin 2048, u (ix3 b ρ d) * w (ix2 d n) := by
  pointwise [ctx]

/-- The kernel's array is the reference's stages composed. -/
theorem arr_eq (x : FVec Ideal S18432x2048 .f32) (sc sh : FVec Ideal S9x1x2048 .f32) (w : FVec Ideal S2048x3072 .f32) :
    ValWArr.arr x sc sh w = whole (lat (U x sc sh) (cols w)) (ctx (UC x sc sh) (cols w)) := by
  funext y
  obtain ⟨r, n, rfl⟩ : ∃ (r : Fin 18432) (n : Fin 512), y = ix2 r n := ⟨y 0, y 1, eq_ix2 y⟩
  rcases row_cases r with ⟨b, ρ, rfl⟩ | ⟨b, ρ, rfl⟩
  · rw [whole_lat, lat_at]
    simp only [cols_at]
    exact (U_lin x sc sh b ρ fun d => w (ix2 d ⟨2560 + n, by omega⟩)).symm
  · rw [whole_ctx, ctx_at]
    simp only [cols_at]
    exact (UC_lin x sc sh b ρ fun d => w (ix2 d ⟨2560 + n, by omega⟩)).symm

end ValWRef

end
-- ==== Proof.ValWClaims.lean ====
/- The claims about layer 2's value projection, each closed from the modules before it. -/
module

public import proofs.«01_k».proof.Defs
public import proofs.«01_k».proof.Proof.Gen.ValW.Frame
public import proofs.«01_k».proof.Proof.Gen.ValWIdeal.Frame
public import proofs.«01_k».proof.Proof.Gen.ValWIdeal.Value
public import proofs.«01_k».proof.Proof.Gen.ValWReferenceIdeal.Run
public import proofs.«01_k».proof.Proof.ValWRef
public import Idealize.ShloMosaic.Adequacy
public import Idealize.ShloMosaic.Init
public import Idealize.ShloMosaic.Lib.Quiescent

@[expose] public section

noncomputable section

namespace ValWClaims

open Idealize.ShloMosaic Idealize.SL.Sem

/-- The kernel, at machine floats and ideally, and the reference run to their ends and leave their arguments alone. -/
theorem frameKernel : Cert.quiescent_ValW (hValW := Cert.ValW.Gen.facts) := fun m ρ _ => Cert.ValW.Gen.frame m ρ
theorem frameIdeal : Cert.quiescent_ValWIdeal (hValWIdeal := Cert.ValWIdeal.Gen.facts) := fun m ρ _ => Cert.ValWIdeal.Gen.frame m ρ
theorem frameReference : Cert.quiescent_ValWReferenceIdeal (hValWReferenceIdeal := Cert.ValWReferenceIdeal.Gen.facts) := fun m ρ _ =>
  (θ_run Cert.ValWReferenceIdeal.defs _ _).mono (fun r h => ⟨fun c => (h c).2, Idealize.ShloMosaic.sem_eq_zero_of_no_sems (by decide) r.2⟩)
    (Cert.ValWReferenceIdeal.Value.run (F := Ideal) m ρ)

/-- The idealized kernel rewrites nothing. -/
theorem preserves : Cert.preserves_ValW_ValWIdeal := trivial

/-- The kernel and the reference leave the same array. -/
theorem algebraic : Cert.algebraic_ValWIdeal_ValWReferenceIdeal (hValWIdeal := Cert.ValWIdeal.Gen.facts)
    (hValWReferenceIdeal := Cert.ValWReferenceIdeal.Gen.facts) := by
  intro m ρ m' ρ' _ hagree
  refine ⟨fun c => ValWArr.arr (ValWArr.aX m c) (ValWArr.aSc m c) (ValWArr.aSh m c) (ValWArr.aW m c), ?_, ?_⟩
  · exact (θ_run _ _ _).mono (fun _ h c => ⟨(h c).1.trans (ValWArr.final m c), (h c).2⟩) (Cert.ValWIdeal.Value.run_blocks (F := Ideal) m ρ)
  · refine (θ_run _ _ _).mono (fun _ h c => ⟨(h c).1.trans ?_, (h c).2⟩) (Cert.ValWReferenceIdeal.Value.run (F := Ideal) m' ρ')
    rw [(hagree c).1, (hagree c).2.1, (hagree c).2.2.1, (hagree c).2.2.2]
    exact (ValWRef.arr_eq _ _ _ _).symm

end ValWClaims

end
-- ==== Proof.OutTile.lean ====
/- The output projection's tile: the four column products the body carries, and the normalized residual it writes out. -/
module

public import proofs.«01_k».proof.Proof.Proj
public import proofs.«01_k».proof.Proof.Gen.OutIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace OutTile

open Idealize.ShloMosaic Idealize.ShloMosaic.TcCoe Cert.OutIdeal Cert.OutIdeal.Gen Idealize.SL Idealize.SL.Sem
open Idealize.ShloMosaic.Tactic Proj

/-- The residual's weight, the row length and the guard of the variance, as the program writes them. -/
abbrev kA : EReal := Ideal.ofBits .f32 0x3FD744FD#32
abbrev kN : EReal := Ideal.ofBits .f32 0x45000000#32
abbrev kE : EReal := Ideal.ofBits .f32 0x3727C5AC#32

/-- Sixty-four rows of the residual with the mixed rows, gated. -/
def zT (x y : Vec Ideal S64x2048 .f32) (g : Vec Ideal S1x1x2048 .f32) : FVec Ideal S64x2048 .f32 :=
  addf (mulf (broadcast S64x2048 (Scalar.ofBits (F := Ideal) .f32 0x3FD744FD#32)) x)
    (mulf (broadcastTo S64x2048 (shapeCast S1x2048 g shapeCasts_S1x1x2048_S1x2048) broadcasts_S1x2048_S64x2048) y)

/-- A row's mean. -/
def meanT (z : FVec Ideal S64x2048 .f32) : FVec Ideal S64x1 .f32 :=
  divf (shapeCast S64x1 (multiReduction .add [1] S64 z 0x00000000#32 reduces_S64x2048_S64 (.inl rfl) rfl) shapeCasts_S64_S64x1)
    (broadcast S64x1 (Scalar.ofBits (F := Ideal) .f32 0x45000000#32))

/-- Rows about their means. -/
def cT (z : FVec Ideal S64x2048 .f32) : FVec Ideal S64x2048 .f32 :=
  subf z (broadcastTo S64x2048 (meanT z) broadcasts_S64x1_S64x2048)

/-- Rows normalized, with gain and offset. -/
def nT (z : FVec Ideal S64x2048 .f32) (lg lb : Vec Ideal S1x2048 .f32) : FVec Ideal S64x2048 .f32 :=
  addf (mulf (mulf (cT z) (broadcastTo S64x2048 (rsqrt (addf (meanT (mulf (cT z) (cT z)))
      (broadcast S64x1 (Scalar.ofBits (F := Ideal) .f32 0x3727C5AC#32)))) broadcasts_S64x1_S64x2048))
    (broadcastTo S64x2048 (shapeCast S1x2048 lg shapeCasts_S1x2048_S1x2048) broadcasts_S1x2048_S64x2048))
    (broadcastTo S64x2048 (shapeCast S1x2048 lb shapeCasts_S1x2048_S1x2048) broadcasts_S1x2048_S64x2048)

/-- Normalized rows modulated by a scale and a shift. -/
def uT (z : FVec Ideal S64x2048 .f32) (sc sh : Vec Ideal S1x1x2048 .f32) : FVec Ideal S64x2048 .bf16 :=
  truncf .bf16 (addf (mulf z (broadcastTo S64x2048 (addf (broadcast S1x2048 (Scalar.ofBits (F := Ideal) .f32 0x3F800000#32))
      (shapeCast S1x2048 sc shapeCasts_S1x1x2048_S1x2048)) broadcasts_S1x2048_S64x2048))
    (broadcastTo S64x2048 (shapeCast S1x2048 sh shapeCasts_S1x1x2048_S1x2048) broadcasts_S1x2048_S64x2048)) bitsLt_bf16_f32

theorem uT_at (z : FVec Ideal S64x2048 .f32) (sc sh : Vec Ideal S1x1x2048 .f32) (p : Fin 64) (n : Fin 2048) :
    uT z sc sh (ix2 p n) = z (ix2 p n) * (Ideal.ofBits .f32 0x3F800000#32 + sc (ix3 0 0 n)) + sh (ix3 0 0 n) := by
  pointwise [uT]
theorem zT_at (x y : Vec Ideal S64x2048 .f32) (g : Vec Ideal S1x1x2048 .f32) (p : Fin 64) (n : Fin 2048) :
    zT x y g (ix2 p n) = kA * x (ix2 p n) + g (ix3 0 0 n) * y (ix2 p n) := by
  pointwise [zT]
theorem meanT_at (z : FVec Ideal S64x2048 .f32) (p : Fin 64) : meanT z (ix2 p 0) = Ideal.div (∑ d, z (ix2 p d)) kN := by
  pointwise [meanT]
theorem cT_at (z : FVec Ideal S64x2048 .f32) (p : Fin 64) (n : Fin 2048) : cT z (ix2 p n) = z (ix2 p n) - meanT z (ix2 p 0) := by
  pointwise [cT]
theorem sqT_at (z : FVec Ideal S64x2048 .f32) (p : Fin 64) (n : Fin 2048) : mulf z z (ix2 p n) = z (ix2 p n) * z (ix2 p n) := by
  pointwise
theorem nT_at (z : FVec Ideal S64x2048 .f32) (lg lb : Vec Ideal S1x2048 .f32) (p : Fin 64) (n : Fin 2048) :
    nT z lg lb (ix2 p n) = cT z (ix2 p n) * Ideal.rsqrt (meanT (mulf (cT z) (cT z)) (ix2 p 0) + kE) * lg (ix2 0 n) + lb (ix2 0 n) := by
  pointwise [nT]

/-- The mean of a row, and the row normalized at a column with gain and offset. -/
def mean (z : Fin 2048 → EReal) : EReal := Ideal.div (∑ d, z d) kN
def norm (z : Fin 2048 → EReal) (lg lb : EReal) (n : Fin 2048) : EReal :=
  (z n - mean z) * Ideal.rsqrt (mean (fun d => (z d - mean z) * (z d - mean z)) + kE) * lg + lb

/-- The staged rows normalized, at a row and a column. -/
theorem tile_at (x y : Vec Ideal S64x2048 .f32) (g : Vec Ideal S1x1x2048 .f32) (lg lb : Vec Ideal S1x2048 .f32) (p : Fin 64) (n : Fin 2048) :
    nT (zT x y g) lg lb (ix2 p n)
      = norm (fun d => kA * x (ix2 p d) + g (ix3 0 0 d) * y (ix2 p d)) (lg (ix2 0 n)) (lb (ix2 0 n)) n := by
  have hm : meanT (zT x y g) (ix2 p 0) = mean fun d => kA * x (ix2 p d) + g (ix3 0 0 d) * y (ix2 p d) :=
    (meanT_at _ p).trans (congrArg (Ideal.div · kN) (Finset.sum_congr rfl fun d _ => zT_at x y g p d))
  rw [nT_at, meanT_at, cT_at, zT_at, hm]
  unfold norm
  rw [mean.eq_def (fun d => (_ : EReal) * _)]
  congr 6
  refine Finset.sum_congr rfl fun d _ => ?_
  rw [sqT_at, cT_at, zT_at, hm]

/-- The whole tile normalized at a row and a column. -/
def post (x y : Vec Ideal S256x2048 .f32) (g : Vec Ideal S1x1x2048 .f32) (lg lb : Vec Ideal S1x2048 .f32) (p : Fin 256) (n : Fin 2048) : EReal :=
  norm (fun d => kA * x (ix2 p d) + g (ix3 0 0 d) * y (ix2 p d)) (lg (ix2 0 n)) (lb (ix2 0 n)) n

/-- Sixty-four rows of a tile from row `q` on. -/
def rows (x : Vec Ideal S256x2048 .f32) (q : ℕ) (hq : q + 64 ≤ 256) : Vec Ideal S64x2048 .f32 :=
  fun y => x (ix2 ⟨q + (y 0).val, by have h : (y 0).val < 64 := (y 0).isLt; omega⟩ (y 1))

/-- The sixty-four rows from row `q` on, normalized, at every index of the tile they cover. -/
theorem rows_at (x y : Vec Ideal S256x2048 .f32) (g : Vec Ideal S1x1x2048 .f32) (lg lb : Vec Ideal S1x2048 .f32) (p : Fin 256) (n : Fin 2048)
    (q : ℕ) (hq : q + 64 ≤ 256) :
    View.TileAt (Val := Elt Ideal) (S := S256x2048) (e := .f32) (ix2 p n) ![q, 0] S64x2048.size
      (nT (zT (rows x q hq) (rows y q hq) g) lg lb) (post x y g lg lb p n) := by
  intro z hz
  obtain ⟨r, e, rfl⟩ : ∃ (r : Fin 64) (e : Fin 2048), z = ix2 r e := ⟨z 0, z 1, eq_ix2 z⟩
  have e0 : p.val = q + r.val := hz 0
  have e1 : n = e := Fin.ext (by simpa [ix2] using hz 1)
  subst e1
  have hp : p = ⟨q + r.val, by omega⟩ := Fin.ext e0
  refine (tile_at _ _ _ _ _ r n).trans ?_
  rw [hp]
  rfl

/-- A value modulated by a scale and a shift. -/
def turned (z sc sh : EReal) : EReal := z * (Ideal.ofBits .f32 0x3F800000#32 + sc) + sh

/-- The whole tile normalized and modulated, at a row and a column. -/
def postU (x y : Vec Ideal S256x2048 .f32) (g : Vec Ideal S1x1x2048 .f32) (lg lb : Vec Ideal S1x2048 .f32) (sc sh : Vec Ideal S1x1x2048 .f32)
    (p : Fin 256) (n : Fin 2048) : EReal :=
  turned (post x y g lg lb p n) (sc (ix3 0 0 n)) (sh (ix3 0 0 n))

/-- The sixty-four rows from row `q` on, normalized and modulated, at every index of the tile they cover. -/
theorem rowsU_at (x y : Vec Ideal S256x2048 .f32) (g : Vec Ideal S1x1x2048 .f32) (lg lb : Vec Ideal S1x2048 .f32) (sc sh : Vec Ideal S1x1x2048 .f32)
    (p : Fin 256) (n : Fin 2048) (q : ℕ) (hq : q + 64 ≤ 256) :
    View.TileAt (Val := Elt Ideal) (S := S256x2048) (e := .bf16) (ix2 p n) ![q, 0] S64x2048.size
      (uT (nT (zT (rows x q hq) (rows y q hq) g) lg lb) sc sh) (postU x y g lg lb sc sh p n) := by
  intro z hz
  obtain ⟨r, e, rfl⟩ : ∃ (r : Fin 64) (e : Fin 2048), z = ix2 r e := ⟨z 0, z 1, eq_ix2 z⟩
  have e0 : p.val = q + r.val := hz 0
  have e1 : n = e := Fin.ext (by simpa [ix2] using hz 1)
  subst e1
  have hp : p = ⟨q + r.val, by omega⟩ := Fin.ext e0
  refine (uT_at _ _ _ r n).trans ?_
  rw [tile_at, hp]
  rfl

/-- A column product of the tile at a row and a column. -/
theorem prod_at (o : Vec Ideal S256x2048 .bf16) (w : Vec Ideal S2048x512 .bf16) (p : Fin 256) (n : Fin 512) :
    k0_pay7 o w (ix2 p n) = ∑ d, o (ix2 p d) * w (ix2 d n) := by
  pointwise [k0_pay7]

/-- Five hundred and twelve columns of the weights from column `q` on. -/
def cols (w : Vec Ideal S2048x2048 .bf16) (q : ℕ) (hq : q + 512 ≤ 2048) : Vec Ideal S2048x512 .bf16 :=
  fun y => w (ix2 (y 0) ⟨q + (y 1).val, by have h : (y 1).val < 512 := (y 1).isLt; omega⟩)

/-- The product of a tile with those columns, at every index of the tile it covers. -/
theorem cols_at (o : Vec Ideal S256x2048 .bf16) (w : Vec Ideal S2048x2048 .bf16) (p : Fin 256) (n : Fin 2048)
    (q : ℕ) (hq : q + 512 ≤ 2048) :
    View.TileAt (Val := Elt Ideal) (S := S256x2048) (e := .f32) (ix2 p n) ![0, q] S256x512.size
      (k0_pay7 o (cols w q hq)) (∑ d, o (ix2 p d) * w (ix2 d n)) := by
  intro z hz
  obtain ⟨r, e, rfl⟩ : ∃ (r : Fin 256) (e : Fin 512), z = ix2 r e := ⟨z 0, z 1, eq_ix2 z⟩
  have e0 : p = r := Fin.ext (by simpa [ix2] using hz 0)
  have e1 : n.val = q + e.val := hz 1
  subst e0
  have hn : n = ⟨q + e.val, by omega⟩ := Fin.ext e1
  refine (prod_at _ _ p e).trans ?_
  rw [hn]
  rfl

/-- Loading a block, or rows or columns of it, reads them. -/
theorem ld_rows (a : Memref sig .tc .vmem S256x2048 .f32) (h : a.IsWhole) (x : Vec Ideal S256x2048 .f32) (q : ℕ) (hq : q + 64 ≤ 256) (inb) :
    View.readAt (Elt Ideal) a.view (Rect.unit (s := S256x2048) ![q, 0] S64x2048.size inb).toLoadRect (h.unread x) = rows x q hq := by
  rw [View.readAt_eq_ld, h.read_unread]
  funext y
  exact View.ld_unit_apply_of _ _ _ _ _ _ fun a => by fin_cases a <;> simp
theorem ld_cols (a : Memref sig .tc .vmem S2048x2048 .bf16) (h : a.IsWhole) (x : Vec Ideal S2048x2048 .bf16) (q : ℕ) (hq : q + 512 ≤ 2048) (inb) :
    View.readAt (Elt Ideal) a.view (Rect.unit (s := S2048x2048) ![0, q] S2048x512.size inb).toLoadRect (h.unread x) = cols x q hq := by
  rw [View.readAt_eq_ld, h.read_unread]
  funext y
  exact View.ld_unit_apply_of _ _ _ _ _ _ fun a => by fin_cases a <;> simp
theorem ld_o (a : Memref sig .tc .vmem S256x2048 .bf16) (h : a.IsWhole) (x : Vec Ideal S256x2048 .bf16) (inb) :
    View.readAt (Elt Ideal) a.view (Rect.unit (s := S256x2048) ![0, 0] S256x2048.size inb).toLoadRect (h.unread x) = x := by
  rw [View.readAt_eq_ld, h.read_unread]
  funext y
  exact View.ld_unit_apply_of _ _ _ _ _ _ fun a => by fin_cases a <;> simp
theorem ld_g (a : Memref sig .tc .vmem S1x1x2048 .f32) (h : a.IsWhole) (x : Vec Ideal S1x1x2048 .f32) (inb) :
    View.readAt (Elt Ideal) a.view (Rect.unit (s := S1x1x2048) ![0, 0, 0] S1x1x2048.size inb).toLoadRect (h.unread x) = x := by
  rw [View.readAt_eq_ld, h.read_unread]
  funext y
  exact View.ld_unit_apply_of _ _ _ _ _ _ fun a => by fin_cases a <;> simp
theorem ld_l (a : Memref sig .tc .vmem S1x2048 .f32) (h : a.IsWhole) (x : Vec Ideal S1x2048 .f32) (inb) :
    View.readAt (Elt Ideal) a.view (Rect.unit (s := S1x2048) ![0, 0] S1x2048.size inb).toLoadRect (h.unread x) = x := by
  rw [View.readAt_eq_ld, h.read_unread]
  funext y
  exact View.ld_unit_apply_of _ _ _ _ _ _ fun a => by fin_cases a <;> simp

/-- The four groups of rows a tile is written out in, at an even point. -/
theorem even_at (x y : Vec Ideal S256x2048 .f32) (g : Vec Ideal S1x1x2048 .f32) (lg lb : Vec Ideal S1x2048 .f32) (p : Fin 256) (n : Fin 2048) :
    View.AllAt (Val := Elt Ideal) (S := S256x2048) (e := .f32)
      [⟨Rect.unit (s := S256x2048) ![192, 0] S64x2048.size inb_S256x2048_S64x2048_192_0, k0_pay32 (k0_pay28 lg) (k0_pay29 lb) (k0_pay30 (rows x 192 (by decide)) g (rows y 192 (by decide))) (k0_pay31 (rows x 192 (by decide)) g (rows y 192 (by decide)))⟩,
        ⟨Rect.unit (s := S256x2048) ![128, 0] S64x2048.size inb_S256x2048_S64x2048_128_0, k0_pay23 (k0_pay21 (rows x 128 (by decide)) g (rows y 128 (by decide))) (k0_pay22 lg) lb⟩,
        ⟨Rect.unit (s := S256x2048) ![64, 0] S64x2048.size inb_S256x2048_S64x2048_64_0, k0_pay16 (rows x 64 (by decide)) g (rows y 64 (by decide)) lg lb⟩,
        ⟨Rect.unit (s := S256x2048) ![0, 0] S64x2048.size inb_S256x2048_S64x2048_0_0, k0_pay12 (k0_pay8 lg) (k0_pay9 lb) (k0_pay10 (rows x 0 (by decide)) g (rows y 0 (by decide))) (k0_pay11 (rows x 0 (by decide)) g (rows y 0 (by decide)))⟩]
      (ix2 p n) (post x y g lg lb p n) := by
  refine View.allAt_cons_unit _ _ _ _ _ (rows_at x y g lg lb p n 192 (by decide)) ?_
  refine View.allAt_cons_unit _ _ _ _ _ (rows_at x y g lg lb p n 128 (by decide)) ?_
  refine View.allAt_cons_unit _ _ _ _ _ (rows_at x y g lg lb p n 64 (by decide)) ?_
  refine View.allAt_cons_unit _ _ _ _ _ (rows_at x y g lg lb p n 0 (by decide)) ?_
  exact View.allAt_nil _ _

/-- The four groups of rows a tile is written out in, at an odd point. -/
theorem odd_at (x y : Vec Ideal S256x2048 .f32) (g : Vec Ideal S1x1x2048 .f32) (lg lb : Vec Ideal S1x2048 .f32) (p : Fin 256) (n : Fin 2048) :
    View.AllAt (Val := Elt Ideal) (S := S256x2048) (e := .f32)
      [⟨Rect.unit (s := S256x2048) ![192, 0] S64x2048.size inb_S256x2048_S64x2048_192_0, k0_pay85 (k0_pay81 lg) (k0_pay82 lb) (k0_pay83 (rows x 192 (by decide)) g (rows y 192 (by decide))) (k0_pay84 (rows x 192 (by decide)) g (rows y 192 (by decide)))⟩,
        ⟨Rect.unit (s := S256x2048) ![128, 0] S64x2048.size inb_S256x2048_S64x2048_128_0, k0_pay76 (k0_pay74 (rows x 128 (by decide)) g (rows y 128 (by decide))) (k0_pay75 lg) lb⟩,
        ⟨Rect.unit (s := S256x2048) ![64, 0] S64x2048.size inb_S256x2048_S64x2048_64_0, k0_pay69 (rows x 64 (by decide)) g (rows y 64 (by decide)) lg lb⟩,
        ⟨Rect.unit (s := S256x2048) ![0, 0] S64x2048.size inb_S256x2048_S64x2048_0_0, k0_pay65 (k0_pay61 lg) (k0_pay62 lb) (k0_pay63 (rows x 0 (by decide)) g (rows y 0 (by decide))) (k0_pay64 (rows x 0 (by decide)) g (rows y 0 (by decide)))⟩]
      (ix2 p n) (post x y g lg lb p n) := by
  refine View.allAt_cons_unit _ _ _ _ _ (rows_at x y g lg lb p n 192 (by decide)) ?_
  refine View.allAt_cons_unit _ _ _ _ _ (rows_at x y g lg lb p n 128 (by decide)) ?_
  refine View.allAt_cons_unit _ _ _ _ _ (rows_at x y g lg lb p n 64 (by decide)) ?_
  refine View.allAt_cons_unit _ _ _ _ _ (rows_at x y g lg lb p n 0 (by decide)) ?_
  exact View.allAt_nil _ _

/-- The four groups of rows a tile is written out in, modulated, at an even point. -/
theorem evenU_at (x y : Vec Ideal S256x2048 .f32) (g : Vec Ideal S1x1x2048 .f32) (lg lb : Vec Ideal S1x2048 .f32) (sc sh : Vec Ideal S1x1x2048 .f32)
    (p : Fin 256) (n : Fin 2048) :
    View.AllAt (Val := Elt Ideal) (S := S256x2048) (e := .bf16)
      [⟨Rect.unit (s := S256x2048) ![192, 0] S64x2048.size inb_S256x2048_S64x2048_192_0, k0_pay33 (k0_pay28 lg) (k0_pay29 lb) (k0_pay30 (rows x 192 (by decide)) g (rows y 192 (by decide))) (k0_pay31 (rows x 192 (by decide)) g (rows y 192 (by decide))) sc sh⟩,
        ⟨Rect.unit (s := S256x2048) ![128, 0] S64x2048.size inb_S256x2048_S64x2048_128_0, k0_pay24 (k0_pay21 (rows x 128 (by decide)) g (rows y 128 (by decide))) (k0_pay22 lg) lb sc sh⟩,
        ⟨Rect.unit (s := S256x2048) ![64, 0] S64x2048.size inb_S256x2048_S64x2048_64_0, k0_pay18 (k0_pay16 (rows x 64 (by decide)) g (rows y 64 (by decide)) lg lb) (k0_pay17 sc) sh⟩,
        ⟨Rect.unit (s := S256x2048) ![0, 0] S64x2048.size inb_S256x2048_S64x2048_0_0, k0_pay13 (k0_pay8 lg) (k0_pay9 lb) (k0_pay10 (rows x 0 (by decide)) g (rows y 0 (by decide))) (k0_pay11 (rows x 0 (by decide)) g (rows y 0 (by decide))) sc sh⟩]
      (ix2 p n) (postU x y g lg lb sc sh p n) := by
  refine View.allAt_cons_unit _ _ _ _ _ (rowsU_at x y g lg lb sc sh p n 192 (by decide)) ?_
  refine View.allAt_cons_unit _ _ _ _ _ (rowsU_at x y g lg lb sc sh p n 128 (by decide)) ?_
  refine View.allAt_cons_unit _ _ _ _ _ (rowsU_at x y g lg lb sc sh p n 64 (by decide)) ?_
  refine View.allAt_cons_unit _ _ _ _ _ (rowsU_at x y g lg lb sc sh p n 0 (by decide)) ?_
  exact View.allAt_nil _ _

/-- The four groups of rows a tile is written out in, modulated, at an odd point. -/
theorem oddU_at (x y : Vec Ideal S256x2048 .f32) (g : Vec Ideal S1x1x2048 .f32) (lg lb : Vec Ideal S1x2048 .f32) (sc sh : Vec Ideal S1x1x2048 .f32)
    (p : Fin 256) (n : Fin 2048) :
    View.AllAt (Val := Elt Ideal) (S := S256x2048) (e := .bf16)
      [⟨Rect.unit (s := S256x2048) ![192, 0] S64x2048.size inb_S256x2048_S64x2048_192_0, k0_pay86 (k0_pay81 lg) (k0_pay82 lb) (k0_pay83 (rows x 192 (by decide)) g (rows y 192 (by decide))) (k0_pay84 (rows x 192 (by decide)) g (rows y 192 (by decide))) sc sh⟩,
        ⟨Rect.unit (s := S256x2048) ![128, 0] S64x2048.size inb_S256x2048_S64x2048_128_0, k0_pay77 (k0_pay74 (rows x 128 (by decide)) g (rows y 128 (by decide))) (k0_pay75 lg) lb sc sh⟩,
        ⟨Rect.unit (s := S256x2048) ![64, 0] S64x2048.size inb_S256x2048_S64x2048_64_0, k0_pay71 (k0_pay69 (rows x 64 (by decide)) g (rows y 64 (by decide)) lg lb) (k0_pay70 sc) sh⟩,
        ⟨Rect.unit (s := S256x2048) ![0, 0] S64x2048.size inb_S256x2048_S64x2048_0_0, k0_pay66 (k0_pay61 lg) (k0_pay62 lb) (k0_pay63 (rows x 0 (by decide)) g (rows y 0 (by decide))) (k0_pay64 (rows x 0 (by decide)) g (rows y 0 (by decide))) sc sh⟩]
      (ix2 p n) (postU x y g lg lb sc sh p n) := by
  refine View.allAt_cons_unit _ _ _ _ _ (rowsU_at x y g lg lb sc sh p n 192 (by decide)) ?_
  refine View.allAt_cons_unit _ _ _ _ _ (rowsU_at x y g lg lb sc sh p n 128 (by decide)) ?_
  refine View.allAt_cons_unit _ _ _ _ _ (rowsU_at x y g lg lb sc sh p n 64 (by decide)) ?_
  refine View.allAt_cons_unit _ _ _ _ _ (rowsU_at x y g lg lb sc sh p n 0 (by decide)) ?_
  exact View.allAt_nil _ _

/-- The four column products a tile is carried in, at an even point. -/
theorem evenProd_at (o : Vec Ideal S256x2048 .bf16) (w : Vec Ideal S2048x2048 .bf16) (p : Fin 256) (n : Fin 2048) :
    View.AllAt (Val := Elt Ideal) (S := S256x2048) (e := .f32)
      [⟨Rect.unit (s := S256x2048) ![0, 1536] S256x512.size inb_S256x2048_S256x512_0_1536, k0_pay27 o (cols w 1536 (by decide))⟩,
        ⟨Rect.unit (s := S256x2048) ![0, 1024] S256x512.size inb_S256x2048_S256x512_0_1024, k0_pay20 o (cols w 1024 (by decide))⟩,
        ⟨Rect.unit (s := S256x2048) ![0, 512] S256x512.size inb_S256x2048_S256x512_0_512, k0_pay15 o (cols w 512 (by decide))⟩,
        ⟨Rect.unit (s := S256x2048) ![0, 0] S256x512.size inb_S256x2048_S256x512_0_0, k0_pay7 o (cols w 0 (by decide))⟩]
      (ix2 p n) (∑ d, o (ix2 p d) * w (ix2 d n)) := by
  refine View.allAt_cons_unit _ _ _ _ _ (cols_at o w p n 1536 (by decide)) ?_
  refine View.allAt_cons_unit _ _ _ _ _ (cols_at o w p n 1024 (by decide)) ?_
  refine View.allAt_cons_unit _ _ _ _ _ (cols_at o w p n 512 (by decide)) ?_
  refine View.allAt_cons_unit _ _ _ _ _ (cols_at o w p n 0 (by decide)) ?_
  exact View.allAt_nil _ _

/-- The four column products a tile is carried in, at an odd point. -/
theorem oddProd_at (o : Vec Ideal S256x2048 .bf16) (w : Vec Ideal S2048x2048 .bf16) (p : Fin 256) (n : Fin 2048) :
    View.AllAt (Val := Elt Ideal) (S := S256x2048) (e := .f32)
      [⟨Rect.unit (s := S256x2048) ![0, 1536] S256x512.size inb_S256x2048_S256x512_0_1536, k0_pay80 o (cols w 1536 (by decide))⟩,
        ⟨Rect.unit (s := S256x2048) ![0, 1024] S256x512.size inb_S256x2048_S256x512_0_1024, k0_pay73 o (cols w 1024 (by decide))⟩,
        ⟨Rect.unit (s := S256x2048) ![0, 512] S256x512.size inb_S256x2048_S256x512_0_512, k0_pay68 o (cols w 512 (by decide))⟩,
        ⟨Rect.unit (s := S256x2048) ![0, 0] S256x512.size inb_S256x2048_S256x512_0_0, k0_pay60 o (cols w 0 (by decide))⟩]
      (ix2 p n) (∑ d, o (ix2 p d) * w (ix2 d n)) := by
  refine View.allAt_cons_unit _ _ _ _ _ (cols_at o w p n 1536 (by decide)) ?_
  refine View.allAt_cons_unit _ _ _ _ _ (cols_at o w p n 1024 (by decide)) ?_
  refine View.allAt_cons_unit _ _ _ _ _ (cols_at o w p n 512 (by decide)) ?_
  refine View.allAt_cons_unit _ _ _ _ _ (cols_at o w p n 0 (by decide)) ?_
  exact View.allAt_nil _ _

variable (c : Dev nD) (i : grid0.Coords)
  (a1 : Memref sig .tc .vmem S256x2048 .bf16) (h1 : a1.IsWhole) (a2 : Memref sig .tc .vmem S2048x2048 .bf16) (h2 : a2.IsWhole)
  (a3 : Memref sig .tc .vmem S256x2048 .f32) (h3 : a3.IsWhole) (a4 : Memref sig .tc .vmem S1x1x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S1x1x2048 .f32) (h7 : a7.IsWhole) (a8 : Memref sig .tc .vmem S1x1x2048 .f32) (h8 : a8.IsWhole)
  (a9 : Memref sig .tc .vmem S2048x128 .bf16) (h9 : a9.IsWhole) (a10 : Memref sig .tc .vmem S1x128 .f32) (h10 : a10.IsWhole)
  (a11 : Memref sig .tc .vmem S256x2048 .f32) (h11 : a11.IsWhole) (a12 : Memref sig .tc .vmem S256x2048 .bf16) (h12 : a12.IsWhole)
  (a13 : Memref sig .tc .vmem S256x128 .f32) (h13 : a13.IsWhole) (a14 : Memref sig .tc .vmem S8x128 .f32) (h14 : a14.IsWhole)
  (a15 : Memref sig .tc .vmem S1x128 .f32) (h15 : a15.IsWhole) (a16 : Memref sig .tc .vmem S256x2048 .f32) (h16 : a16.IsWhole)
  (a17 : Memref sig .tc .vmem S256x2048 .f32) (h17 : a17.IsWhole)
  (x0 : Vec Ideal S256x2048 .bf16) (x1 : Vec Ideal S2048x2048 .bf16) (x2 : Vec Ideal S256x2048 .f32) (x3 : Vec Ideal S1x1x2048 .f32)
  (x4 x5 : Vec Ideal S1x2048 .f32) (x6 x7 : Vec Ideal S1x1x2048 .f32) (x8 : Vec Ideal S2048x128 .bf16) (x9 : Vec Ideal S1x128 .f32)
  (xs0 : Vec Ideal S1x128 .f32) (xs : Vec Ideal S256x2048 .f32)

set_option maxHeartbeats 1000000 in
/-- What an odd point writes out: the carried product of the point before, with the residual, normalized. -/
theorem blockB_at (hc0 hc1 hc2) (p : Fin 256) (n : Fin 2048) :
    out0_B_10 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = post x2 xs x3 x4 x5 p n := by
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_B_10 c _ _ _ _ _ _ _ _ _ _ _ _ _ _ _ _ _ _ _ _ _ _ _ _ _ _ _ _ _ _ _ _ _ _ _ _ _ _ _ _ _ _ _ _ _ _ _ _ _ _ _) ?_
  unfold kernelRun0_B
  dsimp only
  sl_unfold_words
  rw [ld_rows a3 h3 _ 0 (by decide), ld_rows a3 h3 _ 64 (by decide), ld_rows a3 h3 _ 128 (by decide), ld_rows a3 h3 _ 192 (by decide), ld_rows a16 h16 _ 0 (by decide), ld_rows a16 h16 _ 64 (by decide), ld_rows a16 h16 _ 128 (by decide), ld_rows a16 h16 _ 192 (by decide)]
  rw [ld_g a4 h4, ld_l a5 h5, ld_l a6 h6]
  exact odd_at x2 xs x3 x4 x5 p n

set_option maxHeartbeats 1000000 in
/-- What a later even point writes out. -/
theorem blockC_at (hc0 hc1 hc2) (p : Fin 256) (n : Fin 2048) :
    out0_C_10 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = post x2 xs x3 x4 x5 p n := by
  unfold out0_C_10
  rw [View.read_writes_eq_canon _ _ _ (cover0_C_10 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_C_10 c _ _ _ _ _ _ _ _ _ _ _ _ _ _ _ _ _ _ _ _ _ _ _ _ _ _ _ _ _ _ _ _ _ _ _ _ _ _ _ _ _ _ _ _ _ _ _ _ _ _ _) ?_
  unfold kernelRun0_C
  dsimp only
  sl_unfold_words
  rw [ld_rows a3 h3 _ 0 (by decide), ld_rows a3 h3 _ 64 (by decide), ld_rows a3 h3 _ 128 (by decide), ld_rows a3 h3 _ 192 (by decide), ld_rows a17 h17 _ 0 (by decide), ld_rows a17 h17 _ 64 (by decide), ld_rows a17 h17 _ 128 (by decide), ld_rows a17 h17 _ 192 (by decide)]
  rw [ld_g a4 h4, ld_l a5 h5, ld_l a6 h6]
  exact even_at x2 xs x3 x4 x5 p n

set_option maxHeartbeats 1000000 in
/-- What an odd point writes out beside it: the same rows modulated. -/
theorem blockUB_at (hc0 hc1 hc2) (p : Fin 256) (n : Fin 2048) :
    out0_B_11 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = postU x2 xs x3 x4 x5 x6 x7 p n := by
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_B_11 c _ _ _ _ _ _ _ _ _ _ _ _ _ _ _ _ _ _ _ _ _ _ _ _ _ _ _ _ _ _ _ _ _ _ _ _ _ _ _ _ _ _ _ _ _ _ _ _ _ _ _) ?_
  unfold kernelRun0_B
  dsimp only
  sl_unfold_words
  rw [ld_rows a3 h3 _ 0 (by decide), ld_rows a3 h3 _ 64 (by decide), ld_rows a3 h3 _ 128 (by decide), ld_rows a3 h3 _ 192 (by decide), ld_rows a16 h16 _ 0 (by decide), ld_rows a16 h16 _ 64 (by decide), ld_rows a16 h16 _ 128 (by decide), ld_rows a16 h16 _ 192 (by decide)]
  rw [ld_g a4 h4, ld_l a5 h5, ld_l a6 h6, ld_g a7 h7, ld_g a8 h8]
  exact oddU_at x2 xs x3 x4 x5 x6 x7 p n

set_option maxHeartbeats 1000000 in
/-- What a later even point writes out beside it. -/
theorem blockUC_at (hc0 hc1 hc2) (p : Fin 256) (n : Fin 2048) :
    out0_C_11 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = postU x2 xs x3 x4 x5 x6 x7 p n := by
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (cover0_C_11 c _ _ _ _ _ _ _ _ _ _ _ _ _ _ _ _ _ _ _ _ _ _ _ _ _ _ _ _ _ _ _ _ _ _ _ _ _ _ _ _ _ _ _ _ _ _ _ _ _ _ _) ?_
  unfold kernelRun0_C
  dsimp only
  sl_unfold_words
  rw [ld_rows a3 h3 _ 0 (by decide), ld_rows a3 h3 _ 64 (by decide), ld_rows a3 h3 _ 128 (by decide), ld_rows a3 h3 _ 192 (by decide), ld_rows a17 h17 _ 0 (by decide), ld_rows a17 h17 _ 64 (by decide), ld_rows a17 h17 _ 128 (by decide), ld_rows a17 h17 _ 192 (by decide)]
  rw [ld_g a4 h4, ld_l a5 h5, ld_l a6 h6, ld_g a7 h7, ld_g a8 h8]
  exact evenU_at x2 xs x3 x4 x5 x6 x7 p n

set_option maxHeartbeats 1000000 in
/-- The product the first point carries on. -/
theorem scrA_at (hc0 hc1 hc2) (p : Fin 256) (n : Fin 2048) :
    sout0_A_1 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 (ix2 p n) = ∑ d, x0 (ix2 p d) * x1 (ix2 d n) := by
  unfold sout0_A_1
  rw [View.read_writes_eq_canon _ _ _ (scover0_A_1 c _ _ _ _ _ _ _ _ _ _ _ _ _ _ _ _ _ _ _ _ _ _ _ _ _ _ _ _ _ _ _ _ _ _ _ _ _ _ _ _ _ _ _ _ _ _ _ _)]
  refine View.canon_eq_of_allAt _ _ _ (scover0_A_1 c _ _ _ _ _ _ _ _ _ _ _ _ _ _ _ _ _ _ _ _ _ _ _ _ _ _ _ _ _ _ _ _ _ _ _ _ _ _ _ _ _ _ _ _ _ _ _ _ _) ?_
  unfold kernelRun0_A
  dsimp only
  sl_unfold_words
  rw [ld_o a1 h1, ld_cols a2 h2 _ 0 (by decide), ld_cols a2 h2 _ 512 (by decide), ld_cols a2 h2 _ 1024 (by decide), ld_cols a2 h2 _ 1536 (by decide)]
  exact evenProd_at x0 x1 p n

set_option maxHeartbeats 1000000 in
/-- The product an odd point carries on. -/
theorem scrB_at (hc0 hc1 hc2) (p : Fin 256) (n : Fin 2048) :
    sout0_B_2 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = ∑ d, x0 (ix2 p d) * x1 (ix2 d n) := by
  unfold sout0_B_2
  rw [View.read_writes_eq_canon _ _ _ (scover0_B_2 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (scover0_B_2 c _ _ _ _ _ _ _ _ _ _ _ _ _ _ _ _ _ _ _ _ _ _ _ _ _ _ _ _ _ _ _ _ _ _ _ _ _ _ _ _ _ _ _ _ _ _ _ _ _ _ _) ?_
  unfold kernelRun0_B
  dsimp only
  sl_unfold_words
  rw [ld_o a1 h1, ld_cols a2 h2 _ 0 (by decide), ld_cols a2 h2 _ 512 (by decide), ld_cols a2 h2 _ 1024 (by decide), ld_cols a2 h2 _ 1536 (by decide)]
  exact oddProd_at x0 x1 p n

set_option maxHeartbeats 1000000 in
/-- The product a later even point carries on. -/
theorem scrC_at (hc0 hc1 hc2) (p : Fin 256) (n : Fin 2048) :
    sout0_C_1 (F := Ideal) c i a1 h1 a2 h2 a3 h3 a4 h4 a5 h5 a6 h6 a7 h7 a8 h8 a9 h9 a10 h10 a11 h11 a12 h12 a13 h13 a14 h14 a15 h15 a16 h16 a17 h17
      hc0 hc1 hc2 x0 x1 x2 x3 x4 x5 x6 x7 x8 x9 xs0 xs (ix2 p n) = ∑ d, x0 (ix2 p d) * x1 (ix2 d n) := by
  unfold sout0_C_1
  rw [View.read_writes_eq_canon _ _ _ (scover0_C_1 c _ _ _ _ _ _ _ _ _ _ _ _ _ _ _ _ _ _ _ _ _ _ _ _ _ _ _ _ _ _ _ _ _ _ _ _ _ _ _ _ _ _ _ _ _ _ _ _ _ _)]
  refine View.canon_eq_of_allAt _ _ _ (scover0_C_1 c _ _ _ _ _ _ _ _ _ _ _ _ _ _ _ _ _ _ _ _ _ _ _ _ _ _ _ _ _ _ _ _ _ _ _ _ _ _ _ _ _ _ _ _ _ _ _ _ _ _ _) ?_
  unfold kernelRun0_C
  dsimp only
  sl_unfold_words
  rw [ld_o a1 h1, ld_cols a2 h2 _ 0 (by decide), ld_cols a2 h2 _ 512 (by decide), ld_cols a2 h2 _ 1024 (by decide), ld_cols a2 h2 _ 1536 (by decide)]
  exact evenProd_at x0 x1 p n

end OutTile

end
-- ==== Proof.OutArr.lean ====
/- The output projection's result array, read back at one row and column from the arguments' own elements. -/
module

public import proofs.«01_k».proof.Proof.OutTile

@[expose] public section

set_option maxRecDepth 16384

noncomputable section

namespace OutArr

open Idealize.ShloMosaic Idealize.ShloMosaic.TcCoe Cert.OutIdeal Cert.OutIdeal.Gen Idealize.SL.Sem
open Idealize.ShloMosaic.Tactic Proj OutTile

variable (m : (ℓ : Loc nD τ sig) → Buf (Elt Ideal) ℓ)

theorem tlt (t : Fin cfg0.N) : t.val < 73 := lt_of_lt_of_eq t.isLt (N_0 : cfg0.N = 73)

/-- The grid point before `t`. -/
abbrev prev (t : Fin cfg0.N) : Fin cfg0.N := ⟨t.val - 1, Nat.lt_of_le_of_lt (Nat.sub_le _ _) t.isLt⟩

/-- The blocks staged at a grid point: mixed rows, weights, stream rows, gates, gain, offset, scales and shifts. -/
abbrev b0 (c : Dev nD) (t : Fin cfg0.N) : Vec Ideal S256x2048 .bf16 := iblk m c 0 t
abbrev b1 (c : Dev nD) (t : Fin cfg0.N) : Vec Ideal S2048x2048 .bf16 := iblk m c 1 t
abbrev b2 (c : Dev nD) (t : Fin cfg0.N) : Vec Ideal S256x2048 .f32 := iblk m c 2 t
abbrev b3 (c : Dev nD) (t : Fin cfg0.N) : Vec Ideal S1x1x2048 .f32 := iblk m c 3 t
abbrev b4 (c : Dev nD) (t : Fin cfg0.N) : Vec Ideal S1x2048 .f32 := iblk m c 4 t
abbrev b5 (c : Dev nD) (t : Fin cfg0.N) : Vec Ideal S1x2048 .f32 := iblk m c 5 t

abbrev b6 (c : Dev nD) (t : Fin cfg0.N) : Vec Ideal S1x1x2048 .f32 := iblk m c 6 t
abbrev b7 (c : Dev nD) (t : Fin cfg0.N) : Vec Ideal S1x1x2048 .f32 := iblk m c 7 t

/-- The staged tile against the staged weights. -/
def prod (c : Dev nD) (t : Fin cfg0.N) (p : Fin 256) (n : Fin 2048) : EReal :=
  ∑ d, b0 m c t (ix2 p d) * b1 m c t (ix2 d n)

/-- What an even point carries on in the first buffer, and an odd point in the second. -/
theorem even_carry (c : Dev nD) (t : Fin cfg0.N) (h : t.val % 2 = 0) (p : Fin 256) (n : Fin 2048) :
    (outsAt0 m c t.val t.isLt).2.2.2.2.2.1 (ix2 p n) = prod m c t p n := by
  by_cases h0 : t.val % 73 = 0
  · rw [outsAt0_A m c t h0 h (by omega)]
    dsimp only
    exact scrA_at _ _ _ _ _ _ _ _ _ _ _ _ _ _ _ _ _ _ _ _ _ _ _ _ _ _ _ _ _ _ _ _ _ _ _ _ _ _ _ _ _ _ _ _ _ _ _ _ _ _ _
  · rw [outsAt0_C m c t h0 h (by omega)]
    dsimp only
    exact scrC_at _ _ _ _ _ _ _ _ _ _ _ _ _ _ _ _ _ _ _ _ _ _ _ _ _ _ _ _ _ _ _ _ _ _ _ _ _ _ _ _ _ _ _ _ _ _ _ _ _ _ _ _ _
theorem odd_carry (c : Dev nD) (t : Fin cfg0.N) (h : t.val % 2 = 1) (p : Fin 256) (n : Fin 2048) :
    (outsAt0 m c t.val t.isLt).2.2.2.2.2.2 (ix2 p n) = prod m c t p n := by
  have := tlt t
  rw [outsAt0_B m c t (by omega) (by omega) h]
  dsimp only
  exact scrB_at _ _ _ _ _ _ _ _ _ _ _ _ _ _ _ _ _ _ _ _ _ _ _ _ _ _ _ _ _ _ _ _ _ _ _ _ _ _ _ _ _ _ _ _ _ _ _ _ _ _ _ _ _

/-- The staged stream rows with a gated row `Y`, normalized. -/
def over (c : Dev nD) (t : Fin cfg0.N) (p : Fin 256) (n : Fin 2048) (Y : Fin 2048 → EReal) : EReal :=
  OutTile.norm (fun d => kA * b2 m c t (ix2 p d) + b3 m c t (ix3 0 0 d) * Y d) (b4 m c t (ix2 0 n)) (b5 m c t (ix2 0 n)) n

/-- The block written out at every point after the first, over the product of the point before. -/
theorem block (c : Dev nD) (t : Fin cfg0.N) (h : t.val ≠ 0) (p : Fin 256) (n : Fin 2048) :
    (outsAt0 m c t.val t.isLt).1 (ix2 p n)
      = OutTile.norm (fun d => kA * b2 m c t (ix2 p d)
          + b3 m c t (ix3 0 0 d) * prod m c (prev t) p d)
        (b4 m c t (ix2 0 n)) (b5 m c t (ix2 0 n)) n := by
  have ht := tlt t
  by_cases h1 : t.val % 2 = 0
  · rw [outsAt0_C m c t (by omega) h1 (by omega)]
    dsimp only
    refine (blockC_at _ _ _ _ _ _ _ _ _ _ _ _ _ _ _ _ _ _ _ _ _ _ _ _ _ _ _ _ _ _ _ _ _ _ _ _ _ _ _ _ _ _ _ _ _ _ _ _ _ _ _ _ _).trans ?_
    unfold OutTile.post
    exact congrArg (over m c t p n) (funext fun d => (odd_carry m c (prev t) (by show (t.val - 1) % 2 = 1; omega) p d))
  · rw [outsAt0_B m c t (by omega) h1 (by omega)]
    dsimp only
    refine (blockB_at _ _ _ _ _ _ _ _ _ _ _ _ _ _ _ _ _ _ _ _ _ _ _ _ _ _ _ _ _ _ _ _ _ _ _ _ _ _ _ _ _ _ _ _ _ _ _ _ _ _ _ _ _).trans ?_
    unfold OutTile.post
    exact congrArg (over m c t p n) (funext fun d => (even_carry m c (prev t) (by show (t.val - 1) % 2 = 0; omega) p d))

/-- The same staged rows normalized and modulated. -/
def overU (c : Dev nD) (t : Fin cfg0.N) (p : Fin 256) (n : Fin 2048) (Y : Fin 2048 → EReal) : EReal :=
  turned (over m c t p n Y) (b6 m c t (ix3 0 0 n)) (b7 m c t (ix3 0 0 n))

/-- The modulated block written out at every point after the first, over the product of the point before. -/
theorem blockU (c : Dev nD) (t : Fin cfg0.N) (h : t.val ≠ 0) (p : Fin 256) (n : Fin 2048) :
    (outsAt0 m c t.val t.isLt).2.1 (ix2 p n) = overU m c t p n (fun d => prod m c (prev t) p d) := by
  have ht := tlt t
  by_cases h1 : t.val % 2 = 0
  · rw [outsAt0_C m c t (by omega) h1 (by omega)]
    dsimp only
    refine (blockUC_at _ _ _ _ _ _ _ _ _ _ _ _ _ _ _ _ _ _ _ _ _ _ _ _ _ _ _ _ _ _ _ _ _ _ _ _ _ _ _ _ _ _ _ _ _ _ _ _ _ _ _ _ _).trans ?_
    unfold OutTile.postU OutTile.post
    exact congrArg (overU m c t p n) (funext fun d => (odd_carry m c (prev t) (by show (t.val - 1) % 2 = 1; omega) p d))
  · rw [outsAt0_B m c t (by omega) h1 (by omega)]
    dsimp only
    refine (blockUB_at _ _ _ _ _ _ _ _ _ _ _ _ _ _ _ _ _ _ _ _ _ _ _ _ _ _ _ _ _ _ _ _ _ _ _ _ _ _ _ _ _ _ _ _ _ _ _ _ _ _ _ _ _).trans ?_
    unfold OutTile.postU OutTile.post
    exact congrArg (overU m c t p n) (funext fun d => (even_carry m c (prev t) (by show (t.val - 1) % 2 = 0; omega) p d))

/-- Where each window stands at grid point `t`: the mixed rows at tile `t`, everything else at the tile before. -/
theorem at0 : ∀ t : Fin cfg0.N, win0_0.index t = ![min t.val 71, 0] := by
  exact (by decide +kernel : ∀ t : Fin grid0.N, win0_0.index t = ![min t.val 71, 0])
theorem at1 : ∀ t : Fin cfg0.N, win0_1.index t = ![0, 0] := by
  exact (by decide +kernel : ∀ t : Fin grid0.N, win0_1.index t = ![0, 0])
theorem at2 : ∀ t : Fin cfg0.N, win0_2.index t = ![t.val - 1, 0] := by
  exact (by decide +kernel : ∀ t : Fin grid0.N, win0_2.index t = ![t.val - 1, 0])
theorem at3 : ∀ t : Fin cfg0.N, win0_3.index t = ![if (t.val - 1) % 9 = 8 then 8 else (t.val - 1) / 9, 0, 0] := by
  exact (by decide +kernel : ∀ t : Fin grid0.N, win0_3.index t = ![if (t.val - 1) % 9 = 8 then 8 else (t.val - 1) / 9, 0, 0])
theorem at4 : ∀ t : Fin cfg0.N, win0_4.index t = ![0, 0] := by
  exact (by decide +kernel : ∀ t : Fin grid0.N, win0_4.index t = ![0, 0])
theorem at5 : ∀ t : Fin cfg0.N, win0_5.index t = ![0, 0] := by
  exact (by decide +kernel : ∀ t : Fin grid0.N, win0_5.index t = ![0, 0])
theorem at6 : ∀ t : Fin cfg0.N, win0_6.index t = ![if (t.val - 1) % 9 = 8 then 8 else (t.val - 1) / 9, 0, 0] := by
  exact (by decide +kernel : ∀ t : Fin grid0.N, win0_6.index t = ![if (t.val - 1) % 9 = 8 then 8 else (t.val - 1) / 9, 0, 0])
theorem at7 : ∀ t : Fin cfg0.N, win0_7.index t = ![if (t.val - 1) % 9 = 8 then 8 else (t.val - 1) / 9, 0, 0] := by
  exact (by decide +kernel : ∀ t : Fin grid0.N, win0_7.index t = ![if (t.val - 1) % 9 = 8 then 8 else (t.val - 1) / 9, 0, 0])
theorem at10 : ∀ t : Fin cfg0.N, win0_10.index t = ![t.val - 1, 0] := by
  exact (by decide +kernel : ∀ t : Fin grid0.N, win0_10.index t = ![t.val - 1, 0])
theorem at11 : ∀ t : Fin cfg0.N, win0_11.index t = ![t.val - 1, 0] := by
  exact (by decide +kernel : ∀ t : Fin grid0.N, win0_11.index t = ![t.val - 1, 0])

/-- The arguments of the run from memory `m`. -/
abbrev aO (c : Dev nD) : X := m ((c : Thread nD τ).loc main_arg0)
abbrev aW (c : Dev nD) : S2048x2048.Idx → EReal := m ((c : Thread nD τ).loc main_arg1)
abbrev aX (c : Dev nD) : X := m ((c : Thread nD τ).loc main_arg2)
abbrev aG (c : Dev nD) : G := m ((c : Thread nD τ).loc main_arg3)
abbrev aLg (c : Dev nD) : S2048.Idx → EReal := m ((c : Thread nD τ).loc main_arg4)
abbrev aLb (c : Dev nD) : S2048.Idx → EReal := m ((c : Thread nD τ).loc main_arg5)
abbrev aSc (c : Dev nD) : G := m ((c : Thread nD τ).loc main_arg6)
abbrev aSh (c : Dev nD) : G := m ((c : Thread nD τ).loc main_arg7)

theorem o_blk (c : Dev nD) (t : Fin cfg0.N) (h : t.val < 72) (p : Fin 256) (d : Fin 2048) :
    b0 m c t (ix2 p d) = aO m c (ix2 (tileRow t.val h p) d) := by
  have e : min t.val 71 = t.val := by omega
  blk_ext [b0, iblk, V_main_arg0, at0 t, tileRow, e]
theorem w_blk (c : Dev nD) (t : Fin cfg0.N) (d n : Fin 2048) :
    b1 m c t (ix2 d n) = aW m c (ix2 d n) := by
  unfold b1 iblk
  entry_read
  have hy : (win0_1.blk t).view.emb (ix2 d n) = ix2 d n := by blk_ext [at1 t]
  show aW m c ((win0_1.blk t).view.emb (ix2 d n)) = _
  rw [hy]
theorem lg_blk (c : Dev nD) (t : Fin cfg0.N) (n : Fin 2048) :
    b4 m c t (ix2 0 n) = aLg m c (ix1 n) := by
  unfold b4 iblk
  entry_read
  have hy : (win0_4.blk t).view.emb (ix2 0 n) = ix2 0 n := by blk_ext [at4 t]
  show shapeCast S1x2048 (aLg m c) shapeCasts_S2048_S1x2048 ((win0_4.blk t).view.emb (ix2 0 n)) = _
  rw [hy]
  pointwise
theorem lb_blk (c : Dev nD) (t : Fin cfg0.N) (n : Fin 2048) :
    b5 m c t (ix2 0 n) = aLb m c (ix1 n) := by
  unfold b5 iblk
  entry_read
  have hy : (win0_5.blk t).view.emb (ix2 0 n) = ix2 0 n := by blk_ext [at5 t]
  show shapeCast S1x2048 (aLb m c) shapeCasts_S2048_S1x2048 ((win0_5.blk t).view.emb (ix2 0 n)) = _
  rw [hy]
  pointwise
theorem x_blk (c : Dev nD) (t : Fin cfg0.N) (h : t.val - 1 < 72) (p : Fin 256) (d : Fin 2048) :
    b2 m c t (ix2 p d) = aX m c (ix2 (tileRow (t.val - 1) h p) d) := by
  blk_ext [b2, iblk, V_main_arg2, at2 t, tileRow]
theorem g_blk (c : Dev nD) (t : Fin cfg0.N) (h : t.val - 1 < 72) (p : Fin 256) (d : Fin 2048) :
    b3 m c t (ix3 0 0 d) = aG m c (ix3 (grp (tileRow (t.val - 1) h p)) 0 d) := by
  blk_ext [b3, iblk, V_main_arg3, at3 t, grp_tile]
theorem sc_blk (c : Dev nD) (t : Fin cfg0.N) (h : t.val - 1 < 72) (p : Fin 256) (d : Fin 2048) :
    b6 m c t (ix3 0 0 d) = aSc m c (ix3 (grp (tileRow (t.val - 1) h p)) 0 d) := by
  blk_ext [b6, iblk, V_main_arg6, at6 t, grp_tile]
theorem sh_blk (c : Dev nD) (t : Fin cfg0.N) (h : t.val - 1 < 72) (p : Fin 256) (d : Fin 2048) :
    b7 m c t (ix3 0 0 d) = aSh m c (ix3 (grp (tileRow (t.val - 1) h p)) 0 d) := by
  blk_ext [b7, iblk, V_main_arg7, at7 t, grp_tile]

/-- The mixed row `r` against column `n` of the weights. -/
def mixed (o : X) (w : S2048x2048.Idx → EReal) (r : Fin 18432) (n : Fin 2048) : EReal := ∑ d, o (ix2 r d) * w (ix2 d n)

/-- The residual at stream row `r`: the weighted stream plus the gated projection of the mixed row. -/
def res (o x : X) (w : S2048x2048.Idx → EReal) (g : G) (r : Fin 18432) (d : Fin 2048) : EReal :=
  kA * x (ix2 r d) + g (ix3 (grp r) 0 d) * mixed o w r d

/-- The result array at an index: the residual's row normalized. -/
def arr (o x : X) (w : S2048x2048.Idx → EReal) (g : G) (lg lb : S2048.Idx → EReal) : S18432x2048.Idx → EReal :=
  fun y => OutTile.norm (res o x w g (y 0)) (lg (ix1 (y 1))) (lb (ix1 (y 1))) (y 1)

/-- The block of the first point is not what reaches the result: no flush comes before the second point. -/
theorem flush_pos : ∀ t : Fin cfg0.N, (cfg0.win 10).flush t = true → t.val ≠ 0 := by
  exact (by decide +kernel : ∀ t : Fin grid0.N, win0_10.flush t = true → t.val ≠ 0)

/-- The staged residual row is the residual at the tile's row. -/
theorem res_blk (c : Dev nD) (t : Fin cfg0.N) (h : t.val - 1 < 72) (p : Fin 256) (d : Fin 2048) :
    kA * b2 m c t (ix2 p d) + b3 m c t (ix3 0 0 d) * prod m c (prev t) p d
      = res (aO m c) (aX m c) (aW m c) (aG m c) (tileRow (t.val - 1) h p) d := by
  unfold res mixed prod
  rw [x_blk m c t h, g_blk m c t h p]
  congr 2
  exact Finset.sum_congr rfl fun e _ => by rw [o_blk m c (prev t) (by show t.val - 1 < 72; omega), w_blk]

/-- THE RESULT ARRAY after the run. -/
theorem final (c : Dev nD) : (dats m 0 c).arrAt 10 cfg0.N = arr (aO m c) (aX m c) (aW m c) (aG m c) (aLg m c) (aLb m c) := by
  refine (dats m 0 c).arrAt_eq_of_covers 10 _ (by decide +kernel) fun t hf y => ?_
  have ht := tlt t
  have h0 : t.val ≠ 0 := flush_pos t hf
  obtain ⟨p, n, rfl⟩ : ∃ (p : Fin 256) (n : Fin 2048), y = ix2 p n := ⟨y 0, y 1, eq_ix2 y⟩
  blk_simp
  rw [after0_10]
  refine (block m c t h0 p n).trans ?_
  have e0 : ((cfg0.win 10).blk t).view.emb (ix2 p n) 0 = tileRow (t.val - 1) (by omega) p := Fin.ext (by blk_simp [at10 t, tileRow])
  have e1 : ((cfg0.win 10).blk t).view.emb (ix2 p n) 1 = n := Fin.ext (by blk_simp [at10 t])
  unfold arr
  rw [e0, e1, lg_blk, lb_blk]
  exact congrArg (OutTile.norm · _ _ n) (funext fun d => res_blk m c t (by omega) p d)

/-- The second result array at an index: the normalized row modulated by its group's scale and shift. -/
def arrU (o x : X) (w : S2048x2048.Idx → EReal) (g : G) (lg lb : S2048.Idx → EReal) (sc sh : G) : S18432x2048.Idx → EReal :=
  fun y => turned (arr o x w g lg lb y) (sc (ix3 (grp (y 0)) 0 (y 1))) (sh (ix3 (grp (y 0)) 0 (y 1)))

theorem flushU_pos : ∀ t : Fin cfg0.N, (cfg0.win 11).flush t = true → t.val ≠ 0 := by
  exact (by decide +kernel : ∀ t : Fin grid0.N, win0_11.flush t = true → t.val ≠ 0)

/-- THE SECOND RESULT ARRAY after the run. -/
theorem finalU (c : Dev nD) : (dats m 0 c).arrAt 11 cfg0.N
    = arrU (aO m c) (aX m c) (aW m c) (aG m c) (aLg m c) (aLb m c) (aSc m c) (aSh m c) := by
  refine (dats m 0 c).arrAt_eq_of_covers 11 _ (by decide +kernel) fun t hf y => ?_
  have ht := tlt t
  have h0 : t.val ≠ 0 := flushU_pos t hf
  obtain ⟨p, n, rfl⟩ : ∃ (p : Fin 256) (n : Fin 2048), y = ix2 p n := ⟨y 0, y 1, eq_ix2 y⟩
  blk_simp
  rw [after0_11]
  refine (blockU m c t h0 p n).trans ?_
  have e0 : ((cfg0.win 11).blk t).view.emb (ix2 p n) 0 = tileRow (t.val - 1) (by omega) p := Fin.ext (by blk_simp [at11 t, tileRow])
  have e1 : ((cfg0.win 11).blk t).view.emb (ix2 p n) 1 = n := Fin.ext (by blk_simp [at11 t])
  unfold arrU arr overU over
  rw [e0, e1, lg_blk, lb_blk, sc_blk m c t (by omega) p, sh_blk m c t (by omega) p]
  exact congrArg (fun z => turned (OutTile.norm z _ _ n) _ _) (funext fun d => res_blk m c t (by omega) p d)

end OutArr

end
-- ==== Proof.OutRef.lean ====
/- The output projection: the reference's result array is the kernel's. -/
module

public import proofs.«01_k».proof.Proof.OutArr
public import proofs.«01_k».proof.Proof.Gen.OutReferenceIdeal.Run

@[expose] public section

set_option maxRecDepth 16384

noncomputable section

namespace OutRef

open Idealize.ShloMosaic Idealize.ShloMosaic.TcCoe Cert.OutReferenceIdeal Cert.OutReferenceIdeal.Gen Cert.OutReferenceIdeal.Value Idealize.SL.Sem Proj
open OutTile OutArr

/-- The latent rows of the residual: the weighted stream plus the gated projection. -/
def zL (o : FVec Ideal S18432x2048 .bf16) (x : FVec Ideal S18432x2048 .f32) (w : FVec Ideal S2048x2048 .f32) (g : FVec Ideal S9x1x2048 .f32) : FVec Ideal S8x2048x2048 .f32 :=
  addf (mulf (broadcastInDim S8x2048x2048 ![] bcast_S_S8x2048x2048 (constant S_ .f32 0x3FD744FD#32))
      (extractStridedSlice S8x2048x2048 ![0, 0, 0] (shapeCast S8x2304x2048 x shapeCasts_S18432x2048_S8x2304x2048) slices_S8x2304x2048_S8x2048x2048_0_0_0))
    (mulf (broadcastInDim S8x2048x2048 ![0, 1, 2] bcast_S8x1x2048_S8x2048x2048_0_1_2 (extractStridedSlice S8x1x2048 ![0, 0, 0] g slices_S9x1x2048_S8x1x2048_0_0_0))
      (Host.dotGeneral dot_S8x2048x2048_S2048x2048_S8x2048x2048_2_0_01_1_n_n none (extractStridedSlice S8x2048x2048 ![0, 0, 0] (shapeCast S8x2304x2048 (extf .f32 o bitsLt_bf16_f32) shapeCasts_S18432x2048_S8x2304x2048) slices_S8x2304x2048_S8x2048x2048_0_0_0) w))

/-- A latent row's mean, the rows about their means, and the rows normalized with gain and offset. -/
def meanL (z : FVec Ideal S8x2048x2048 .f32) : FVec Ideal S8x2048x1 .f32 :=
  Host.divf (broadcastInDim S8x2048x1 ![0, 1] bcast_S8x2048_S8x2048x1_0_1 (Host.reduceAdd z (constant S_ .f32 0x00000000#32) reducesTo_S8x2048x2048_S8x2048_d2 h_S_))
    (broadcastInDim S8x2048x1 ![] bcast_S_S8x2048x1 (constant S_ .f32 0x45000000#32))
def aboutL (z : FVec Ideal S8x2048x2048 .f32) : FVec Ideal S8x2048x2048 .f32 :=
  subf z (broadcastInDim S8x2048x2048 ![0, 1, 2] bcast_S8x2048x1_S8x2048x2048_0_1_2 (meanL z))
def normL (z : FVec Ideal S8x2048x2048 .f32) (lg lb : FVec Ideal S2048 .f32) : FVec Ideal S8x2048x2048 .f32 :=
  addf (mulf (mulf (aboutL z) (broadcastInDim S8x2048x2048 ![0, 1, 2] bcast_S8x2048x1_S8x2048x2048_0_1_2 (Host.rsqrt (addf (meanL (mulf (aboutL z) (aboutL z)))
      (broadcastInDim S8x2048x1 ![] bcast_S_S8x2048x1 (constant S_ .f32 0x3727C5AC#32))))))
    (broadcastInDim S8x2048x2048 ![0, 1, 2] bcast_S1x1x2048_S8x2048x2048_0_1_2 (broadcastInDim S1x1x2048 ![2] bcast_S2048_S1x1x2048_2 lg)))
    (broadcastInDim S8x2048x2048 ![0, 1, 2] bcast_S1x1x2048_S8x2048x2048_0_1_2 (broadcastInDim S1x1x2048 ![2] bcast_S2048_S1x1x2048_2 lb))

theorem zL_at (o : FVec Ideal S18432x2048 .bf16) (x : FVec Ideal S18432x2048 .f32) (w : FVec Ideal S2048x2048 .f32) (g : FVec Ideal S9x1x2048 .f32)
    (b : Fin 8) (ρ : Fin 2048) (d : Fin 2048) : zL o x w g (ix3 b ρ d) = res o x w g (latRow b ρ) d := by
  unfold res mixed
  rw [grp_lat]
  pointwise [zL, latRow]
theorem meanL_at (z : FVec Ideal S8x2048x2048 .f32) (b : Fin 8) (ρ : Fin 2048) : meanL z (ix3 b ρ 0) = mean fun d => z (ix3 b ρ d) := by
  unfold OutTile.mean
  pointwise [meanL]
theorem aboutL_at (z : FVec Ideal S8x2048x2048 .f32) (b : Fin 8) (ρ : Fin 2048) (d : Fin 2048) :
    aboutL z (ix3 b ρ d) = z (ix3 b ρ d) - mean fun d => z (ix3 b ρ d) := by
  rw [← meanL_at]
  pointwise [aboutL]
theorem normL_at (z : FVec Ideal S8x2048x2048 .f32) (lg lb : FVec Ideal S2048 .f32) (b : Fin 8) (ρ : Fin 2048) (n : Fin 2048) :
    normL z lg lb (ix3 b ρ n) = OutTile.norm (fun d => z (ix3 b ρ d)) (lg (ix1 n)) (lb (ix1 n)) n := by
  have h : meanL (mulf (aboutL z) (aboutL z)) (ix3 b ρ 0)
      = mean fun d => (z (ix3 b ρ d) - mean fun d => z (ix3 b ρ d)) * (z (ix3 b ρ d) - mean fun d => z (ix3 b ρ d)) := by
    rw [meanL_at]
    refine congrArg OutTile.mean (funext fun d => ?_)
    rw [← aboutL_at]
    pointwise
  unfold OutTile.norm
  rw [← h, ← aboutL_at]
  pointwise [normL]

/-- The context rows of the residual: the weighted stream plus the gated projection. -/
def zC (o : FVec Ideal S18432x2048 .bf16) (x : FVec Ideal S18432x2048 .f32) (w : FVec Ideal S2048x2048 .f32) (g : FVec Ideal S9x1x2048 .f32) : FVec Ideal S8x256x2048 .f32 :=
  addf (mulf (broadcastInDim S8x256x2048 ![] bcast_S_S8x256x2048 (constant S_ .f32 0x3FD744FD#32))
      (extractStridedSlice S8x256x2048 ![0, 2048, 0] (shapeCast S8x2304x2048 x shapeCasts_S18432x2048_S8x2304x2048) slices_S8x2304x2048_S8x256x2048_0_2048_0))
    (mulf (broadcastInDim S8x256x2048 ![0, 1, 2] bcast_S1x1x2048_S8x256x2048_0_1_2 (broadcastInDim S1x1x2048 ![1, 2] bcast_S1x2048_S1x1x2048_1_2 (shapeCast S1x2048 (extractStridedSlice S1x1x2048 ![8, 0, 0] g slices_S9x1x2048_S1x1x2048_8_0_0) shapeCasts_S1x1x2048_S1x2048)))
      (Host.dotGeneral dot_S8x256x2048_S2048x2048_S8x256x2048_2_0_01_1_n_n none (extractStridedSlice S8x256x2048 ![0, 2048, 0] (shapeCast S8x2304x2048 (extf .f32 o bitsLt_bf16_f32) shapeCasts_S18432x2048_S8x2304x2048) slices_S8x2304x2048_S8x256x2048_0_2048_0) w))

/-- A context row's mean, the rows about their means, and the rows normalized with gain and offset. -/
def meanC (z : FVec Ideal S8x256x2048 .f32) : FVec Ideal S8x256x1 .f32 :=
  Host.divf (broadcastInDim S8x256x1 ![0, 1] bcast_S8x256_S8x256x1_0_1 (Host.reduceAdd z (constant S_ .f32 0x00000000#32) reducesTo_S8x256x2048_S8x256_d2 h_S_))
    (broadcastInDim S8x256x1 ![] bcast_S_S8x256x1 (constant S_ .f32 0x45000000#32))
def aboutC (z : FVec Ideal S8x256x2048 .f32) : FVec Ideal S8x256x2048 .f32 :=
  subf z (broadcastInDim S8x256x2048 ![0, 1, 2] bcast_S8x256x1_S8x256x2048_0_1_2 (meanC z))
def normC (z : FVec Ideal S8x256x2048 .f32) (lg lb : FVec Ideal S2048 .f32) : FVec Ideal S8x256x2048 .f32 :=
  addf (mulf (mulf (aboutC z) (broadcastInDim S8x256x2048 ![0, 1, 2] bcast_S8x256x1_S8x256x2048_0_1_2 (Host.rsqrt (addf (meanC (mulf (aboutC z) (aboutC z)))
      (broadcastInDim S8x256x1 ![] bcast_S_S8x256x1 (constant S_ .f32 0x3727C5AC#32))))))
    (broadcastInDim S8x256x2048 ![0, 1, 2] bcast_S1x1x2048_S8x256x2048_0_1_2 (broadcastInDim S1x1x2048 ![2] bcast_S2048_S1x1x2048_2 lg)))
    (broadcastInDim S8x256x2048 ![0, 1, 2] bcast_S1x1x2048_S8x256x2048_0_1_2 (broadcastInDim S1x1x2048 ![2] bcast_S2048_S1x1x2048_2 lb))

theorem zC_at (o : FVec Ideal S18432x2048 .bf16) (x : FVec Ideal S18432x2048 .f32) (w : FVec Ideal S2048x2048 .f32) (g : FVec Ideal S9x1x2048 .f32)
    (b : Fin 8) (ρ : Fin 256) (d : Fin 2048) : zC o x w g (ix3 b ρ d) = res o x w g (ctxRow b ρ) d := by
  unfold res mixed
  rw [grp_ctx]
  pointwise [zC, ctxRow]
theorem meanC_at (z : FVec Ideal S8x256x2048 .f32) (b : Fin 8) (ρ : Fin 256) : meanC z (ix3 b ρ 0) = mean fun d => z (ix3 b ρ d) := by
  unfold OutTile.mean
  pointwise [meanC]
theorem aboutC_at (z : FVec Ideal S8x256x2048 .f32) (b : Fin 8) (ρ : Fin 256) (d : Fin 2048) :
    aboutC z (ix3 b ρ d) = z (ix3 b ρ d) - mean fun d => z (ix3 b ρ d) := by
  rw [← meanC_at]
  pointwise [aboutC]
theorem normC_at (z : FVec Ideal S8x256x2048 .f32) (lg lb : FVec Ideal S2048 .f32) (b : Fin 8) (ρ : Fin 256) (n : Fin 2048) :
    normC z lg lb (ix3 b ρ n) = OutTile.norm (fun d => z (ix3 b ρ d)) (lg (ix1 n)) (lb (ix1 n)) n := by
  have h : meanC (mulf (aboutC z) (aboutC z)) (ix3 b ρ 0)
      = mean fun d => (z (ix3 b ρ d) - mean fun d => z (ix3 b ρ d)) * (z (ix3 b ρ d) - mean fun d => z (ix3 b ρ d)) := by
    rw [meanC_at]
    refine congrArg OutTile.mean (funext fun d => ?_)
    rw [← aboutC_at]
    pointwise
  unfold OutTile.norm
  rw [← h, ← aboutC_at]
  pointwise [normC]

/-- Latent rows and context rows, side by side, as the result's rows. -/
def whole (l : FVec Ideal S8x2048x2048 .f32) (x : FVec Ideal S8x256x2048 .f32) : FVec Ideal S18432x2048 .f32 :=
  shapeCast S18432x2048 (concatenate S8x2304x2048 1 [⟨S8x2048x2048, l⟩, ⟨S8x256x2048, x⟩] concatenates_S8x2048x2048_S8x256x2048_S8x2304x2048_d1) shapeCasts_S8x2304x2048_S18432x2048

theorem whole_lat (l : FVec Ideal S8x2048x2048 .f32) (x : FVec Ideal S8x256x2048 .f32) (b : Fin 8) (ρ : Fin 2048) (n : Fin 2048) :
    whole l x (ix2 (latRow b ρ) n) = l (ix3 b ρ n) := by
  pointwise [whole, latRow]
  have e : (b.val * 2304 + ρ.val) % 2304 = ρ.val := by omega
  rw [dif_pos (by omega)]
  exact congrArg l (congrArg (ix3 b · n) (Fin.ext e))
theorem whole_ctx (l : FVec Ideal S8x2048x2048 .f32) (x : FVec Ideal S8x256x2048 .f32) (b : Fin 8) (ρ : Fin 256) (n : Fin 2048) :
    whole l x (ix2 (ctxRow b ρ) n) = x (ix3 b ρ n) := by
  pointwise [whole, ctxRow]
  have e : (b.val * 2304 + (2048 + ρ.val)) % 2304 - 2048 = ρ.val := by omega
  rw [dif_neg (by omega)]
  exact congrArg x (congrArg (ix3 b · n) (Fin.ext e))

/-- The kernel's array is the reference's stages composed. -/
theorem arr_eq (o : FVec Ideal S18432x2048 .bf16) (x : FVec Ideal S18432x2048 .f32) (w : FVec Ideal S2048x2048 .f32) (g : FVec Ideal S9x1x2048 .f32)
    (lg lb : FVec Ideal S2048 .f32) : arr o x w g lg lb = whole (normL (zL o x w g) lg lb) (normC (zC o x w g) lg lb) := by
  funext y
  obtain ⟨r, n, rfl⟩ : ∃ (r : Fin 18432) (n : Fin 2048), y = ix2 r n := ⟨y 0, y 1, eq_ix2 y⟩
  rcases row_cases r with ⟨b, ρ, rfl⟩ | ⟨b, ρ, rfl⟩
  · rw [whole_lat, normL_at]
    exact congrArg (OutTile.norm · (lg (ix1 n)) (lb (ix1 n)) n) (funext fun d => (zL_at o x w g b ρ d).symm)
  · rw [whole_ctx, normC_at]
    exact congrArg (OutTile.norm · (lg (ix1 n)) (lb (ix1 n)) n) (funext fun d => (zC_at o x w g b ρ d).symm)

/-- Normalized latent and context rows modulated by their scales and shifts. -/
def uL (z : FVec Ideal S8x2048x2048 .f32) (sc sh : FVec Ideal S9x1x2048 .f32) : FVec Ideal S8x2048x2048 .f32 :=
  addf (mulf z (broadcastInDim S8x2048x2048 ![0, 1, 2] bcast_S8x1x2048_S8x2048x2048_0_1_2
      (addf (broadcastInDim S8x1x2048 ![] bcast_S_S8x1x2048 (constant S_ .f32 0x3F800000#32)) (extractStridedSlice S8x1x2048 ![0, 0, 0] sc slices_S9x1x2048_S8x1x2048_0_0_0))))
    (broadcastInDim S8x2048x2048 ![0, 1, 2] bcast_S8x1x2048_S8x2048x2048_0_1_2 (extractStridedSlice S8x1x2048 ![0, 0, 0] sh slices_S9x1x2048_S8x1x2048_0_0_0))
def uC (z : FVec Ideal S8x256x2048 .f32) (sc sh : FVec Ideal S9x1x2048 .f32) : FVec Ideal S8x256x2048 .f32 :=
  addf (mulf z (broadcastInDim S8x256x2048 ![0, 1, 2] bcast_S1x1x2048_S8x256x2048_0_1_2 (broadcastInDim S1x1x2048 ![1, 2] bcast_S1x2048_S1x1x2048_1_2
      (addf (broadcastInDim S1x2048 ![] bcast_S_S1x2048 (constant S_ .f32 0x3F800000#32))
        (shapeCast S1x2048 (extractStridedSlice S1x1x2048 ![8, 0, 0] sc slices_S9x1x2048_S1x1x2048_8_0_0) shapeCasts_S1x1x2048_S1x2048)))))
    (broadcastInDim S8x256x2048 ![0, 1, 2] bcast_S1x1x2048_S8x256x2048_0_1_2 (broadcastInDim S1x1x2048 ![1, 2] bcast_S1x2048_S1x1x2048_1_2
      (shapeCast S1x2048 (extractStridedSlice S1x1x2048 ![8, 0, 0] sh slices_S9x1x2048_S1x1x2048_8_0_0) shapeCasts_S1x1x2048_S1x2048)))

theorem uL_at (z : FVec Ideal S8x2048x2048 .f32) (sc sh : FVec Ideal S9x1x2048 .f32) (b : Fin 8) (ρ : Fin 2048) (n : Fin 2048) :
    uL z sc sh (ix3 b ρ n) = turned (z (ix3 b ρ n)) (sc (ix3 (grp (latRow b ρ)) 0 n)) (sh (ix3 (grp (latRow b ρ)) 0 n)) := by
  unfold turned
  rw [grp_lat]
  pointwise [uL]
theorem uC_at (z : FVec Ideal S8x256x2048 .f32) (sc sh : FVec Ideal S9x1x2048 .f32) (b : Fin 8) (ρ : Fin 256) (n : Fin 2048) :
    uC z sc sh (ix3 b ρ n) = turned (z (ix3 b ρ n)) (sc (ix3 (grp (ctxRow b ρ)) 0 n)) (sh (ix3 (grp (ctxRow b ρ)) 0 n)) := by
  unfold turned
  rw [grp_ctx]
  pointwise [uC]

/-- The kernel's second array is the reference's stages composed. -/
theorem arrU_eq (o : FVec Ideal S18432x2048 .bf16) (x : FVec Ideal S18432x2048 .f32) (w : FVec Ideal S2048x2048 .f32) (g : FVec Ideal S9x1x2048 .f32)
    (lg lb : FVec Ideal S2048 .f32) (sc sh : FVec Ideal S9x1x2048 .f32) :
    arrU o x w g lg lb sc sh = truncf .bf16 (whole (uL (normL (zL o x w g) lg lb) sc sh) (uC (normC (zC o x w g) lg lb) sc sh)) bitsLt_bf16_f32 := by
  funext y
  obtain ⟨r, n, rfl⟩ : ∃ (r : Fin 18432) (n : Fin 2048), y = ix2 r n := ⟨y 0, y 1, eq_ix2 y⟩
  have hc : truncf .bf16 (whole (uL (normL (zL o x w g) lg lb) sc sh) (uC (normC (zC o x w g) lg lb) sc sh)) bitsLt_bf16_f32 (ix2 r n)
      = whole (uL (normL (zL o x w g) lg lb) sc sh) (uC (normC (zC o x w g) lg lb) sc sh) (ix2 r n) := by
    pointwise
  rw [hc]
  unfold arrU
  rw [arr_eq]
  rcases row_cases r with ⟨b, ρ, rfl⟩ | ⟨b, ρ, rfl⟩
  · rw [whole_lat, whole_lat, uL_at]
    rfl
  · rw [whole_ctx, whole_ctx, uC_at]
    rfl

/-- The reference's two results are its stages composed. -/
theorem result_eq (m : (ℓ : Loc nD τ sig) → Buf (Elt Ideal) ℓ) (c : Dev nD) :
    res_out0 (F := Ideal) m c
      = whole (normL (zL (m ((c.tc : Thread nD τ).loc main_arg0)) (m ((c.tc : Thread nD τ).loc main_arg2)) (m ((c.tc : Thread nD τ).loc main_arg1)) (m ((c.tc : Thread nD τ).loc main_arg3))) (m ((c.tc : Thread nD τ).loc main_arg4)) (m ((c.tc : Thread nD τ).loc main_arg5)))
        (normC (zC (m ((c.tc : Thread nD τ).loc main_arg0)) (m ((c.tc : Thread nD τ).loc main_arg2)) (m ((c.tc : Thread nD τ).loc main_arg1)) (m ((c.tc : Thread nD τ).loc main_arg3))) (m ((c.tc : Thread nD τ).loc main_arg4)) (m ((c.tc : Thread nD τ).loc main_arg5))) := rfl
theorem resultU_eq (m : (ℓ : Loc nD τ sig) → Buf (Elt Ideal) ℓ) (c : Dev nD) :
    res_out1 (F := Ideal) m c
      = truncf .bf16 (whole (uL (normL (zL (m ((c.tc : Thread nD τ).loc main_arg0)) (m ((c.tc : Thread nD τ).loc main_arg2)) (m ((c.tc : Thread nD τ).loc main_arg1)) (m ((c.tc : Thread nD τ).loc main_arg3))) (m ((c.tc : Thread nD τ).loc main_arg4)) (m ((c.tc : Thread nD τ).loc main_arg5))) (m ((c.tc : Thread nD τ).loc main_arg6)) (m ((c.tc : Thread nD τ).loc main_arg7)))
        (uC (normC (zC (m ((c.tc : Thread nD τ).loc main_arg0)) (m ((c.tc : Thread nD τ).loc main_arg2)) (m ((c.tc : Thread nD τ).loc main_arg1)) (m ((c.tc : Thread nD τ).loc main_arg3))) (m ((c.tc : Thread nD τ).loc main_arg4)) (m ((c.tc : Thread nD τ).loc main_arg5))) (m ((c.tc : Thread nD τ).loc main_arg6)) (m ((c.tc : Thread nD τ).loc main_arg7)))) bitsLt_bf16_f32 := rfl

end OutRef

end
-- ==== Proof.OutClaims.lean ====
/- The claims about the output projection, each closed from the modules before it. -/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.OutRef
public import Idealize.ShloMosaic.Adequacy
public import Idealize.ShloMosaic.Init
public import Idealize.ShloMosaic.Lib.Quiescent

@[expose] public section

noncomputable section

namespace OutClaims

open Idealize.ShloMosaic Idealize.SL.Sem

/-- The kernel, at machine floats and ideally, and the reference run to their ends and leave their arguments alone. -/
theorem frameKernel : Cert.quiescent_Out (hOut := Cert.Out.Gen.facts) := fun m ρ _ => Cert.Out.Gen.frame m ρ
theorem frameIdeal : Cert.quiescent_OutIdeal (hOutIdeal := Cert.OutIdeal.Gen.facts) := fun m ρ _ => Cert.OutIdeal.Gen.frame m ρ
theorem frameReference : Cert.quiescent_OutReferenceIdeal (hOutReferenceIdeal := Cert.OutReferenceIdeal.Gen.facts) := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

/-- The idealized kernel rewrites nothing. -/
theorem preserves : Cert.preserves_Out_OutIdeal := trivial

/-- The kernel and the reference leave the same two arrays. -/
theorem algebraic : Cert.algebraic_OutIdeal_OutReferenceIdeal (hOutIdeal := Cert.OutIdeal.Gen.facts)
    (hOutReferenceIdeal := Cert.OutReferenceIdeal.Gen.facts) := by
  intro m ρ m' ρ' _ hagree
  refine ⟨fun c => OutArr.arr (OutArr.aO m c) (OutArr.aX m c) (OutArr.aW m c) (OutArr.aG m c) (OutArr.aLg m c) (OutArr.aLb m c),
    fun c => OutArr.arrU (OutArr.aO m c) (OutArr.aX m c) (OutArr.aW m c) (OutArr.aG m c) (OutArr.aLg m c) (OutArr.aLb m c) (OutArr.aSc m c) (OutArr.aSh m c), ?_, ?_⟩
  · exact (θ_run _ _ _).mono (fun _ h c => ⟨(h c).1.trans (OutArr.final m c), (h c).2.1.trans (OutArr.finalU m c), (h c).2.2.2.2⟩)
      (Cert.OutIdeal.Value.run_blocks (F := Ideal) m ρ)
  · refine (θ_run _ _ _).mono (fun _ h c => ⟨(h c).1.trans ?_, (h c).2.1.trans ?_, (h c).2.2⟩) (Cert.OutReferenceIdeal.Value.run (F := Ideal) m' ρ')
    · refine (OutRef.result_eq m' c).trans ?_
      rw [(hagree c).1, (hagree c).2.1, (hagree c).2.2.1, (hagree c).2.2.2.1, (hagree c).2.2.2.2.1, (hagree c).2.2.2.2.2.1]
      exact (OutRef.arr_eq _ _ _ _ _ _).symm
    · refine (OutRef.resultU_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact (OutRef.arrU_eq _ _ _ _ _ _ _ _).symm

end OutClaims

end
-- ==== Proof.ModArr.lean ====
/- The condition products' result array, read back at one row and column from the arguments' own elements. -/
module

public import proofs.«01_k».proof.Proof.Proj
public import proofs.«01_k».proof.Proof.Gen.ModIdeal.Value
public import Idealize.ShloMosaic.Lib.Pipeline.ValueKit
public import Idealize.ShloMosaic.Lib.Pipeline.ValueKit.Held
public import Idealize.ShloMosaic.Lib.Pipeline.Covers

@[expose] public section

set_option maxRecDepth 16384

noncomputable section

namespace ModArr

open Idealize.ShloMosaic Idealize.ShloMosaic.TcCoe Cert.ModIdeal Cert.ModIdeal.Gen Idealize.SL.Sem
open Idealize.ShloMosaic.Tactic Proj

variable (m : (ℓ : Loc nD τ sig) → Buf (Elt Ideal) ℓ)

/-- A condition times its own logistic function. -/
def act (a : EReal) : EReal :=
  a * Ideal.div (Ideal.ofBits .f32 0x3F800000#32) (Ideal.ofBits .f32 0x3F800000#32 + Ideal.exp (-a))

/-- The staged tile written out at a row and a column. -/
theorem pay_at (x : Vec Ideal S16x2048 .f32) (w : Vec Ideal S2048x1024 .f32) (b : Vec Ideal S1x1024 .f32) (p : Fin 16) (n : Fin 1024) :
    k0_pay1 x w b (ix2 p n) = (∑ d, act (x (ix2 p d)) * w (ix2 d n)) + b (ix2 0 n) := by
  pointwise [k0_pay1, act]
  simp only [zero_sub]

theorem tlt (t : Fin cfg0.N) : t.val < 12 := lt_of_lt_of_eq t.isLt (N_0 : cfg0.N = 12)

/-- The output block at every point. -/
theorem block (c : Dev nD) (t : Fin cfg0.N) : out0_3 (iblk m c 0 t) (iblk m c 1 t) (iblk m c 2 t) = k0_pay1 (iblk m c 0 t) (iblk m c 1 t) (iblk m c 2 t) := by
  frame_out

/-- Where each window stands at grid point `t`: the conditions whole, the rest at column tile `t`. -/
theorem at0 : ∀ t : Fin cfg0.N, win0_0.index t = ![0, 0] := by
  exact (by decide +kernel : ∀ t : Fin grid0.N, win0_0.index t = ![0, 0])
theorem at1 : ∀ t : Fin cfg0.N, win0_1.index t = ![0, t.val] := by
  exact (by decide +kernel : ∀ t : Fin grid0.N, win0_1.index t = ![0, t.val])
theorem at2 : ∀ t : Fin cfg0.N, win0_2.index t = ![0, t.val] := by
  exact (by decide +kernel : ∀ t : Fin grid0.N, win0_2.index t = ![0, t.val])
theorem at3 : ∀ t : Fin cfg0.N, win0_3.index t = ![0, t.val] := by
  exact (by decide +kernel : ∀ t : Fin grid0.N, win0_3.index t = ![0, t.val])

/-- The arguments of the run from memory `m`. -/
abbrev aX (c : Dev nD) : S16x2048.Idx → EReal := m ((c : Thread nD τ).loc main_arg0)
abbrev aW (c : Dev nD) : S2048x12288.Idx → EReal := m ((c : Thread nD τ).loc main_arg1)
abbrev aB (c : Dev nD) : S12288.Idx → EReal := m ((c : Thread nD τ).loc main_arg2)

/-- The staged conditions, weights and biases. -/
theorem x_blk (c : Dev nD) (t : Fin cfg0.N) (p : Fin 16) (d : Fin 2048) : iblk m c 0 t (ix2 p d) = aX m c (ix2 p d) := by
  blk_ext [iblk, V_main_arg0, at0 t]
theorem w_blk (c : Dev nD) (t : Fin cfg0.N) (d : Fin 2048) (n : Fin 1024) (q : Fin 12288) (hq : q.val = t.val * 1024 + n.val) :
    iblk m c 1 t (ix2 d n) = aW m c (ix2 d q) := by
  blk_ext [iblk, V_main_arg1, at1 t, hq]
theorem b_blk (c : Dev nD) (t : Fin cfg0.N) (n : Fin 1024) (q : Fin 12288) (hq : q.val = t.val * 1024 + n.val) :
    iblk m c 2 t (ix2 0 n) = aB m c (ix1 q) := by
  unfold iblk
  entry_read
  have hy : (win0_2.blk t).view.emb (ix2 0 n) = ix2 0 q := by blk_ext [at2 t, hq]
  show shapeCast S1x12288 (aB m c) shapeCasts_S12288_S1x12288 ((win0_2.blk t).view.emb (ix2 0 n)) = _
  rw [hy]
  pointwise

/-- The result array at an index. -/
def arr (x : S16x2048.Idx → EReal) (w : S2048x12288.Idx → EReal) (b : S12288.Idx → EReal) : S16x12288.Idx → EReal :=
  fun y => (∑ d, act (x (ix2 (y 0) d)) * w (ix2 d (y 1))) + b (ix1 (y 1))

/-- THE RESULT ARRAY after the run. -/
theorem final (c : Dev nD) : (dats m 0 c).arrAt 3 cfg0.N = arr (aX m c) (aW m c) (aB m c) := by
  refine (dats m 0 c).arrAt_eq_of_covers 3 _ (by decide +kernel) fun t hf y => ?_
  have ht := tlt t
  obtain ⟨p, n, rfl⟩ : ∃ (p : Fin 16) (n : Fin 1024), y = ix2 p n := ⟨y 0, y 1, eq_ix2 y⟩
  blk_simp
  rw [after0_3, block]
  refine (pay_at _ _ _ p n).trans ?_
  have e0 : ((cfg0.win 3).blk t).view.emb (ix2 p n) 0 = p := Fin.ext (by blk_simp [at3 t])
  have e1 : (((cfg0.win 3).blk t).view.emb (ix2 p n) 1).val = t.val * 1024 + n.val := by blk_simp [at3 t]
  unfold arr
  rw [e0, b_blk m c t n _ e1]
  simp only [x_blk, w_blk m c t _ n _ e1]

end ModArr

end
-- ==== Proof.ModRef.lean ====
/- The condition products: the reference's result array is the kernel's. -/
module

public import proofs.«01_k».proof.Proof.ModArr
public import proofs.«01_k».proof.Proof.Gen.ModReferenceIdeal.Run

@[expose] public section

set_option maxRecDepth 16384

noncomputable section

namespace ModRef

open Idealize.ShloMosaic Idealize.ShloMosaic.TcCoe Cert.ModReferenceIdeal Cert.ModReferenceIdeal.Gen Cert.ModReferenceIdeal.Value Idealize.SL.Sem Proj ModArr

/-- The reference's result: the activated conditions against the weights, with the biases. -/
def whole (x : FVec Ideal S16x2048 .f32) (w : FVec Ideal S2048x12288 .f32) (b : FVec Ideal S12288 .f32) : FVec Ideal S16x12288 .f32 :=
  addf (Host.dotGeneral dot_S16x2048_S2048x12288_S16x12288_1_0_0_1_n_n none
      (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))) w)
    (broadcastInDim S16x12288 ![0, 1] bcast_S1x12288_S16x12288_0_1 (broadcastInDim S1x12288 ![1] bcast_S12288_S1x12288_1 b))

/-- The kernel's array is that result. -/
theorem arr_eq (x : FVec Ideal S16x2048 .f32) (w : FVec Ideal S2048x12288 .f32) (b : FVec Ideal S12288 .f32) : ModArr.arr x w b = whole x w b := by
  funext y
  obtain ⟨r, n, rfl⟩ : ∃ (r : Fin 16) (n : Fin 12288), y = ix2 r n := ⟨y 0, y 1, eq_ix2 y⟩
  have h : whole x w b (ix2 r n) = (∑ d : Fin 2048, act (x (ix2 r d)) * w (ix2 d n)) + b (ix1 n) := by
    pointwise [whole, act]
  exact h.symm

end ModRef

end
-- ==== Proof.ModClaims.lean ====
/- The claims about the condition products, each closed from the modules before it. -/
module

public import proofs.«01_k».proof.Defs
public import proofs.«01_k».proof.Proof.Gen.Mod.Frame
public import proofs.«01_k».proof.Proof.Gen.ModIdeal.Frame
public import proofs.«01_k».proof.Proof.Gen.ModIdeal.Value
public import proofs.«01_k».proof.Proof.Gen.ModReferenceIdeal.Run
public import proofs.«01_k».proof.Proof.ModRef
public import Idealize.ShloMosaic.Adequacy
public import Idealize.ShloMosaic.Init
public import Idealize.ShloMosaic.Lib.Quiescent

@[expose] public section

noncomputable section

namespace ModClaims

open Idealize.ShloMosaic Idealize.SL.Sem

/-- The kernel, at machine floats and ideally, and the reference run to their ends and leave their arguments alone. -/
theorem frameKernel : Cert.quiescent_Mod (hMod := Cert.Mod.Gen.facts) := fun m ρ _ => Cert.Mod.Gen.frame m ρ
theorem frameIdeal : Cert.quiescent_ModIdeal (hModIdeal := Cert.ModIdeal.Gen.facts) := fun m ρ _ => Cert.ModIdeal.Gen.frame m ρ
theorem frameReference : Cert.quiescent_ModReferenceIdeal (hModReferenceIdeal := Cert.ModReferenceIdeal.Gen.facts) := fun m ρ _ =>
  (θ_run Cert.ModReferenceIdeal.defs _ _).mono (fun r h => ⟨fun c => (h c).2, Idealize.ShloMosaic.sem_eq_zero_of_no_sems (by decide) r.2⟩)
    (Cert.ModReferenceIdeal.Value.run (F := Ideal) m ρ)

/-- The idealized kernel rewrites nothing. -/
theorem preserves : Cert.preserves_Mod_ModIdeal := trivial

/-- The kernel and the reference leave the same array. -/
theorem algebraic : Cert.algebraic_ModIdeal_ModReferenceIdeal (hModIdeal := Cert.ModIdeal.Gen.facts)
    (hModReferenceIdeal := Cert.ModReferenceIdeal.Gen.facts) := by
  intro m ρ m' ρ' _ hagree
  refine ⟨fun c => ModArr.arr (ModArr.aX m c) (ModArr.aW m c) (ModArr.aB m c), ?_, ?_⟩
  · exact (θ_run _ _ _).mono (fun _ h c => ⟨(h c).1.trans (ModArr.final m c), (h c).2⟩) (Cert.ModIdeal.Value.run_blocks (F := Ideal) m ρ)
  · refine (θ_run _ _ _).mono (fun _ h c => ⟨(h c).1.trans ?_, (h c).2⟩) (Cert.ModReferenceIdeal.Value.run (F := Ideal) m' ρ')
    rw [(hagree c).1, (hagree c).2.1, (hagree c).2.2]
    exact (ModRef.arr_eq _ _ _).symm

end ModClaims

end
-- ==== Proof.CombArr.lean ====
/- The experts' gated sums, added to the stream and normalized: the tile, and the result array read back at one row
   and column from the arguments' own elements. -/
module

public import proofs.«01_k».proof.Proof.OutTile
public import proofs.«01_k».proof.Proof.Gen.CombIdeal.Value

@[expose] public section

set_option maxRecDepth 16384

noncomputable section

namespace CombArr

open Idealize.ShloMosaic Idealize.ShloMosaic.TcCoe Cert.CombIdeal Cert.CombIdeal.Gen Idealize.SL.Sem
open Idealize.ShloMosaic.Tactic Proj

/-- Half of a tile's columns: the first expert's rows times the first gate plus the second's times the second. -/
def hT (a b : FVec Ideal S256x1024 .f32) (rt : Vec Ideal S256x128 .f32) : FVec Ideal S256x1024 .f32 :=
  addf (mulf a (broadcastTo S256x1024 (extractStridedSlice S256x1 ![0, 2] rt slices_S256x128_o0_2_S256x1) broadcasts_S256x1_S256x1024))
    (mulf b (broadcastTo S256x1024 (extractStridedSlice S256x1 ![0, 3] rt slices_S256x128_o0_3_S256x1) broadcasts_S256x1_S256x1024))

/-- The tile's first and second 1024 columns, widened. -/
def loT (a : Vec Ideal S256x2048 .bf16) : FVec Ideal S256x1024 .f32 :=
  extractStridedSlice S256x1024 ![0, 0] (extf .f32 a bitsLt_bf16_f32 : FVec Ideal S256x2048 .f32) slices_S256x2048_o0_0_S256x1024
def hiT (a : Vec Ideal S256x2048 .bf16) : FVec Ideal S256x1024 .f32 :=
  extractStridedSlice S256x1024 ![0, 1024] (extf .f32 a bitsLt_bf16_f32 : FVec Ideal S256x2048 .f32) slices_S256x2048_o0_1024_S256x1024

/-- The two halves side by side. -/
def fT (l h : FVec Ideal S256x1024 .f32) : FVec Ideal S256x2048 .f32 :=
  concatenate S256x2048 1 [⟨S256x1024, l⟩, ⟨S256x1024, h⟩] concatenates_S256x1024_S256x1024_S256x2048_d1

/-- The residual of the stream's rows with those sums, gated. -/
def zT (x : Vec Ideal S256x2048 .f32) (f : FVec Ideal S256x2048 .f32) (g : Vec Ideal S1x1x2048 .f32) : FVec Ideal S256x2048 .f32 :=
  addf (mulf (broadcast S256x2048 (Scalar.ofBits (F := Ideal) .f32 0x3FD744FD#32)) x)
    (mulf (broadcastTo S256x2048 (shapeCast S1x2048 g shapeCasts_S1x1x2048_S1x2048) broadcasts_S1x2048_S256x2048) f)

/-- A row's mean. -/
def meanT (z : FVec Ideal S256x2048 .f32) : FVec Ideal S256x1 .f32 :=
  divf (shapeCast S256x1 (multiReduction .add [1] S256 z 0x00000000#32 reduces_S256x2048_S256 (.inl rfl) rfl) shapeCasts_S256_S256x1)
    (broadcast S256x1 (Scalar.ofBits (F := Ideal) .f32 0x45000000#32))

/-- Rows about their means. -/
def cT (z : FVec Ideal S256x2048 .f32) : FVec Ideal S256x2048 .f32 :=
  subf z (broadcastTo S256x2048 (meanT z) broadcasts_S256x1_S256x2048)

/-- Rows normalized, with gain and offset. -/
def nT (z : FVec Ideal S256x2048 .f32) (lg lb : Vec Ideal S1x2048 .f32) : FVec Ideal S256x2048 .f32 :=
  addf (mulf (mulf (cT z) (broadcastTo S256x2048 (rsqrt (addf (meanT (mulf (cT z) (cT z)))
      (broadcast S256x1 (Scalar.ofBits (F := Ideal) .f32 0x3727C5AC#32)))) broadcasts_S256x1_S256x2048))
    (broadcastTo S256x2048 (shapeCast S1x2048 lg shapeCasts_S1x2048_S1x2048) broadcasts_S1x2048_S256x2048))
    (broadcastTo S256x2048 (shapeCast S1x2048 lb shapeCasts_S1x2048_S1x2048) broadcasts_S1x2048_S256x2048)

/-- The tile's residual from the staged blocks. -/
def resT (x : Vec Ideal S256x2048 .f32) (a b : Vec Ideal S256x2048 .bf16) (rt : Vec Ideal S256x128 .f32) (g : Vec Ideal S1x1x2048 .f32) : FVec Ideal S256x2048 .f32 :=
  zT x (fT (hT (loT a) (loT b) rt) (hT (hiT a) (hiT b) rt)) g

theorem hT_at (a b : FVec Ideal S256x1024 .f32) (rt : Vec Ideal S256x128 .f32) (p : Fin 256) (n : Fin 1024) :
    hT a b rt (ix2 p n) = a (ix2 p n) * rt (ix2 p 2) + b (ix2 p n) * rt (ix2 p 3) := by
  pointwise [hT]
theorem loT_at (a : Vec Ideal S256x2048 .bf16) (p : Fin 256) (n : Fin 1024) : loT a (ix2 p n) = a (ix2 p ⟨n.val, by omega⟩) := by
  pointwise [loT]
theorem hiT_at (a : Vec Ideal S256x2048 .bf16) (p : Fin 256) (n : Fin 1024) : hiT a (ix2 p n) = a (ix2 p ⟨1024 + n.val, by omega⟩) := by
  pointwise [hiT]
theorem fT_lo (l h : FVec Ideal S256x1024 .f32) (p : Fin 256) (n : Fin 2048) (hn : n.val < 1024) : fT l h (ix2 p n) = l (ix2 p ⟨n.val, hn⟩) := by
  pointwise [fT]
  rw [dif_pos hn]
theorem fT_hi (l h : FVec Ideal S256x1024 .f32) (p : Fin 256) (n : Fin 2048) (hn : ¬n.val < 1024) : fT l h (ix2 p n) = h (ix2 p ⟨n.val - 1024, by omega⟩) := by
  pointwise [fT]
  rw [dif_neg hn]

/-- The gated sum at a row and a column. -/
theorem sum_at (a b : Vec Ideal S256x2048 .bf16) (rt : Vec Ideal S256x128 .f32) (p : Fin 256) (n : Fin 2048) :
    fT (hT (loT a) (loT b) rt) (hT (hiT a) (hiT b) rt) (ix2 p n) = (a (ix2 p n) : EReal) * rt (ix2 p 2) + (b (ix2 p n) : EReal) * rt (ix2 p 3) := by
  by_cases hn : n.val < 1024
  · rw [fT_lo _ _ p n hn, hT_at, loT_at, loT_at]
  · have e : (⟨1024 + (n.val - 1024), by omega⟩ : Fin 2048) = n := Fin.ext (by show 1024 + (n.val - 1024) = n.val; omega)
    rw [fT_hi _ _ p n hn, hT_at, hiT_at, hiT_at, e]

theorem zT_at (x : Vec Ideal S256x2048 .f32) (f : FVec Ideal S256x2048 .f32) (g : Vec Ideal S1x1x2048 .f32) (p : Fin 256) (n : Fin 2048) :
    zT x f g (ix2 p n) = OutTile.kA * x (ix2 p n) + g (ix3 0 0 n) * f (ix2 p n) := by
  pointwise [zT]
theorem resT_at (x : Vec Ideal S256x2048 .f32) (a b : Vec Ideal S256x2048 .bf16) (rt : Vec Ideal S256x128 .f32) (g : Vec Ideal S1x1x2048 .f32)
    (p : Fin 256) (n : Fin 2048) : resT x a b rt g (ix2 p n)
      = OutTile.kA * x (ix2 p n) + g (ix3 0 0 n) * ((a (ix2 p n) : EReal) * rt (ix2 p 2) + (b (ix2 p n) : EReal) * rt (ix2 p 3)) := by
  unfold resT
  rw [zT_at, sum_at]
theorem meanT_at (z : FVec Ideal S256x2048 .f32) (p : Fin 256) : meanT z (ix2 p 0) = OutTile.mean fun d => z (ix2 p d) := by
  unfold OutTile.mean
  pointwise [meanT]
theorem cT_at (z : FVec Ideal S256x2048 .f32) (p : Fin 256) (n : Fin 2048) : cT z (ix2 p n) = z (ix2 p n) - OutTile.mean fun d => z (ix2 p d) := by
  rw [← meanT_at]
  pointwise [cT]

/-- A tile's rows normalized, at a row and a column. -/
theorem nT_at (z : FVec Ideal S256x2048 .f32) (lg lb : Vec Ideal S1x2048 .f32) (p : Fin 256) (n : Fin 2048) :
    nT z lg lb (ix2 p n) = OutTile.norm (fun d => z (ix2 p d)) (lg (ix2 0 n)) (lb (ix2 0 n)) n := by
  have h : meanT (mulf (cT z) (cT z)) (ix2 p 0)
      = OutTile.mean fun d => (z (ix2 p d) - OutTile.mean fun d => z (ix2 p d)) * (z (ix2 p d) - OutTile.mean fun d => z (ix2 p d)) := by
    rw [meanT_at]
    refine congrArg OutTile.mean (funext fun d => ?_)
    rw [← cT_at]
    pointwise
  unfold OutTile.norm
  rw [← h, ← cT_at]
  pointwise [nT]

variable (m : (ℓ : Loc nD τ sig) → Buf (Elt Ideal) ℓ)

theorem tlt (t : Fin cfg0.N) : t.val < 72 := lt_of_lt_of_eq t.isLt (N_0 : cfg0.N = 72)

/-- The blocks staged at a grid point: stream rows, the two experts' rows, routing rows, gates, gain and offset. -/
abbrev b0 (c : Dev nD) (t : Fin cfg0.N) : Vec Ideal S256x2048 .f32 := iblk m c 0 t
abbrev b1 (c : Dev nD) (t : Fin cfg0.N) : Vec Ideal S256x2048 .bf16 := iblk m c 1 t
abbrev b2 (c : Dev nD) (t : Fin cfg0.N) : Vec Ideal S256x2048 .bf16 := iblk m c 2 t
abbrev b3 (c : Dev nD) (t : Fin cfg0.N) : Vec Ideal S256x128 .f32 := iblk m c 3 t
abbrev b4 (c : Dev nD) (t : Fin cfg0.N) : Vec Ideal S1x1x2048 .f32 := iblk m c 4 t
abbrev b5 (c : Dev nD) (t : Fin cfg0.N) : Vec Ideal S1x2048 .f32 := iblk m c 5 t
abbrev b6 (c : Dev nD) (t : Fin cfg0.N) : Vec Ideal S1x2048 .f32 := iblk m c 6 t

/-- What the body stores is the normalized residual. -/
theorem pay_eq (x : Vec Ideal S256x2048 .f32) (a b : Vec Ideal S256x2048 .bf16) (rt : Vec Ideal S256x128 .f32) (g : Vec Ideal S1x1x2048 .f32)
    (lg lb : Vec Ideal S1x2048 .f32) :
    k0_pay1 (k0_pay2 lg) (k0_pay3 lb) (k0_pay4 rt a b x g) (k0_pay5 rt a b x g) = nT (resT x a b rt g) lg lb := rfl

/-- The output block at every point. -/
theorem block (c : Dev nD) (t : Fin cfg0.N) :
    out0_7 (iblk m c 0 t) (iblk m c 1 t) (iblk m c 2 t) (iblk m c 3 t) (iblk m c 4 t) (iblk m c 5 t) (iblk m c 6 t)
      = k0_pay1 (k0_pay2 (b5 m c t)) (k0_pay3 (b6 m c t)) (k0_pay4 (b3 m c t) (b1 m c t) (b2 m c t) (b0 m c t) (b4 m c t))
          (k0_pay5 (b3 m c t) (b1 m c t) (b2 m c t) (b0 m c t) (b4 m c t)) := by
  frame_out

/-- Where each window stands at grid point `t`: rows at row tile `t`, gates at the tile's own group, gain and offset whole. -/
theorem at0 : ∀ t : Fin cfg0.N, win0_0.index t = ![t.val, 0] := by
  exact (by decide +kernel : ∀ t : Fin grid0.N, win0_0.index t = ![t.val, 0])
theorem at1 : ∀ t : Fin cfg0.N, win0_1.index t = ![t.val, 0] := by
  exact (by decide +kernel : ∀ t : Fin grid0.N, win0_1.index t = ![t.val, 0])
theorem at2 : ∀ t : Fin cfg0.N, win0_2.index t = ![t.val, 0] := by
  exact (by decide +kernel : ∀ t : Fin grid0.N, win0_2.index t = ![t.val, 0])
theorem at3 : ∀ t : Fin cfg0.N, win0_3.index t = ![t.val, 0] := by
  exact (by decide +kernel : ∀ t : Fin grid0.N, win0_3.index t = ![t.val, 0])
theorem at4 : ∀ t : Fin cfg0.N, win0_4.index t = ![if t.val % 9 = 8 then 8 else t.val / 9, 0, 0] := by
  exact (by decide +kernel : ∀ t : Fin grid0.N, win0_4.index t = ![if t.val % 9 = 8 then 8 else t.val / 9, 0, 0])
theorem at5 : ∀ t : Fin cfg0.N, win0_5.index t = ![0, 0] := by
  exact (by decide +kernel : ∀ t : Fin grid0.N, win0_5.index t = ![0, 0])
theorem at6 : ∀ t : Fin cfg0.N, win0_6.index t = ![0, 0] := by
  exact (by decide +kernel : ∀ t : Fin grid0.N, win0_6.index t = ![0, 0])
theorem at7 : ∀ t : Fin cfg0.N, win0_7.index t = ![t.val, 0] := by
  exact (by decide +kernel : ∀ t : Fin grid0.N, win0_7.index t = ![t.val, 0])

/-- The arguments of the run from memory `m`. -/
abbrev aX (c : Dev nD) : X := m ((c : Thread nD τ).loc main_arg0)
abbrev aA (c : Dev nD) : X := m ((c : Thread nD τ).loc main_arg1)
abbrev aB (c : Dev nD) : X := m ((c : Thread nD τ).loc main_arg2)
abbrev aR (c : Dev nD) : S18432x128.Idx → EReal := m ((c : Thread nD τ).loc main_arg3)
abbrev aG (c : Dev nD) : G := m ((c : Thread nD τ).loc main_arg4)
abbrev aLg (c : Dev nD) : S2048.Idx → EReal := m ((c : Thread nD τ).loc main_arg5)
abbrev aLb (c : Dev nD) : S2048.Idx → EReal := m ((c : Thread nD τ).loc main_arg6)

/-- The staged blocks at an index. -/
theorem x_blk (c : Dev nD) (t : Fin cfg0.N) (ht : t.val < 72) (p : Fin 256) (d : Fin 2048) :
    b0 m c t (ix2 p d) = aX m c (ix2 (tileRow t.val ht p) d) := by
  blk_ext [b0, iblk, V_main_arg0, at0 t, tileRow]
theorem a_blk (c : Dev nD) (t : Fin cfg0.N) (ht : t.val < 72) (p : Fin 256) (d : Fin 2048) :
    b1 m c t (ix2 p d) = aA m c (ix2 (tileRow t.val ht p) d) := by
  blk_ext [b1, iblk, V_main_arg1, at1 t, tileRow]
theorem b_blk (c : Dev nD) (t : Fin cfg0.N) (ht : t.val < 72) (p : Fin 256) (d : Fin 2048) :
    b2 m c t (ix2 p d) = aB m c (ix2 (tileRow t.val ht p) d) := by
  blk_ext [b2, iblk, V_main_arg2, at2 t, tileRow]
theorem r_blk (c : Dev nD) (t : Fin cfg0.N) (ht : t.val < 72) (p : Fin 256) (d : Fin 128) :
    b3 m c t (ix2 p d) = aR m c (ix2 (tileRow t.val ht p) d) := by
  blk_ext [b3, iblk, V_main_arg3, at3 t, tileRow]
theorem g_blk (c : Dev nD) (t : Fin cfg0.N) (ht : t.val < 72) (p : Fin 256) (d : Fin 2048) :
    b4 m c t (ix3 0 0 d) = aG m c (ix3 (grp (tileRow t.val ht p)) 0 d) := by
  blk_ext [b4, iblk, V_main_arg4, at4 t, grp_tile]
theorem lg_blk (c : Dev nD) (t : Fin cfg0.N) (n : Fin 2048) : b5 m c t (ix2 0 n) = aLg m c (ix1 n) := by
  unfold b5 iblk
  entry_read
  have hy : (win0_5.blk t).view.emb (ix2 0 n) = ix2 0 n := by blk_ext [at5 t]
  show shapeCast S1x2048 (aLg m c) shapeCasts_S2048_S1x2048 ((win0_5.blk t).view.emb (ix2 0 n)) = _
  rw [hy]
  pointwise
theorem lb_blk (c : Dev nD) (t : Fin cfg0.N) (n : Fin 2048) : b6 m c t (ix2 0 n) = aLb m c (ix1 n) := by
  unfold b6 iblk
  entry_read
  have hy : (win0_6.blk t).view.emb (ix2 0 n) = ix2 0 n := by blk_ext [at6 t]
  show shapeCast S1x2048 (aLb m c) shapeCasts_S2048_S1x2048 ((win0_6.blk t).view.emb (ix2 0 n)) = _
  rw [hy]
  pointwise

/-- The residual's row `r` at channel `d`: the weighted stream plus the gated sum of the token's two experts. -/
def res (x a b : X) (rt : S18432x128.Idx → EReal) (g : G) (r : Fin 18432) (d : Fin 2048) : EReal :=
  OutTile.kA * x (ix2 r d) + g (ix3 (grp r) 0 d) * (a (ix2 r d) * rt (ix2 r 2) + b (ix2 r d) * rt (ix2 r 3))

/-- The result array at an index: the residual's row normalized. -/
def arr (x a b : X) (rt : S18432x128.Idx → EReal) (g : G) (lg lb : S2048.Idx → EReal) : S18432x2048.Idx → EReal :=
  fun y => OutTile.norm (res x a b rt g (y 0)) (lg (ix1 (y 1))) (lb (ix1 (y 1))) (y 1)

/-- THE RESULT ARRAY after the run. -/
theorem final (c : Dev nD) : (dats m 0 c).arrAt 7 cfg0.N = arr (aX m c) (aA m c) (aB m c) (aR m c) (aG m c) (aLg m c) (aLb m c) := by
  refine (dats m 0 c).arrAt_eq_of_covers 7 _ (by decide +kernel) fun t hf y => ?_
  have ht := tlt t
  obtain ⟨p, n, rfl⟩ : ∃ (p : Fin 256) (n : Fin 2048), y = ix2 p n := ⟨y 0, y 1, eq_ix2 y⟩
  blk_simp
  rw [after0_7, block, pay_eq]
  refine (nT_at _ _ _ p n).trans ?_
  have e0 : ((cfg0.win 7).blk t).view.emb (ix2 p n) 0 = tileRow t.val ht p := Fin.ext (by blk_simp [at7 t, tileRow])
  have e1 : ((cfg0.win 7).blk t).view.emb (ix2 p n) 1 = n := Fin.ext (by blk_simp [at7 t])
  unfold arr
  rw [e0, e1, lg_blk, lb_blk]
  refine congrArg (OutTile.norm · _ _ n) (funext fun d => ?_)
  rw [resT_at, x_blk m c t ht, a_blk m c t ht, b_blk m c t ht, r_blk m c t ht, r_blk m c t ht, g_blk m c t ht p]
  rfl

end CombArr

end
-- ==== Proof.CombRef.lean ====
/- The experts' gated sums, added to the stream and normalized: the reference's result array is the kernel's. -/
module

public import proofs.«01_k».proof.Proof.CombArr
public import proofs.«01_k».proof.Proof.OutRef
public import proofs.«01_k».proof.Proof.Gen.CombReferenceIdeal.Run

@[expose] public section

set_option maxRecDepth 16384

noncomputable section

namespace CombRef

open Idealize.ShloMosaic Idealize.ShloMosaic.TcCoe Cert.CombReferenceIdeal Cert.CombReferenceIdeal.Gen Cert.CombReferenceIdeal.Value Idealize.SL.Sem Proj
open CombArr

/-- The gated sums of the tokens' two experts. -/
def fR (a b : FVec Ideal S18432x2048 .bf16) (rt : FVec Ideal S18432x128 .f32) : FVec Ideal S18432x2048 .f32 :=
  addf (mulf (extf .f32 a bitsLt_bf16_f32) (broadcastInDim S18432x2048 ![0, 1] bcast_S18432x1_S18432x2048_0_1 (extractStridedSlice S18432x1 ![0, 0] (extractStridedSlice S18432x2 ![0, 2] rt slices_S18432x128_S18432x2_0_2) slices_S18432x2_S18432x1_0_0)))
    (mulf (extf .f32 b bitsLt_bf16_f32) (broadcastInDim S18432x2048 ![0, 1] bcast_S18432x1_S18432x2048_0_1 (extractStridedSlice S18432x1 ![0, 1] (extractStridedSlice S18432x2 ![0, 2] rt slices_S18432x128_S18432x2_0_2) slices_S18432x2_S18432x1_0_1)))

/-- The latent and the context rows of the residual: the weighted stream plus the gated sums. -/
def zL (x f : FVec Ideal S18432x2048 .f32) (g : FVec Ideal S9x1x2048 .f32) : FVec Ideal S8x2048x2048 .f32 :=
  addf (mulf (broadcastInDim S8x2048x2048 ![] bcast_S_S8x2048x2048 (constant S_ .f32 0x3FD744FD#32))
      (extractStridedSlice S8x2048x2048 ![0, 0, 0] (shapeCast S8x2304x2048 x shapeCasts_S18432x2048_S8x2304x2048) slices_S8x2304x2048_S8x2048x2048_0_0_0))
    (mulf (broadcastInDim S8x2048x2048 ![0, 1, 2] bcast_S8x1x2048_S8x2048x2048_0_1_2 (extractStridedSlice S8x1x2048 ![0, 0, 0] g slices_S9x1x2048_S8x1x2048_0_0_0))
      (extractStridedSlice S8x2048x2048 ![0, 0, 0] (shapeCast S8x2304x2048 f shapeCasts_S18432x2048_S8x2304x2048) slices_S8x2304x2048_S8x2048x2048_0_0_0))
def zC (x f : FVec Ideal S18432x2048 .f32) (g : FVec Ideal S9x1x2048 .f32) : FVec Ideal S8x256x2048 .f32 :=
  addf (mulf (broadcastInDim S8x256x2048 ![] bcast_S_S8x256x2048 (constant S_ .f32 0x3FD744FD#32))
      (extractStridedSlice S8x256x2048 ![0, 2048, 0] (shapeCast S8x2304x2048 x shapeCasts_S18432x2048_S8x2304x2048) slices_S8x2304x2048_S8x256x2048_0_2048_0))
    (mulf (broadcastInDim S8x256x2048 ![0, 1, 2] bcast_S1x1x2048_S8x256x2048_0_1_2 (broadcastInDim S1x1x2048 ![1, 2] bcast_S1x2048_S1x1x2048_1_2 (shapeCast S1x2048 (extractStridedSlice S1x1x2048 ![8, 0, 0] g slices_S9x1x2048_S1x1x2048_8_0_0) shapeCasts_S1x1x2048_S1x2048)))
      (extractStridedSlice S8x256x2048 ![0, 2048, 0] (shapeCast S8x2304x2048 f shapeCasts_S18432x2048_S8x2304x2048) slices_S8x2304x2048_S8x256x2048_0_2048_0))

theorem fR_at (a b : FVec Ideal S18432x2048 .bf16) (rt : FVec Ideal S18432x128 .f32) (r : Fin 18432) (d : Fin 2048) :
    fR a b rt (ix2 r d) = (a (ix2 r d) : EReal) * rt (ix2 r 2) + (b (ix2 r d) : EReal) * rt (ix2 r 3) := by
  pointwise [fR]
theorem zL_at (x f : FVec Ideal S18432x2048 .f32) (g : FVec Ideal S9x1x2048 .f32) (b : Fin 8) (ρ : Fin 2048) (d : Fin 2048) :
    zL x f g (ix3 b ρ d) = OutTile.kA * x (ix2 (latRow b ρ) d) + g (ix3 (grp (latRow b ρ)) 0 d) * f (ix2 (latRow b ρ) d) := by
  rw [grp_lat]
  pointwise [zL, latRow]
theorem zC_at (x f : FVec Ideal S18432x2048 .f32) (g : FVec Ideal S9x1x2048 .f32) (b : Fin 8) (ρ : Fin 256) (d : Fin 2048) :
    zC x f g (ix3 b ρ d) = OutTile.kA * x (ix2 (ctxRow b ρ) d) + g (ix3 (grp (ctxRow b ρ)) 0 d) * f (ix2 (ctxRow b ρ) d) := by
  rw [grp_ctx]
  pointwise [zC, ctxRow]

/-- The kernel's array is the reference's stages composed. -/
theorem arr_eq (x : FVec Ideal S18432x2048 .f32) (a b : FVec Ideal S18432x2048 .bf16) (rt : FVec Ideal S18432x128 .f32) (g : FVec Ideal S9x1x2048 .f32)
    (lg lb : FVec Ideal S2048 .f32) :
    arr x a b rt g lg lb = OutRef.whole (OutRef.normL (zL x (fR a b rt) g) lg lb) (OutRef.normC (zC x (fR a b rt) g) lg lb) := by
  funext y
  obtain ⟨r, n, rfl⟩ : ∃ (r : Fin 18432) (n : Fin 2048), y = ix2 r n := ⟨y 0, y 1, eq_ix2 y⟩
  rcases row_cases r with ⟨e, ρ, rfl⟩ | ⟨e, ρ, rfl⟩
  · rw [OutRef.whole_lat, OutRef.normL_at]
    refine congrArg (OutTile.norm · (lg (ix1 n)) (lb (ix1 n)) n) (funext fun d => ?_)
    rw [zL_at, fR_at]
    rfl
  · rw [OutRef.whole_ctx, OutRef.normC_at]
    refine congrArg (OutTile.norm · (lg (ix1 n)) (lb (ix1 n)) n) (funext fun d => ?_)
    rw [zC_at, fR_at]
    rfl

/-- The arguments of the reference's run from memory `m`. -/
abbrev rX (m : (ℓ : Loc nD τ sig) → Buf (Elt Ideal) ℓ) (c : Dev nD) : FVec Ideal S18432x2048 .f32 := m ((c : Thread nD τ).loc main_arg0)
abbrev rA (m : (ℓ : Loc nD τ sig) → Buf (Elt Ideal) ℓ) (c : Dev nD) : FVec Ideal S18432x2048 .bf16 := m ((c : Thread nD τ).loc main_arg1)
abbrev rB (m : (ℓ : Loc nD τ sig) → Buf (Elt Ideal) ℓ) (c : Dev nD) : FVec Ideal S18432x2048 .bf16 := m ((c : Thread nD τ).loc main_arg2)
abbrev rR (m : (ℓ : Loc nD τ sig) → Buf (Elt Ideal) ℓ) (c : Dev nD) : FVec Ideal S18432x128 .f32 := m ((c : Thread nD τ).loc main_arg3)
abbrev rG (m : (ℓ : Loc nD τ sig) → Buf (Elt Ideal) ℓ) (c : Dev nD) : FVec Ideal S9x1x2048 .f32 := m ((c : Thread nD τ).loc main_arg4)
abbrev rLg (m : (ℓ : Loc nD τ sig) → Buf (Elt Ideal) ℓ) (c : Dev nD) : FVec Ideal S2048 .f32 := m ((c : Thread nD τ).loc main_arg5)
abbrev rLb (m : (ℓ : Loc nD τ sig) → Buf (Elt Ideal) ℓ) (c : Dev nD) : FVec Ideal S2048 .f32 := m ((c : Thread nD τ).loc main_arg6)

/-- The reference's result is the stages' composition. -/
theorem result_eq (m : (ℓ : Loc nD τ sig) → Buf (Elt Ideal) ℓ) (c : Dev nD) :
    res_out0 (F := Ideal) m c = OutRef.whole
      (OutRef.normL (zL (rX m c) (fR (rA m c) (rB m c) (rR m c)) (rG m c)) (rLg m c) (rLb m c))
      (OutRef.normC (zC (rX m c) (fR (rA m c) (rB m c) (rR m c)) (rG m c)) (rLg m c) (rLb m c)) := rfl

end CombRef

end
-- ==== Proof.CombClaims.lean ====
/- The claims about the experts' gated sums, each closed from the modules before it. -/
module

public import proofs.«01_k».proof.Defs
public import proofs.«01_k».proof.Proof.Gen.Comb.Frame
public import proofs.«01_k».proof.Proof.Gen.CombIdeal.Frame
public import proofs.«01_k».proof.Proof.Gen.CombIdeal.Value
public import proofs.«01_k».proof.Proof.Gen.CombReferenceIdeal.Run
public import proofs.«01_k».proof.Proof.CombRef
public import Idealize.ShloMosaic.Adequacy
public import Idealize.ShloMosaic.Init
public import Idealize.ShloMosaic.Lib.Quiescent

@[expose] public section

noncomputable section

namespace CombClaims

open Idealize.ShloMosaic Idealize.SL.Sem

/-- The kernel, at machine floats and ideally, and the reference run to their ends and leave their arguments alone. -/
theorem frameKernel : Cert.quiescent_Comb (hComb := Cert.Comb.Gen.facts) := fun m ρ _ => Cert.Comb.Gen.frame m ρ
theorem frameIdeal : Cert.quiescent_CombIdeal (hCombIdeal := Cert.CombIdeal.Gen.facts) := fun m ρ _ => Cert.CombIdeal.Gen.frame m ρ
theorem frameReference : Cert.quiescent_CombReferenceIdeal (hCombReferenceIdeal := Cert.CombReferenceIdeal.Gen.facts) := fun m ρ _ =>
  (θ_run Cert.CombReferenceIdeal.defs _ _).mono (fun r h => ⟨fun c => (h c).2, Idealize.ShloMosaic.sem_eq_zero_of_no_sems (by decide) r.2⟩)
    (Cert.CombReferenceIdeal.Value.run (F := Ideal) m ρ)

/-- The idealized kernel rewrites nothing. -/
theorem preserves : Cert.preserves_Comb_CombIdeal := trivial

/-- The kernel and the reference leave the same array. -/
theorem algebraic : Cert.algebraic_CombIdeal_CombReferenceIdeal (hCombIdeal := Cert.CombIdeal.Gen.facts)
    (hCombReferenceIdeal := Cert.CombReferenceIdeal.Gen.facts) := by
  intro m ρ m' ρ' _ hagree
  refine ⟨fun c => CombArr.arr (CombArr.aX m c) (CombArr.aA m c) (CombArr.aB m c) (CombArr.aR m c) (CombArr.aG m c) (CombArr.aLg m c) (CombArr.aLb m c), ?_, ?_⟩
  · exact (θ_run _ _ _).mono (fun _ h c => ⟨(h c).1.trans (CombArr.final m c), (h c).2⟩) (Cert.CombIdeal.Value.run_blocks (F := Ideal) m ρ)
  · refine (θ_run _ _ _).mono (fun _ h c => ⟨(h c).1.trans ((CombRef.result_eq m' c).trans ?_), (h c).2⟩) (Cert.CombReferenceIdeal.Value.run (F := Ideal) m' ρ')
    have hX : CombRef.rX m' c = CombArr.aX m c := (hagree c).1
    have hA : CombRef.rA m' c = CombArr.aA m c := (hagree c).2.1
    have hB : CombRef.rB m' c = CombArr.aB m c := (hagree c).2.2.1
    have hR : CombRef.rR m' c = CombArr.aR m c := (hagree c).2.2.2.1
    have hG : CombRef.rG m' c = CombArr.aG m c := (hagree c).2.2.2.2.1
    have hLg : CombRef.rLg m' c = CombArr.aLg m c := (hagree c).2.2.2.2.2.1
    have hLb : CombRef.rLb m' c = CombArr.aLb m c := (hagree c).2.2.2.2.2.2
    rw [hX, hA, hB, hR, hG, hLg, hLb]
    exact (CombRef.arr_eq _ _ _ _ _ _ _).symm

end CombClaims

end
-- ==== Proof.lean ====
module

public import proofs.«01_k».proof.Proof.DiffClaims
public import proofs.«01_k».proof.Proof.QkvClaims
public import proofs.«01_k».proof.Proof.ValClaims
public import proofs.«01_k».proof.Proof.GluClaims
public import proofs.«01_k».proof.Proof.QkClaims
public import proofs.«01_k».proof.Proof.QkWClaims
public import proofs.«01_k».proof.Proof.ValWClaims
public import proofs.«01_k».proof.Proof.OutClaims
public import proofs.«01_k».proof.Proof.ModClaims
public import proofs.«01_k».proof.Proof.CombClaims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Qkv.Gen.facts, Cert.QkvIdeal.Gen.facts, Cert.QkvReferenceIdeal.Gen.facts,
    Cert.Val.Gen.facts, Cert.ValIdeal.Gen.facts, Cert.ValReferenceIdeal.Gen.facts,
    Cert.Glu.Gen.facts, Cert.GluIdeal.Gen.facts, Cert.GluReferenceIdeal.Gen.facts,
    Cert.Qk.Gen.facts, Cert.QkIdeal.Gen.facts, Cert.QkReferenceIdeal.Gen.facts,
    Cert.QkW.Gen.facts, Cert.QkWIdeal.Gen.facts, Cert.QkWReferenceIdeal.Gen.facts,
    Cert.ValW.Gen.facts, Cert.ValWIdeal.Gen.facts, Cert.ValWReferenceIdeal.Gen.facts,
    Cert.Out.Gen.facts, Cert.OutIdeal.Gen.facts, Cert.OutReferenceIdeal.Gen.facts,
    Cert.Mod.Gen.facts, Cert.ModIdeal.Gen.facts, Cert.ModReferenceIdeal.Gen.facts,
    Cert.Comb.Gen.facts, Cert.CombIdeal.Gen.facts, Cert.CombReferenceIdeal.Gen.facts,
    DiffClaims.preFacts,
    DiffClaims.frameKernel, DiffClaims.frameIdeal, DiffClaims.frameIdealPre, DiffClaims.frameReference, DiffClaims.frameReferencePre,
    QkvClaims.frameKernel, QkvClaims.frameIdeal, QkvClaims.frameReference,
    ValClaims.frameKernel, ValClaims.frameIdeal, ValClaims.frameReference,
    GluClaims.frameKernel, GluClaims.frameIdeal, GluClaims.frameReference,
    QkClaims.frameKernel, QkClaims.frameIdeal, QkClaims.frameReference,
    QkWClaims.frameKernel, QkWClaims.frameIdeal, QkWClaims.frameReference,
    ValWClaims.frameKernel, ValWClaims.frameIdeal, ValWClaims.frameReference,
    OutClaims.frameKernel, OutClaims.frameIdeal, OutClaims.frameReference,
    ModClaims.frameKernel, ModClaims.frameIdeal, ModClaims.frameReference,
    CombClaims.frameKernel, CombClaims.frameIdeal, CombClaims.frameReference,
    DiffClaims.preserves, DiffClaims.algebraic,
    QkvClaims.preserves, QkvClaims.algebraic,
    ValClaims.preserves, ValClaims.algebraic,
    GluClaims.preserves, GluClaims.algebraic,
    QkClaims.preserves, QkClaims.algebraic,
    QkWClaims.preserves, QkWClaims.algebraic,
    ValWClaims.preserves, ValWClaims.algebraic,
    OutClaims.preserves, OutClaims.algebraic,
    ModClaims.preserves, ModClaims.algebraic,
    CombClaims.preserves, CombClaims.algebraic⟩

end Cert.Proof

end
